-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
-- ==== Pre_finite.lean ====
abbrev S4x8192x1024 : Shape := ⟨3, ![4, 8192, 1024]⟩
abbrev S2x1024 : Shape := ⟨2, ![2, 1024]⟩
abbrev S1x1024x6144 : Shape := ⟨3, ![1, 1024, 6144]⟩
abbrev S1x4x256x256 : Shape := ⟨4, ![1, 4, 256, 256]⟩
abbrev S1x1024 : Shape := ⟨2, ![1, 1024]⟩
abbrev S1x3x1024 : Shape := ⟨3, ![1, 3, 1024]⟩
abbrev S1x2048x1024 : Shape := ⟨3, ![1, 2048, 1024]⟩
abbrev S_ : Shape := ⟨0, ![]⟩
abbrev S1x1024x1024 : Shape := ⟨3, ![1, 1024, 1024]⟩

class Facts : Prop where
  bcast_S_S4x8192x1024 : S_.BroadcastsInDim S4x8192x1024 (![] : Fin 0 → Fin S4x8192x1024.rank)
  slices_S2x1024_S1x1024_0_0 : S2x1024.Slices ![0, 0] S1x1024
  bcast_S_S1x1024 : S_.BroadcastsInDim S1x1024 (![] : Fin 0 → Fin S1x1024.rank)
  slices_S1x1024x6144_S1x1024x1024_0_0_0 : S1x1024x6144.Slices ![0, 0, 0] S1x1024x1024
  bcast_S_S1x1024x1024 : S_.BroadcastsInDim S1x1024x1024 (![] : Fin 0 → Fin S1x1024x1024.rank)

variable [Facts]

def fn {F : FTy → Type} [FloatOps F] (main_arg0 : FVec F S4x8192x1024 .f32) (main_arg1 : FVec F S2x1024 .f32) (main_arg2 : FVec F S1x1024x6144 .f32) (main_arg3 : FVec F S1x4x256x256 .f32) (main_arg4 : FVec F S1x1024 .f32) (main_arg5 : FVec F S1x3x1024 .f32) (main_arg6 : FVec F S1x2048x1024 .f32) : IVec S4x8192x1024 1 × IVec S1x1024 1 × IVec S1x1024x1024 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_v3 : FVec F S1x1024 .f32 := (extractStridedSlice S1x1024 ![0, 0] · slices_S2x1024_S1x1024_0_0) main_arg1
  let main_v4 : FVec F S1x1024 .f32 := Host.absf main_v3
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_v7 : FVec F S1x1024x1024 .f32 := (extractStridedSlice S1x1024x1024 ![0, 0, 0] · slices_S1x1024x6144_S1x1024x1024_0_0_0) main_arg2
  let main_v8 : FVec F S1x1024x1024 .f32 := Host.absf main_v7
  let main_cst_1 : FVec F S_ .f32 := constant S_ .f32 0x7F800000#32
  let main_v9 : FVec F S1x1024x1024 .f32 := broadcastInDim S1x1024x1024 ![] bcast_S_S1x1024x1024 main_cst_1
  let main_v10 : IVec S1x1024x1024 1 := cmpf .olt main_v8 main_v9
  (main_v2, main_v6, main_v10)
-- ==== Kernel.lean ====
abbrev S4x8192x1024 : Shape := ⟨3, ![4, 8192, 1024]⟩
abbrev S2x1024 : Shape := ⟨2, ![2, 1024]⟩
abbrev S1x1024x6144 : Shape := ⟨3, ![1, 1024, 6144]⟩
abbrev S1x4x256x256 : Shape := ⟨4, ![1, 4, 256, 256]⟩
abbrev S1x1024 : Shape := ⟨2, ![1, 1024]⟩
abbrev S1x3x1024 : Shape := ⟨3, ![1, 3, 1024]⟩
abbrev S1x2048x1024 : Shape := ⟨3, ![1, 2048, 1024]⟩
abbrev S1024x6144 : Shape := ⟨2, ![1024, 6144]⟩
abbrev S4x256x256 : Shape := ⟨3, ![4, 256, 256]⟩
abbrev S1024 : Shape := ⟨1, ![1024]⟩
abbrev S2048x1024 : Shape := ⟨2, ![2048, 1024]⟩
abbrev S1024x256 : Shape := ⟨2, ![1024, 256]⟩
abbrev S1x1024x1024 : Shape := ⟨3, ![1, 1024, 1024]⟩
abbrev S8x1056x128 : Shape := ⟨3, ![8, 1056, 128]⟩
abbrev S24x280x128 : Shape := ⟨3, ![24, 280, 128]⟩
abbrev S16x272x128 : Shape := ⟨3, ![16, 272, 128]⟩
abbrev S8x1032x128 : Shape := ⟨3, ![8, 1032, 128]⟩
abbrev S1024x6272 : Shape := ⟨2, ![1024, 6272]⟩
abbrev S2048x1152 : Shape := ⟨2, ![2048, 1152]⟩
abbrev S4x32x6144 : Shape := ⟨3, ![4, 32, 6144]⟩
abbrev S1x1024x256 : Shape := ⟨3, ![1, 1024, 256]⟩
abbrev S4x256x1024 : Shape := ⟨3, ![4, 256, 1024]⟩
abbrev S4 : Shape := ⟨1, ![4]⟩
abbrev S1 : Shape := ⟨1, ![1]⟩
abbrev S_ : Shape := ⟨0, ![]⟩
abbrev S1x32x6144 : Shape := ⟨3, ![1, 32, 6144]⟩
abbrev S32x6144 : Shape := ⟨2, ![32, 6144]⟩
abbrev S1x256x1024 : Shape := ⟨3, ![1, 256, 1024]⟩
abbrev S256x1024 : Shape := ⟨2, ![256, 1024]⟩
abbrev S8x32x128 : Shape := ⟨3, ![8, 32, 128]⟩
abbrev S8x8x128 : Shape := ⟨3, ![8, 8, 128]⟩
abbrev S256 : Shape := ⟨1, ![256]⟩
abbrev S256x1 : Shape := ⟨2, ![256, 1]⟩
abbrev S1024x1024 : Shape := ⟨2, ![1024, 1024]⟩
abbrev S256x128 : Shape := ⟨2, ![256, 128]⟩
abbrev S1x256x128 : Shape := ⟨3, ![1, 256, 128]⟩
abbrev S1x280x128 : Shape := ⟨3, ![1, 280, 128]⟩
abbrev S280x128 : Shape := ⟨2, ![280, 128]⟩
abbrev S256x256 : Shape := ⟨2, ![256, 256]⟩
abbrev S272x128 : Shape := ⟨2, ![272, 128]⟩
abbrev S1x272x128 : Shape := ⟨3, ![1, 272, 128]⟩
abbrev S264x128 : Shape := ⟨2, ![264, 128]⟩
abbrev S1x264x128 : Shape := ⟨3, ![1, 264, 128]⟩
abbrev S3x1024 : Shape := ⟨2, ![3, 1024]⟩
abbrev S1x128 : Shape := ⟨2, ![1, 128]⟩

abbrev nBuf : Space → Nat
  | .hbm => 14
  | .vmem => 17
  | .smem => 0
  | _ => 0

abbrev bufTy : (tb : Table) → Fin (tcTables nBuf tb) → BufTy
  | .hbm, ⟨0, _⟩ => ⟨S4x8192x1024, .f32⟩
  | .hbm, ⟨1, _⟩ => ⟨S2x1024, .f32⟩
  | .hbm, ⟨2, _⟩ => ⟨S1x1024x6144, .f32⟩
  | .hbm, ⟨3, _⟩ => ⟨S1x4x256x256, .f32⟩
  | .hbm, ⟨4, _⟩ => ⟨S1x1024, .f32⟩
  | .hbm, ⟨5, _⟩ => ⟨S1x3x1024, .f32⟩
  | .hbm, ⟨6, _⟩ => ⟨S1x2048x1024, .f32⟩
  | .hbm, ⟨7, _⟩ => ⟨S1024x6144, .f32⟩
  | .hbm, ⟨8, _⟩ => ⟨S4x256x256, .f32⟩
  | .hbm, ⟨9, _⟩ => ⟨S1024, .f32⟩
  | .hbm, ⟨10, _⟩ => ⟨S2048x1024, .f32⟩
  | .hbm, ⟨11, _⟩ => ⟨S1024x256, .f32⟩
  | .hbm, ⟨12, _⟩ => ⟨S1x1024, .f32⟩
  | .hbm, ⟨13, _⟩ => ⟨S4x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S2x1024, .f32⟩
  | .local _ .vmem, ⟨3, _⟩ => ⟨S1x1024, .f32⟩
  | .local _ .vmem, ⟨4, _⟩ => ⟨S1x3x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S8x1056x128, .f32⟩
  | .local _ .vmem, ⟨8, _⟩ => ⟨S24x280x128, .f32⟩
  | .local _ .vmem, ⟨9, _⟩ => ⟨S16x272x128, .f32⟩
  | .local _ .vmem, ⟨10, _⟩ => ⟨S8x1032x128, .f32⟩
  | .local _ .vmem, ⟨11, _⟩ => ⟨S1024x6272, .bf16⟩
  | .local _ .vmem, ⟨12, _⟩ => ⟨S1024x256, .bf16⟩
  | .local _ .vmem, ⟨13, _⟩ => ⟨S2048x1152, .bf16⟩
  | .local _ .vmem, ⟨14, _⟩ => ⟨S4x32x6144, .f32⟩
  | .local _ .vmem, ⟨15, _⟩ => ⟨S1x1024x256, .f32⟩
  | .local _ .vmem, ⟨16, _⟩ => ⟨S4x256x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_scratch6 : Ref sig .tc := ⟨.vmem, 13, rfl⟩
abbrev cc0_scratch7 : Ref sig .tc := ⟨.vmem, 14, rfl⟩
abbrev cc0_scratch8 : Ref sig .tc := ⟨.vmem, 15, rfl⟩
abbrev cc0_scratch9 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S4x8192x1024 : Shape := ⟨3, ![4, 8192, 1024]⟩
abbrev S2x1024 : Shape := ⟨2, ![2, 1024]⟩
abbrev S1x1024x6144 : Shape := ⟨3, ![1, 1024, 6144]⟩
abbrev S1x4x256x256 : Shape := ⟨4, ![1, 4, 256, 256]⟩
abbrev S1x1024 : Shape := ⟨2, ![1, 1024]⟩
abbrev S1x3x1024 : Shape := ⟨3, ![1, 3, 1024]⟩
abbrev S1x2048x1024 : Shape := ⟨3, ![1, 2048, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x6144 : Shape := ⟨2, ![1024, 6144]⟩
abbrev S4x256x256 : Shape := ⟨3, ![4, 256, 256]⟩
abbrev S3x1024 : Shape := ⟨2, ![3, 1024]⟩
abbrev S2048x1024 : Shape := ⟨2, ![2048, 1024]⟩
abbrev S4x8192x6144 : Shape := ⟨3, ![4, 8192, 6144]⟩
abbrev S4x8192x2048 : Shape := ⟨3, ![4, 8192, 2048]⟩
abbrev S4x8192x4x256 : Shape := ⟨4, ![4, 8192, 4, 256]⟩
abbrev S8192 : Shape := ⟨1, ![8192]⟩
abbrev S4x8192x1x256 : Shape := ⟨4, ![4, 8192, 1, 256]⟩
abbrev S4x8192x256 : Shape := ⟨3, ![4, 8192, 256]⟩
abbrev S4x8194x256 : Shape := ⟨3, ![4, 8194, 256]⟩
abbrev S1x8192x1 : Shape := ⟨3, ![1, 8192, 1]⟩
abbrev S4x8196x256 : Shape := ⟨3, ![4, 8196, 256]⟩
abbrev S4x8200x256 : Shape := ⟨3, ![4, 8200, 256]⟩
abbrev S4x8208x256 : Shape := ⟨3, ![4, 8208, 256]⟩
abbrev S4x256x4x8192 : Shape := ⟨4, ![4, 256, 4, 8192]⟩
abbrev S4x8193x1024 : Shape := ⟨3, ![4, 8193, 1024]⟩
abbrev S4x8194x1024 : Shape := ⟨3, ![4, 8194, 1024]⟩

abbrev nBuf : Space → Nat
  | .hbm => 172
  | .vmem => 0
  | .smem => 0
  | _ => 0

abbrev hbmTy0_0 (i : Nat) : BufTy := match i % 128 with
  | 0 => ⟨S4x8192x1024, .f32⟩
  | 1 => ⟨S2x1024, .f32⟩
  | 2 => ⟨S1x1024x6144, .f32⟩
  | 3 => ⟨S1x4x256x256, .f32⟩
  | 4 => ⟨S1x1024, .f32⟩
  | 5 => ⟨S1x3x1024, .f32⟩
  | 6 => ⟨S1x2048x1024, .f32⟩
  | 7 => ⟨S1x1024, .f32⟩
  | 8 => ⟨S1024, .f32⟩
  | 9 => ⟨S4x8192x1024, .f32⟩
  | 10 => ⟨S_, .f32⟩
  | 11 => ⟨S4x8192, .f32⟩
  | 12 => ⟨S4x8192x1, .f32⟩
  | 13 => ⟨S_, .f32⟩
  | 14 => ⟨S4x8192x1, .f32⟩
  | 15 => ⟨S4x8192x1, .f32⟩
  | 16 => ⟨S_, .f32⟩
  | 17 => ⟨S4x8192x1, .f32⟩
  | 18 => ⟨S4x8192x1, .f32⟩
  | 19 => ⟨S4x8192x1, .f32⟩
  | 20 => ⟨S4x8192x1024, .f32⟩
  | 21 => ⟨S4x8192x1024, .f32⟩
  | 22 => ⟨S1x1x1024, .f32⟩
  | 23 => ⟨S4x8192x1024, .f32⟩
  | 24 => ⟨S4x8192x1024, .f32⟩
  | 25 => ⟨S1024x6144, .f32⟩
  | 26 => ⟨S4x256x256, .f32⟩
  | 27 => ⟨S1024, .f32⟩
  | 28 => ⟨S3x1024, .f32⟩
  | 29 => ⟨S2048x1024, .f32⟩
  | 30 => ⟨S4x8192x6144, .f32⟩
  | 31 => ⟨S4x8192x1024, .f32⟩
  | 32 => ⟨S4x8192x1024, .f32⟩
  | 33 => ⟨S4x8192x1024, .f32⟩
  | 34 => ⟨S4x8192x1024, .f32⟩
  | 35 => ⟨S4x8192x2048, .f32⟩
  | 36 => ⟨S4x8192x4x256, .f32⟩
  | 37 => ⟨S_, .f32⟩
  | 38 => ⟨S_, .f32⟩
  | 39 => ⟨S4x8192x4x256, .f32⟩
  | 40 => ⟨S8192, .i32⟩
  | 41 => ⟨S4x8192x1x256, .f32⟩
  | 42 => ⟨S4x8192x256, .f32⟩
  | 43 => ⟨S_, .i32⟩
  | 44 => ⟨S_, .f32⟩
  | 45 => ⟨S4x8194x256, .f32⟩
  | 46 => ⟨S4x8192x256, .f32⟩
  | 47 => ⟨S4x8192x256, .f32⟩
  | 48 => ⟨S_, .i32⟩
  | 49 => ⟨S8192, .i32⟩
  | 50 => ⟨S8192, .i32⟩
  | 51 => ⟨S_, .i32⟩
  | 52 => ⟨S8192, .i32⟩
  | 53 => ⟨S8192, .i32⟩
  | 54 => ⟨S8192, .f32⟩
  | 55 => ⟨S1x8192x1, .f32⟩
  | 56 => ⟨S4x8192x256, .f32⟩
  | 57 => ⟨S4x8192x256, .f32⟩
  | 58 => ⟨S4x8192x1x256, .f32⟩
  | 59 => ⟨S4x8192x256, .f32⟩
  | 60 => ⟨S4x8192x256, .f32⟩
  | 61 => ⟨S4x8192x1x256, .f32⟩
  | 62 => ⟨S4x8192x256, .f32⟩
  | 63 => ⟨S_, .i32⟩
  | 64 => ⟨S_, .f32⟩
  | 65 => ⟨S4x8196x256, .f32⟩
  | 66 => ⟨S4x8192x256, .f32⟩
  | 67 => ⟨S4x8192x256, .f32⟩
  | 68 => ⟨S_, .i32⟩
  | 69 => ⟨S8192, .i32⟩
  | 70 => ⟨S8192, .i32⟩
  | 71 => ⟨S_, .i32⟩
  | 72 => ⟨S8192, .i32⟩
  | 73 => ⟨S8192, .i32⟩
  | 74 => ⟨S8192, .f32⟩
  | 75 => ⟨S1x8192x1, .f32⟩
  | 76 => ⟨S4x8192x256, .f32⟩
  | 77 => ⟨S4x8192x256, .f32⟩
  | 78 => ⟨S4x8192x1x256, .f32⟩
  | 79 => ⟨S4x8192x256, .f32⟩
  | 80 => ⟨S4x8192x256, .f32⟩
  | 81 => ⟨S4x8192x1x256, .f32⟩
  | 82 => ⟨S4x8192x256, .f32⟩
  | 83 => ⟨S_, .i32⟩
  | 84 => ⟨S_, .f32⟩
  | 85 => ⟨S4x8200x256, .f32⟩
  | 86 => ⟨S4x8192x256, .f32⟩
  | 87 => ⟨S4x8192x256, .f32⟩
  | 88 => ⟨S_, .i32⟩
  | 89 => ⟨S8192, .i32⟩
  | 90 => ⟨S8192, .i32⟩
  | 91 => ⟨S_, .i32⟩
  | 92 => ⟨S8192, .i32⟩
  | 93 => ⟨S8192, .i32⟩
  | 94 => ⟨S8192, .f32⟩
  | 95 => ⟨S1x8192x1, .f32⟩
  | 96 => ⟨S4x8192x256, .f32⟩
  | 97 => ⟨S4x8192x256, .f32⟩
  | 98 => ⟨S4x8192x1x256, .f32⟩
  | 99 => ⟨S4x8192x256, .f32⟩
  | 100 => ⟨S4x8192x256, .f32⟩
  | 101 => ⟨S4x8192x1x256, .f32⟩
  | 102 => ⟨S4x8192x256, .f32⟩
  | 103 => ⟨S_, .i32⟩
  | 104 => ⟨S_, .f32⟩
  | 105 => ⟨S4x8208x256, .f32⟩
  | 106 => ⟨S4x8192x256, .f32⟩
  | 107 => ⟨S4x8192x256, .f32⟩
  | 108 => ⟨S_, .i32⟩
  | 109 => ⟨S8192, .i32⟩
  | 110 => ⟨S8192, .i32⟩
  | 111 => ⟨S_, .i32⟩
  | 112 => ⟨S8192, .i32⟩
  | 113 => ⟨S8192, .i32⟩
  | 114 => ⟨S8192, .f32⟩
  | 115 => ⟨S1x8192x1, .f32⟩
  | 116 => ⟨S4x8192x256, .f32⟩
  | 117 => ⟨S4x8192x256, .f32⟩
  | 118 => ⟨S4x8192x1x256, .f32⟩
  | 119 => ⟨S4x8192x256, .f32⟩
  | 120 => ⟨S4x8192x256, .f32⟩
  | 121 => ⟨S4x8192x1x256, .f32⟩
  | 122 => ⟨S4x8192x1x256, .f32⟩
  | 123 => ⟨S4x8192x1x256, .f32⟩
  | 124 => ⟨S4x8192x1x256, .f32⟩
  | 125 => ⟨S4x8192x4x256, .f32⟩
  | 126 => ⟨S4x256x4x8192, .f32⟩
  | 127 => ⟨S4x8192x4x256, .f32⟩
  | _ => ⟨S4x8192x1024, .f32⟩

abbrev hbmTy0_1 (i : Nat) : BufTy := match i % 128 with
  | 0 => ⟨S4x8192x1024, .f32⟩
  | 1 => ⟨S1x1x1024, .f32⟩
  | 2 => ⟨S4x8192x1024, .f32⟩
  | 3 => ⟨S4x8192x1024, .f32⟩
  | 4 => ⟨S4x8192x1024, .f32⟩
  | 5 => ⟨S1x1024, .f32⟩
  | 6 => ⟨S1024, .f32⟩
  | 7 => ⟨S1x1x1024, .f32⟩
  | 8 => ⟨S4x8192x1024, .f32⟩
  | 9 => ⟨S4x8192x1024, .f32⟩
  | 10 => ⟨S1x1024, .f32⟩
  | 11 => ⟨S1024, .f32⟩
  | 12 => ⟨S_, .i32⟩
  | 13 => ⟨S_, .f32⟩
  | 14 => ⟨S4x8193x1024, .f32⟩
  | 15 => ⟨S4x8192x1024, .f32⟩
  | 16 => ⟨S1x1x1024, .f32⟩
  | 17 => ⟨S4x8192x1024, .f32⟩
  | 18 => ⟨S4x8192x1024, .f32⟩
  | 19 => ⟨S4x8192x1024, .f32⟩
  | 20 => ⟨S1x1024, .f32⟩
  | 21 => ⟨S1024, .f32⟩
  | 22 => ⟨S_, .i32⟩
  | 23 => ⟨S_, .f32⟩
  | 24 => ⟨S4x8194x1024, .f32⟩
  | 25 => ⟨S4x8192x1024, .f32⟩
  | 26 => ⟨S1x1x1024, .f32⟩
  | 27 => ⟨S4x8192x1024, .f32⟩
  | 28 => ⟨S4x8192x1024, .f32⟩
  | 29 => ⟨S4x8192x1024, .f32⟩
  | 30 => ⟨S4x8192x1024, .f32⟩
  | 31 => ⟨S4x8192x2048, .f32⟩
  | 32 => ⟨S4x8192x2048, .f32⟩
  | 33 => ⟨S4x8192x2048, .f32⟩
  | 34 => ⟨S_, .f32⟩
  | 35 => ⟨S4x8192x2048, .f32⟩
  | 36 => ⟨S4x8192x2048, .f32⟩
  | 37 => ⟨S_, .f32⟩
  | 38 => ⟨S4x8192x2048, .f32⟩
  | 39 => ⟨S4x8192x2048, .f32⟩
  | 40 => ⟨S4x8192x2048, .f32⟩
  | 41 => ⟨S4x8192x2048, .f32⟩
  | 42 => ⟨S4x8192x1024, .f32⟩
  | 43 => ⟨S4x8192x1024, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_call0_call0_cst : Ref sig .tc := ⟨.hbm, 37, rfl⟩
abbrev main_call0_call0_v0 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c : Ref sig .tc := ⟨.hbm, 43, rfl⟩
abbrev main_call1_v0 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_2 : Ref sig .tc := ⟨.hbm, 48, rfl⟩
abbrev main_v34 : Ref sig .tc := ⟨.hbm, 49, rfl⟩
abbrev main_v35 : Ref sig .tc := ⟨.hbm, 50, rfl⟩
abbrev main_c_3 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_c_4 : Ref sig .tc := ⟨.hbm, 63, rfl⟩
abbrev main_call2_v0 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_c_5 : Ref sig .tc := ⟨.hbm, 68, rfl⟩
abbrev main_v50 : Ref sig .tc := ⟨.hbm, 69, rfl⟩
abbrev main_v51 : Ref sig .tc := ⟨.hbm, 70, rfl⟩
abbrev main_c_6 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_c_7 : Ref sig .tc := ⟨.hbm, 83, rfl⟩
abbrev main_call3_v0 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_c_8 : Ref sig .tc := ⟨.hbm, 88, rfl⟩
abbrev main_v66 : Ref sig .tc := ⟨.hbm, 89, rfl⟩
abbrev main_v67 : Ref sig .tc := ⟨.hbm, 90, rfl⟩
abbrev main_c_9 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_c_10 : Ref sig .tc := ⟨.hbm, 103, rfl⟩
abbrev main_call4_v0 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_c_11 : Ref sig .tc := ⟨.hbm, 108, rfl⟩
abbrev main_v82 : Ref sig .tc := ⟨.hbm, 109, rfl⟩
abbrev main_v83 : Ref sig .tc := ⟨.hbm, 110, rfl⟩
abbrev main_c_12 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_c_13 : Ref sig .tc := ⟨.hbm, 140, rfl⟩
abbrev main_call5_v0 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_c_14 : Ref sig .tc := ⟨.hbm, 150, rfl⟩
abbrev main_call6_v0 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_call7_v0 : Ref sig .tc := ⟨.hbm, 160, rfl⟩
abbrev main_call7_v1 : Ref sig .tc := ⟨.hbm, 161, rfl⟩
abbrev main_call7_cst : Ref sig .tc := ⟨.hbm, 162, rfl⟩
abbrev main_call7_v2 : Ref sig .tc := ⟨.hbm, 163, rfl⟩
abbrev main_call7_v3 : Ref sig .tc := ⟨.hbm, 164, rfl⟩
abbrev main_call7_cst_0 : Ref sig .tc := ⟨.hbm, 165, rfl⟩
abbrev main_call7_v4 : Ref sig .tc := ⟨.hbm, 166, rfl⟩
abbrev main_call7_v5 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩

abbrev nD : Nat := 1
abbrev τ : Topo := Topo.v7x

variable {F : FTy → Type} [FloatOps F]
-- ==== Kernel2.lean ====
abbrev S4x8192x1024 : Shape := ⟨3, ![4, 8192, 1024]⟩
abbrev S4x8192 : Shape := ⟨2, ![4, 8192]⟩
abbrev S2x1024 : Shape := ⟨2, ![2, 1024]⟩
abbrev S1x1024x2304 : Shape := ⟨3, ![1, 1024, 2304]⟩
abbrev S1x2304 : Shape := ⟨2, ![1, 2304]⟩
abbrev S1x16 : Shape := ⟨2, ![1, 16]⟩
abbrev S1x1024x1024 : Shape := ⟨3, ![1, 1024, 1024]⟩
abbrev S1x1024 : Shape := ⟨2, ![1, 1024]⟩
abbrev S1024 : Shape := ⟨1, ![1024]⟩
abbrev S1024x2304 : Shape := ⟨2, ![1024, 2304]⟩
abbrev S2304 : Shape := ⟨1, ![2304]⟩
abbrev S16 : Shape := ⟨1, ![16]⟩
abbrev S1024x1024 : Shape := ⟨2, ![1024, 1024]⟩
abbrev S4x1024 : Shape := ⟨2, ![4, 1024]⟩
abbrev S1152x128 : Shape := ⟨2, ![1152, 128]⟩
abbrev S128x1152 : Shape := ⟨2, ![128, 1152]⟩
abbrev S1280x128 : Shape := ⟨2, ![1280, 128]⟩
abbrev S1280x1152 : Shape := ⟨2, ![1280, 1152]⟩
abbrev S1024x1152 : Shape := ⟨2, ![1024, 1152]⟩
abbrev S4x128x1280 : Shape := ⟨3, ![4, 128, 1280]⟩
abbrev S4x256x1024 : Shape := ⟨3, ![4, 256, 1024]⟩
abbrev S4 : Shape := ⟨1, ![4]⟩
abbrev S1x128 : Shape := ⟨2, ![1, 128]⟩
abbrev S128x128 : Shape := ⟨2, ![128, 128]⟩
abbrev S1 : Shape := ⟨1, ![1]⟩
abbrev S_ : Shape := ⟨0, ![]⟩
abbrev S1x128x1280 : Shape := ⟨3, ![1, 128, 1280]⟩
abbrev S128x1280 : Shape := ⟨2, ![128, 1280]⟩
abbrev S1x128x128 : Shape := ⟨3, ![1, 128, 128]⟩
abbrev S1x256x1024 : Shape := ⟨3, ![1, 256, 1024]⟩
abbrev S256x1024 : Shape := ⟨2, ![256, 1024]⟩
abbrev S256x128 : Shape := ⟨2, ![256, 128]⟩
abbrev S16x256 : Shape := ⟨2, ![16, 256]⟩
abbrev S64x128 : Shape := ⟨2, ![64, 128]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S1280x1024 : Shape := ⟨2, ![1280, 1024]⟩
abbrev S1280x512 : Shape := ⟨2, ![1280, 512]⟩
abbrev S1x512 : Shape := ⟨2, ![1, 512]⟩
abbrev S8x512 : Shape := ⟨2, ![8, 512]⟩
abbrev S64x512 : Shape := ⟨2, ![64, 512]⟩
abbrev S48x512 : Shape := ⟨2, ![48, 512]⟩
abbrev S1024x512 : Shape := ⟨2, ![1024, 512]⟩
abbrev S128x512 : Shape := ⟨2, ![128, 512]⟩
abbrev S1024x256 : Shape := ⟨2, ![1024, 256]⟩
abbrev S512x256 : Shape := ⟨2, ![512, 256]⟩
abbrev S1x256 : Shape := ⟨2, ![1, 256]⟩
abbrev S256x256 : Shape := ⟨2, ![256, 256]⟩
abbrev S128 : Shape := ⟨1, ![128]⟩
abbrev S64x256 : Shape := ⟨2, ![64, 256]⟩
abbrev S80x256 : Shape := ⟨2, ![80, 256]⟩
abbrev S80x1024 : Shape := ⟨2, ![80, 1024]⟩
abbrev S8x1024 : Shape := ⟨2, ![8, 1024]⟩
abbrev S64x1024 : Shape := ⟨2, ![64, 1024]⟩
abbrev S512x128 : Shape := ⟨2, ![512, 128]⟩

abbrev nBuf : Space → Nat
  | .hbm => 18
  | .vmem => 19
  | .smem => 1
  | _ => 0

abbrev bufTy : (tb : Table) → Fin (tcTables nBuf tb) → BufTy
  | .hbm, ⟨0, _⟩ => ⟨S4x8192x1024, .f32⟩
  | .hbm, ⟨1, _⟩ => ⟨S4x8192, .i32⟩
  | .hbm, ⟨2, _⟩ => ⟨S2x1024, .f32⟩
  | .hbm, ⟨3, _⟩ => ⟨S1x1024x2304, .f32⟩
  | .hbm, ⟨4, _⟩ => ⟨S1x2304, .f32⟩
  | .hbm, ⟨5, _⟩ => ⟨S1x16, .f32⟩
  | .hbm, ⟨6, _⟩ => ⟨S1x1024x1024, .f32⟩
  | .hbm, ⟨7, _⟩ => ⟨S1x1024, .f32⟩
  | .hbm, ⟨8, _⟩ => ⟨S1024, .f32⟩
  | .hbm, ⟨9, _⟩ => ⟨S1024x2304, .f32⟩
  | .hbm, ⟨10, _⟩ => ⟨S2304, .f32⟩
  | .hbm, ⟨11, _⟩ => ⟨S16, .f32⟩
  | .hbm, ⟨12, _⟩ => ⟨S1024x1024, .f32⟩
  | .hbm, ⟨13, _⟩ => ⟨S1024, .f32⟩
  | .hbm, ⟨14, _⟩ => ⟨S1x2304, .f32⟩
  | .hbm, ⟨15, _⟩ => ⟨S1x1024, .f32⟩
  | .hbm, ⟨16, _⟩ => ⟨S1x1024, .f32⟩
  | .hbm, ⟨17, _⟩ => ⟨S4x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S4x1024, .i32⟩
  | .local _ .vmem, ⟨3, _⟩ => ⟨S4x1024, .i32⟩
  | .local _ .vmem, ⟨4, _⟩ => ⟨S2x1024, .f32⟩
  | .local _ .vmem, ⟨5, _⟩ => ⟨S1x2304, .f32⟩
  | .local _ .vmem, ⟨6, _⟩ => ⟨S1x1024, .f32⟩
  | .local _ .vmem, ⟨7, _⟩ => ⟨S1x1024, .f32⟩
  | .local _ .vmem, ⟨8, _⟩ => ⟨S1x1024x1024, .f32⟩
  | .local _ .vmem, ⟨9, _⟩ => ⟨S1x1024x1024, .f32⟩
  | .local _ .vmem, ⟨10, _⟩ => ⟨S1152x128, .bf16⟩
  | .local _ .vmem, ⟨11, _⟩ => ⟨S128x1152, .bf16⟩
  | .local _ .vmem, ⟨12, _⟩ => ⟨S1280x128, .f32⟩
  | .local _ .vmem, ⟨13, _⟩ => ⟨S1280x1152, .bf16⟩
  | .local _ .vmem, ⟨14, _⟩ => ⟨S1024x1152, .bf16⟩
  | .local _ .vmem, ⟨15, _⟩ => ⟨S1024x1152, .bf16⟩
  | .local _ .vmem, ⟨16, _⟩ => ⟨S4x128x1280, .f32⟩
  | .local _ .vmem, ⟨17, _⟩ => ⟨S4x256x1024, .f32⟩
  | .local _ .vmem, ⟨18, _⟩ => ⟨S4x256x1024, .f32⟩
  | .local _ .smem, ⟨0, _⟩ => ⟨S16, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_scratch8 : Ref sig .tc := ⟨.vmem, 18, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![4, 8], ![false, false]⟩

def k0_off1 (i : grid0.Coords) : Fin 2 → Nat :=
  let arg0 : BitVec 32 := BitVec.ofNat 32 (i 0).val
  let v55 : Index := Scalar.indexCast arg0
  let c0_25 : Index := 0#32
  ![v55.toNat, 0]
def k0_off2 (i : grid0.Coords) : Fin 2 → Nat :=
  let arg0 : BitVec 32 := BitVec.ofNat 32 (i 0).val
  let v1711 : Index := Scalar.indexCast arg0
  let c512_333 : Index := 512#32
  ![v1711.toNat, 512]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2304 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Proof.Odd.Ideal.Base.lean ====
/- The vocabulary of the odd layer's proof: the region's operands, the body's twelve transfer semaphores, the arrays it
   leaves in HBM, what a point holds beside its windows, and @main up to the region. -/
module

public import proofs.«01_k».proof.Proof.Gen.Kernel2Ideal.Frame
public import proofs.«01_k».proof.Proof.Gen.Kernel2Ideal.Skeleton
public import Idealize.ShloMosaic.Lib.VecWindow

@[expose] public section

set_option maxRecDepth 16384

noncomputable section

namespace Cert.Kernel2Ideal.Odd

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main up to the region, at the algebra of a body with transfers of its own -/

theorem hmain (𝒱₀ : Variants) : Pipeline.HMain (Ix := Unit) (Name := ℕ) (U := Pipeline.UD sig nD τ) (Lvl := ℕ) cfgs 0 defs₀ 𝒱₀ m (main (F := F)) (Gen.V m) :=
  Pipeline.hmain_prefix cfgs 0 defs₀ 𝒱₀ m main hostOps0 hostOps0_sub hostOps0_fresh main_chain

/-! ## The body's operands that no window stages -/

/-- The keys: the last 128 rows of the point before, then the point's own 1024. -/
abbrev mK : Memref sig .tc .vmem S1152x128 .bf16 := Memref.whole cc0_scratch0
/-- The values, transposed and likewise laid out. -/
abbrev mV : Memref sig .tc .vmem S128x1152 .bf16 := Memref.whole cc0_scratch1
/-- The bias of the transposed projection, every column alike. -/
abbrev mB : Memref sig .tc .vmem S1280x128 .f32 := Memref.whole cc0_scratch2
/-- The three weights as the body keeps them. -/
abbrev mWq : Memref sig .tc .vmem S1280x1152 .bf16 := Memref.whole cc0_scratch3
abbrev mWz : Memref sig .tc .vmem S1024x1152 .bf16 := Memref.whole cc0_scratch4
abbrev mWo : Memref sig .tc .vmem S1024x1152 .bf16 := Memref.whole cc0_scratch5
/-- The buffers the weights' transfers land in. -/
abbrev mGq : Memref sig .tc .vmem S4x128x1280 .f32 := Memref.whole cc0_scratch6
abbrev mGz : Memref sig .tc .vmem S4x256x1024 .f32 := Memref.whole cc0_scratch7
abbrev mGo : Memref sig .tc .vmem S4x256x1024 .f32 := Memref.whole cc0_scratch8
/-- The weights in HBM. -/
abbrev hWi : Memref sig .tc .hbm S1024x2304 .f32 := Memref.whole main_v0
abbrev hWo : Memref sig .tc .hbm S1024x1024 .f32 := Memref.whole main_v3

/-- A whole buffer of core `c` at contents `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- The body's twelve transfer cells. -/
abbrev osem0 : Fin 12 → SemLoc sig := fun j =>
  (![SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22] : Fin 12 → SemLoc sig) j
theorem ownSemFacts0 : Pipeline.OwnSemFacts spec0 osem0 := by decide
/-- The cells at zero. -/
abbrev cells (c : Dev nD) : sProp 𝕄 :=
  iprop(semVal ((c : Thread nD τ), SemLoc.dma 11) 0
    ∗ semVal ((c : Thread nD τ), SemLoc.dma 12) 0
    ∗ semVal ((c : Thread nD τ), SemLoc.dma 13) 0
    ∗ semVal ((c : Thread nD τ), SemLoc.dma 14) 0
    ∗ semVal ((c : Thread nD τ), SemLoc.dma 15) 0
    ∗ semVal ((c : Thread nD τ), SemLoc.dma 16) 0
    ∗ semVal ((c : Thread nD τ), SemLoc.dma 17) 0
    ∗ semVal ((c : Thread nD τ), SemLoc.dma 18) 0
    ∗ semVal ((c : Thread nD τ), SemLoc.dma 19) 0
    ∗ semVal ((c : Thread nD τ), SemLoc.dma 20) 0
    ∗ semVal ((c : Thread nD τ), SemLoc.dma 21) 0
    ∗ semVal ((c : Thread nD τ), SemLoc.dma 22) 0)
theorem ownSems00_eq (c : Dev nD) :
    (Pipeline.ownSems0 (Ix := Unit) (Name := ℕ) (U := Pipeline.UD sig nD τ) (Lvl := ℕ) (Val := Elt F) (τ := τ) osem0 c : sProp 𝕄) = cells c := by
  rw [Pipeline.ownSems0_eq_of_list c osem0 [0, 1, 2, 3, 4, 5, 6, 7, 8, 9, 10, 11] (by decide) (by decide)]; rfl

/-- The arrays the body's transfers read. -/
def H0 : Finset (Ref sig .tc) := {main_v0, main_v3}
theorem H0_sub : H0 ⊆ Pipeline.restRefs sig spec0 := by decide
theorem hbmPts0_eq (c : Dev nD) :
    (bigSep H0 (fun b => ((c : Thread nD τ).loc b) ↦{fullShare} Gen.V m c b) : sProp 𝕄)
      = iprop(pt c hWi (Gen.V m c main_v0) ∗ pt c hWo (Gen.V m c main_v3)) := by
  rw [BI.bigSep_eq_bigSepL_of_eq [main_v0, main_v3] (by decide) (by decide)]; rfl

/-- The scratch buffers, at anything. -/
abbrev scratch (c : Dev nD) : sProp 𝕄 :=
  iprop((∃ f, pt c mK f)
    ∗ (∃ f, pt c mV f)
    ∗ (∃ f, pt c mB f)
    ∗ (∃ f, pt c mWq f)
    ∗ (∃ f, pt c mWz f)
    ∗ (∃ f, pt c mWo f)
    ∗ (∃ f, pt c mGq f)
    ∗ (∃ f, pt c mGz f)
    ∗ (∃ f, pt c mGo f))

/-- What a point of the launch holds beside its windows: the scratch at anything, the generator's register, the cells at
    zero, the two weights as launched. -/
theorem PhiD0_eq (c : Dev nD) :
    (Pipeline.ΦD osem0 spec0 H0 (Gen.V m) c : sProp 𝕄)
      = iprop(scratch c ∗ (∃ r, prngReg c r) ∗ cells c ∗ iprop(pt c hWi (Gen.V m c main_v0) ∗ pt c hWo (Gen.V m c main_v3))) := by
  rw [Pipeline.ΦD_eq, scopedRest0_eq, ownSems00_eq, hbmPts0_eq]
  try rfl

/-- A window's buffer at the values `x`. -/
abbrev at' (c : Dev nD) {sp : Space} {S : Shape} {e : EltTy} (a : Memref sig .tc sp S e) (x : Vec F S e) : sProp 𝕄 :=
  a.view.loc (c : Thread nD τ) ↦[a.view.set]{fullShare} a.view.rep x

/-- A window's buffer owned at `x` is held at the values `x`, and back. -/
theorem at_of_owns (c : Dev nD) {sp : Space} {S : Shape} {e : EltTy} (a : Memref sig .tc sp S e) (x : Vec F S e) :
    owns (c : Thread nD τ) a fullShare x ⊢ (at' c a x : sProp 𝕄) := by
  unfold owns
  iintro ⟨%f, %h, H⟩
  iapply (pointsTo_rep_of_read (c : Thread nD τ) a f fullShare x h)
  iexact H
theorem owns_of_at (c : Dev nD) {sp : Space} {S : Shape} {e : EltTy} (a : Memref sig .tc sp S e) (x : Vec F S e) :
    (at' c a x : sProp 𝕄) ⊢ owns (c : Thread nD τ) a fullShare x := by
  unfold owns
  iintro H
  iexists _; isplitr
  swap; · iexact H
  ipureintro; exact View.read_rep _ _

/-! ## The body at its operands -/

section Body

variable (i : grid0.Coords)
  (arg2 : Memref sig .tc .smem S16 .f32) (harg2 : arg2.IsWhole)
  (arg3 : Memref sig .tc .vmem S1x1024x1024 .f32) (harg3 : arg3.IsWhole)
  (arg4 : Memref sig .tc .vmem S4x1024 .i32) (harg4 : arg4.IsWhole)
  (arg5 : Memref sig .tc .vmem S2x1024 .f32) (harg5 : arg5.IsWhole)
  (arg7 : Memref sig .tc .vmem S1x2304 .f32) (harg7 : arg7.IsWhole)
  (arg9 : Memref sig .tc .vmem S1x1024 .f32) (harg9 : arg9.IsWhole)
  (arg10 : Memref sig .tc .vmem S1x1024 .f32) (harg10 : arg10.IsWhole)
  (arg11 : Memref sig .tc .vmem S1x1024x1024 .f32) (harg11 : arg11.IsWhole)

/-- The kernel on its eight windows' buffers, everything else the region's own. -/
abbrev body : Prog (TpuEff nD τ sig (Elt F) Λ₀ .tc) PUnit :=
  cc0_odd_layer (F := F) i arg2 harg2 arg3 harg3 arg4 harg4 arg5 harg5 hWi (Memref.isWhole_whole _) arg7 harg7 hWo (Memref.isWhole_whole _) arg9 harg9 arg10 harg10 arg11 harg11 mK (Memref.isWhole_whole _) mV (Memref.isWhole_whole _) mB (Memref.isWhole_whole _) mWq (Memref.isWhole_whole _) mWz (Memref.isWhole_whole _) mWo (Memref.isWhole_whole _) mGq (Memref.isWhole_whole _) mGz (Memref.isWhole_whole _) mGo (Memref.isWhole_whole _) cc0_scratch9 cc0_scratch10 cc0_scratch11

/-- The body's first part: the two conditional stretches, then the first load. -/
abbrev head :=
  k0_part28 (F := F) i arg2 harg2 arg3 harg3 arg4 harg4 arg5 harg5 hWi (Memref.isWhole_whole _) arg7 harg7 hWo (Memref.isWhole_whole _) arg9 harg9 arg10 harg10 arg11 harg11 mK (Memref.isWhole_whole _) mV (Memref.isWhole_whole _) mB (Memref.isWhole_whole _) mWq (Memref.isWhole_whole _) mWz (Memref.isWhole_whole _) mWo (Memref.isWhole_whole _) mGq (Memref.isWhole_whole _) mGz (Memref.isWhole_whole _) mGo (Memref.isWhole_whole _) cc0_scratch9 cc0_scratch10 cc0_scratch11

/-- The conditions, as words: the first point of all; the first of a sequence. -/
abbrev isFirst : Prop := Scalar.cmpi .ne (Scalar.extui (Scalar.andi (Scalar.cmpi .eq (BitVec.ofNat 32 (i 0).val) 0#32) (Scalar.cmpi .eq (BitVec.ofNat 32 (i 1).val) 0#32)) : BitVec 32) 0#32 = 1#1
abbrev isStart : Prop := Scalar.cmpi .ne (Scalar.extui (Scalar.cmpi .eq (BitVec.ofNat 32 (i 1).val) 0#32) : BitVec 32) 0#32 = 1#1

/-- What the body does with the first part's results. -/
def after28 : { K : _ → Prog (TpuEff nD τ sig (Elt F) Λ₀ .tc) PUnit //
    body (F := F) i arg2 harg2 arg3 harg3 arg4 harg4 arg5 harg5 arg7 harg7 arg9 harg9 arg10 harg10 arg11 harg11
      = head (F := F) i arg2 harg2 arg3 harg3 arg4 harg4 arg5 harg5 arg7 harg7 arg9 harg9 arg10 harg10 arg11 harg11 >>= K } :=
by
  refine ⟨?K, ?h⟩
  case h =>
    simp only [body, head, cc0_odd_layer_eq_skeleton]; unfold cc0_odd_layer_skel
    rw [k0_part96_eq_skeleton]; unfold k0_part96_skel
    rw [k0_part95_eq_skeleton]; unfold k0_part95_skel
    refine (Prog.bind_assoc _ _ _).trans ?_
    exact Prog.bind_assoc _ _ _

end Body

end Cert.Kernel2Ideal.Odd

end
-- ==== Proof.Odd.Ideal.Head.lean ====
/- The body's first part, whichever of its conditional stretches a point runs: every buffer it writes ends at some
   contents, the windows and the arrays in HBM as they were. -/
module

public import proofs.«01_k».proof.Proof.Odd.Ideal.Base

@[expose] public section

set_option maxRecDepth 16384

noncomputable section

namespace Cert.Kernel2Ideal.Odd

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- What the first part needs and gives back. -/
abbrev held (c : Dev nD) (arg3 : Memref sig .tc .vmem S1x1024x1024 .f32) (arg7 : Memref sig .tc .vmem S1x2304 .f32)
    (x3 : Vec F S1x1024x1024 .f32) (x7 : Vec F S1x2304 .f32)
    (fi : Buf (Elt F) (hWi.view.loc (c : Thread nD τ))) (fo : Buf (Elt F) (hWo.view.loc (c : Thread nD τ))) : sProp 𝕄 :=
  iprop(at' c arg3 x3 ∗ at' c arg7 x7 ∗ scratch c ∗ cells c ∗ iprop(pt c hWi fi ∗ pt c hWo fo))

set_option maxHeartbeats 8000000 in
theorem head_run (c : Dev nD) (i : grid0.Coords)
  (arg2 : Memref sig .tc .smem S16 .f32) (harg2 : arg2.IsWhole)
  (arg3 : Memref sig .tc .vmem S1x1024x1024 .f32) (harg3 : arg3.IsWhole)
  (arg4 : Memref sig .tc .vmem S4x1024 .i32) (harg4 : arg4.IsWhole)
  (arg5 : Memref sig .tc .vmem S2x1024 .f32) (harg5 : arg5.IsWhole)
  (arg7 : Memref sig .tc .vmem S1x2304 .f32) (harg7 : arg7.IsWhole)
  (arg9 : Memref sig .tc .vmem S1x1024 .f32) (harg9 : arg9.IsWhole)
  (arg10 : Memref sig .tc .vmem S1x1024 .f32) (harg10 : arg10.IsWhole)
  (arg11 : Memref sig .tc .vmem S1x1024x1024 .f32) (harg11 : arg11.IsWhole)
    (x3 : Vec F S1x1024x1024 .f32) (x7 : Vec F S1x2304 .f32)
    (fi : Buf (Elt F) (hWi.view.loc (c : Thread nD τ))) (fo : Buf (Elt F) (hWo.view.loc (c : Thread nD τ)))
    (hfs : isFirst i → isStart i) (W : Waits sig Unit) (K : _ → sProp 𝕄) :
    iprop(held c arg3 arg7 x3 x7 fi fo ∗ owes (c : Thread nD τ) 0 W
        ∗ (∀ v, iprop(held c arg3 arg7 x3 x7 fi fo ∗ (∃ W', owes (c : Thread nD τ) 0 W')) -∗ K v))
      ⊢ wp frame (wpE (defs₀ (F := F)) Variants.none c none) Set.univ
          (head (F := F) i arg2 harg2 arg3 harg3 arg4 harg4 arg5 harg5 arg7 harg7 arg9 harg9 arg10 harg10 arg11 harg11) K := by
  by_cases h2 : isStart i
  · by_cases h1 : isFirst i
    · simp only [head, k0_part28_eq_skeleton]; unfold k0_part28_skel
      simp only [dif_pos h1, dif_pos h2]
      unfold held scratch cells
      iintro ⟨⟨H3, H7, ⟨⟨%g0, HS0⟩, ⟨%g1, HS1⟩, ⟨%g2, HS2⟩, ⟨%g3, HS3⟩, ⟨%g4, HS4⟩, ⟨%g5, HS5⟩, ⟨%g6, HS6⟩, ⟨%g7, HS7⟩, ⟨%g8, HS8⟩⟩, ⟨Hq0, Hq1, Hq2, Hq3, Hq4, Hq5, Hq6, Hq7, Hq8, Hq9, Hq10, Hq11⟩, ⟨Hi, Ho⟩⟩, HW, Hk⟩
      set_option sl_exec.dmaWindow true in
      sl_exec
      sl_step
      iapply Hk
      isplitr [HW]
      · isplitl [H3]; · iexact H3
        isplitl [H7]; · iexact H7
        isplitl [HS0 HS1 HS2 HS3 HS4 HS5 HS6 HS7 HS8]
        · isplitl [HS0]; · iexists _; iexact HS0
          isplitl [HS1]; · iexists _; iexact HS1
          isplitl [HS2]; · iexists _; iexact HS2
          isplitl [HS3]; · iexists _; iexact HS3
          isplitl [HS4]; · iexists _; iexact HS4
          isplitl [HS5]; · iexists _; iexact HS5
          isplitl [HS6]; · iexists _; iexact HS6
          isplitl [HS7]; · iexists _; iexact HS7
          iexists _; iexact HS8
        isplitl [Hq0 Hq1 Hq2 Hq3 Hq4 Hq5 Hq6 Hq7 Hq8 Hq9 Hq10 Hq11]
        · isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          isplitl [Hq7]; · iexact Hq7
          isplitl [Hq8]; · iexact Hq8
          isplitl [Hq9]; · iexact Hq9
          isplitl [Hq10]; · iexact Hq10
          iexact Hq11
        isplitl [Hi]; · iexact Hi
        iexact Ho
      iexists _; iexact HW
    · simp only [head, k0_part28_eq_skeleton]; unfold k0_part28_skel
      simp only [dif_neg h1, dif_pos h2]
      unfold held scratch cells
      iintro ⟨⟨H3, H7, ⟨⟨%g0, HS0⟩, ⟨%g1, HS1⟩, ⟨%g2, HS2⟩, ⟨%g3, HS3⟩, ⟨%g4, HS4⟩, ⟨%g5, HS5⟩, ⟨%g6, HS6⟩, ⟨%g7, HS7⟩, ⟨%g8, HS8⟩⟩, ⟨Hq0, Hq1, Hq2, Hq3, Hq4, Hq5, Hq6, Hq7, Hq8, Hq9, Hq10, Hq11⟩, ⟨Hi, Ho⟩⟩, HW, Hk⟩
      sl_exec
      sl_step
      iapply Hk
      isplitr [HW]
      · isplitl [H3]; · iexact H3
        isplitl [H7]; · iexact H7
        isplitl [HS0 HS1 HS2 HS3 HS4 HS5 HS6 HS7 HS8]
        · isplitl [HS0]; · iexists _; iexact HS0
          isplitl [HS1]; · iexists _; iexact HS1
          isplitl [HS2]; · iexists _; iexact HS2
          isplitl [HS3]; · iexists _; iexact HS3
          isplitl [HS4]; · iexists _; iexact HS4
          isplitl [HS5]; · iexists _; iexact HS5
          isplitl [HS6]; · iexists _; iexact HS6
          isplitl [HS7]; · iexists _; iexact HS7
          iexists _; iexact HS8
        isplitl [Hq0 Hq1 Hq2 Hq3 Hq4 Hq5 Hq6 Hq7 Hq8 Hq9 Hq10 Hq11]
        · isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          isplitl [Hq7]; · iexact Hq7
          isplitl [Hq8]; · iexact Hq8
          isplitl [Hq9]; · iexact Hq9
          isplitl [Hq10]; · iexact Hq10
          iexact Hq11
        isplitl [Hi]; · iexact Hi
        iexact Ho
      iexists _; iexact HW
  · have h1 : ¬ isFirst i := fun h => h2 (hfs h)
    simp only [head, k0_part28_eq_skeleton]; unfold k0_part28_skel
    simp only [dif_neg h1, dif_neg h2]
    unfold held scratch cells
    iintro ⟨⟨H3, H7, ⟨⟨%g0, HS0⟩, ⟨%g1, HS1⟩, ⟨%g2, HS2⟩, ⟨%g3, HS3⟩, ⟨%g4, HS4⟩, ⟨%g5, HS5⟩, ⟨%g6, HS6⟩, ⟨%g7, HS7⟩, ⟨%g8, HS8⟩⟩, ⟨Hq0, Hq1, Hq2, Hq3, Hq4, Hq5, Hq6, Hq7, Hq8, Hq9, Hq10, Hq11⟩, ⟨Hi, Ho⟩⟩, HW, Hk⟩
    sl_exec
    sl_step
    iapply Hk
    isplitr [HW]
    · isplitl [H3]; · iexact H3
      isplitl [H7]; · iexact H7
      isplitl [HS0 HS1 HS2 HS3 HS4 HS5 HS6 HS7 HS8]
      · isplitl [HS0]; · iexists _; iexact HS0
        isplitl [HS1]; · iexists _; iexact HS1
        isplitl [HS2]; · iexists _; iexact HS2
        isplitl [HS3]; · iexists _; iexact HS3
        isplitl [HS4]; · iexists _; iexact HS4
        isplitl [HS5]; · iexists _; iexact HS5
        isplitl [HS6]; · iexists _; iexact HS6
        isplitl [HS7]; · iexists _; iexact HS7
        iexists _; iexact HS8
      isplitl [Hq0 Hq1 Hq2 Hq3 Hq4 Hq5 Hq6 Hq7 Hq8 Hq9 Hq10 Hq11]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hq9]; · iexact Hq9
        isplitl [Hq10]; · iexact Hq10
        iexact Hq11
      isplitl [Hi]; · iexact Hi
      iexact Ho
    iexists _; iexact HW

end Cert.Kernel2Ideal.Odd

end
-- ==== Proof.Odd.Ideal.Rest.lean ====
/- The body past its conditional stretches, from any contents of its scratch: the inputs stay, and everything it
   writes ends at some contents. -/
module

public import proofs.«01_k».proof.Proof.Odd.Ideal.Base

@[expose] public section

set_option maxRecDepth 16384

noncomputable section

namespace Cert.Kernel2Ideal.Odd

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The windows' buffers, the inputs at `x…` and the result at anything. -/
abbrev wins (c : Dev nD)
    (arg2 : Memref sig .tc .smem S16 .f32)
    (arg3 : Memref sig .tc .vmem S1x1024x1024 .f32)
    (arg4 : Memref sig .tc .vmem S4x1024 .i32)
    (arg5 : Memref sig .tc .vmem S2x1024 .f32)
    (arg7 : Memref sig .tc .vmem S1x2304 .f32)
    (arg9 : Memref sig .tc .vmem S1x1024 .f32)
    (arg10 : Memref sig .tc .vmem S1x1024 .f32)
    (arg11 : Memref sig .tc .vmem S1x1024x1024 .f32)
    (x2 : Vec F S16 .f32)
    (x3 : Vec F S1x1024x1024 .f32)
    (x4 : Vec F S4x1024 .i32)
    (x5 : Vec F S2x1024 .f32)
    (x7 : Vec F S1x2304 .f32)
    (x9 : Vec F S1x1024 .f32)
    (x10 : Vec F S1x1024 .f32) : sProp 𝕄 :=
  iprop(at' c arg2 x2
            ∗ at' c arg3 x3
            ∗ at' c arg4 x4
            ∗ at' c arg5 x5
            ∗ at' c arg7 x7
            ∗ at' c arg9 x9
            ∗ at' c arg10 x10
            ∗ (∃ d, owns (c : Thread nD τ) arg11 fullShare d))

set_option maxHeartbeats 8000000 in
theorem rest_run (c : Dev nD) (i : grid0.Coords)
  (arg2 : Memref sig .tc .smem S16 .f32) (harg2 : arg2.IsWhole)
  (arg3 : Memref sig .tc .vmem S1x1024x1024 .f32) (harg3 : arg3.IsWhole)
  (arg4 : Memref sig .tc .vmem S4x1024 .i32) (harg4 : arg4.IsWhole)
  (arg5 : Memref sig .tc .vmem S2x1024 .f32) (harg5 : arg5.IsWhole)
  (arg7 : Memref sig .tc .vmem S1x2304 .f32) (harg7 : arg7.IsWhole)
  (arg9 : Memref sig .tc .vmem S1x1024 .f32) (harg9 : arg9.IsWhole)
  (arg10 : Memref sig .tc .vmem S1x1024 .f32) (harg10 : arg10.IsWhole)
  (arg11 : Memref sig .tc .vmem S1x1024x1024 .f32) (harg11 : arg11.IsWhole)
    (x2 : Vec F S16 .f32)
    (x3 : Vec F S1x1024x1024 .f32)
    (x4 : Vec F S4x1024 .i32)
    (x5 : Vec F S2x1024 .f32)
    (x7 : Vec F S1x2304 .f32)
    (x9 : Vec F S1x1024 .f32)
    (x10 : Vec F S1x1024 .f32)
    (v : _) (W : Waits sig Unit) (K : PUnit → sProp 𝕄) :
    iprop(wins c arg2 arg3 arg4 arg5 arg7 arg9 arg10 arg11 x2 x3 x4 x5 x7 x9 x10 ∗ scratch c ∗ owes (c : Thread nD τ) 0 W
        ∗ (iprop(wins c arg2 arg3 arg4 arg5 arg7 arg9 arg10 arg11 x2 x3 x4 x5 x7 x9 x10 ∗ scratch c ∗ (∃ W', owes (c : Thread nD τ) 0 W')) -∗ K ⟨⟩))
      ⊢ wp frame (wpE (defs₀ (F := F)) Variants.none c none) Set.univ
          ((after28 (F := F) i arg2 harg2 arg3 harg3 arg4 harg4 arg5 harg5 arg7 harg7 arg9 harg9 arg10 harg10 arg11 harg11).1 v) K := by
  obtain ⟨arg0, v16, v27, v31, v32, v33, v35⟩ := v
  unfold after28
  dsimp only
  unfold wins scratch
  iintro ⟨⟨H2, H3, H4, H5, H7, H9, H10, ⟨%d11, H11⟩⟩, ⟨⟨%g0, HS0⟩, ⟨%g1, HS1⟩, ⟨%g2, HS2⟩, ⟨%g3, HS3⟩, ⟨%g4, HS4⟩, ⟨%g5, HS5⟩, ⟨%g6, HS6⟩, ⟨%g7, HS7⟩, ⟨%g8, HS8⟩⟩, HW, Hk⟩
  unfold owns
  icases H11 with ⟨%f11, -, H11⟩
  sl_exec_parts
  sl_step
  iapply Hk
  isplitl [H2 H3 H4 H5 H7 H9 H10 H11]
  · isplitl [H2]; · iexact H2
    isplitl [H3]; · iexact H3
    isplitl [H4]; · iexact H4
    isplitl [H5]; · iexact H5
    isplitl [H7]; · iexact H7
    isplitl [H9]; · iexact H9
    isplitl [H10]; · iexact H10
    iexists _, _; isplitr
    swap; · iexact H11
    ipureintro; rfl
  isplitl [HS0 HS1 HS2 HS3 HS4 HS5 HS6 HS7 HS8]
  · isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    iexists _; iexact HS8
  iexists _; iexact HW

end Cert.Kernel2Ideal.Odd

end
-- ==== Proof.Odd.Ideal.Run.lean ====
/- The launch: the body at every point, the run of @main with the result forgotten, and the frame. -/
module

public import proofs.«01_k».proof.Proof.Odd.Ideal.Head
public import proofs.«01_k».proof.Proof.Odd.Ideal.Rest

@[expose] public section

set_option maxRecDepth 16384

noncomputable section

namespace Cert.Kernel2Ideal.Odd

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem isStart_of_isFirst : ∀ t : Fin cfg0.N, isFirst (grid0.coords t) → isStart (grid0.coords t) := by decide +kernel

/-- The proof data of the pipeline on core `c`: an input's buffer keeps its block; of the result's nothing is said. -/
def dats (_ : Fin 1) (c : Dev nD) : Dat τ (Elt F) Unit ℕ (Pipeline.UD sig nD τ) ℕ cfg0 c where
  A w := Gen.V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
  Φ _ := Pipeline.ΦD osem0 spec0 H0 (Gen.V m) c
  q _ := fullShare
  owed _ := 0

/-- The windows of which the proof data say nothing: the result's. -/
def forgotten : Fin cfg0.W → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => true

theorem A_eq (c : Dev nD) (w : Fin cfg0.W) : (dats m 0 c).A w = Gen.V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl)
    (fun t => by rw [after0_6]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ X, owns (c : Thread nD τ) (st0_7 t) fullShare X))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (∃ X, owns (c : Thread nD τ) (st0_7 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).Φ t.succ = Pipeline.ΦD osem0 spec0 H0 (Gen.V m) c from rfl,
    show (dats m 0 c).Φ t.castSucc = Pipeline.ΦD osem0 spec0 H0 (Gen.V m) c from rfl, PhiD0_eq,
    after0_0, after0_1, after0_2, after0_3, after0_4, after0_5, after0_6]
  simp only [before0_0, before0_1, before0_2, before0_3, before0_4, before0_5, before0_6]
  unfold Dat.owesAt Pipeline.owesWithin
  rw [show (dats m 0 c).owed t.castSucc = 0 from rfl, show (dats m 0 c).owed t.succ = 0 from rfl]
  iintro ⟨⟨HS, HR, Hq, Hh⟩, ⟨%W, -, HW⟩, ⟨%d0, H0⟩, ⟨%d1, H1⟩, ⟨%d2, H2⟩, ⟨%d3, H3⟩, ⟨%d4, H4⟩, ⟨%d5, H5⟩, ⟨%d6, H6⟩, H7⟩
  ihave H0 := (at_of_owns c (st0_0 t) (iblk m c 0 t)) $$ H0
  ihave H1 := (at_of_owns c (st0_1 t) (iblk m c 1 t)) $$ H1
  ihave H2 := (at_of_owns c (st0_2 t) (iblk m c 2 t)) $$ H2
  ihave H3 := (at_of_owns c (st0_3 t) (iblk m c 3 t)) $$ H3
  ihave H4 := (at_of_owns c (st0_4 t) (iblk m c 4 t)) $$ H4
  ihave H5 := (at_of_owns c (st0_5 t) (iblk m c 5 t)) $$ H5
  ihave H6 := (at_of_owns c (st0_6 t) (iblk m c 6 t)) $$ H6
  rw [show bodyAt0 (F := F) t = _ from (after28 (F := F) (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7))).2, wp_bind]
  iapply (head_run c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7))
    (iblk m c 1 t) (iblk m c 4 t) (Gen.V m c main_v0) (Gen.V m c main_v3) (isStart_of_isFirst t) W _)
  isplitl [H1 H4 HS Hq Hh]
  · unfold held
    isplitl [H1]; · iexact H1
    isplitl [H4]; · iexact H4
    isplitl [HS]; · iexact HS
    isplitl [Hq]; · iexact Hq
    iexact Hh
  isplitl [HW]; · iexact HW
  iintro %v ⟨Hheld, ⟨%W1, HW⟩⟩
  unfold held
  icases Hheld with ⟨H1, H4, HS, Hq, Hh⟩
  iapply (rest_run c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7))
    (iblk m c 0 t) (iblk m c 1 t) (iblk m c 2 t) (iblk m c 3 t) (iblk m c 4 t) (iblk m c 5 t) (iblk m c 6 t) v W1 _)
  isplitl [H0 H1 H2 H3 H4 H5 H6 H7]
  · unfold wins
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [HS]; · iexact HS
  isplitl [HW]; · iexact HW
  iintro ⟨Hwin, HS, ⟨%W2, HW⟩⟩
  unfold wins
  icases Hwin with ⟨H0, H1, H2, H3, H4, H5, H6, H7⟩
  isplitl [HS HR Hq Hh]
  · isplitl [HS]; · iexact HS
    isplitl [HR]; · iexact HR
    isplitl [Hq]; · iexact Hq
    iexact Hh
  isplitl [HW]
  · iexists W2; isplitr; · ipureintro; exact fun _ _ => Or.inl trivial
    iexact HW
  isplitl [H0]; · iapply (owns_of_at c (st0_0 t) (iblk m c 0 t)); iexact H0
  isplitl [H1]; · iapply (owns_of_at c (st0_1 t) (iblk m c 1 t)); iexact H1
  isplitl [H2]; · iapply (owns_of_at c (st0_2 t) (iblk m c 2 t)); iexact H2
  isplitl [H3]; · iapply (owns_of_at c (st0_3 t) (iblk m c 3 t)); iexact H3
  isplitl [H4]; · iapply (owns_of_at c (st0_4 t) (iblk m c 4 t)); iexact H4
  isplitl [H5]; · iapply (owns_of_at c (st0_5 t) (iblk m c 5 t)); iexact H5
  isplitl [H6]; · iapply (owns_of_at c (st0_6 t) (iblk m c 6 t)); iexact H6
  iexact H7

theorem body_row (t : Fin cfg0.N) :
    defs₀ (F := F) .tc cfg0.body (cfg0.bodyArgs t (cfg0.slots t)) = bodyAt0 t := by
  unfold defs₀; rw [Defs.onTc_tc]

theorem obligation (c : Dev nD) : BodyObligationLoose (dats (F := F) m 0 c) (defs₀ (F := F)) Variants.none () Set.univ forgotten := fun t => by
  rw [bigSep_W0, bigSep_W0, body_row]
  exact triple_restated (sound_body m c t) rfl .rfl fun _ => .rfl

set_option backward.isDefEq.respectTransparency.types false in
/-- The run of @main: every input array as launched, every semaphore at zero. -/
theorem run_main : θ_run defs (onTc (τ := τ) (main (F := F))) (s₀ m ρ)
    (fun r => Pipeline.RDat.FramePost cfg0 (fun c => (dats m 0 c).toRForget forgotten) (Gen.V m) r ∧ r.2.sem = fun _ => 0) :=
  Pipeline.θ_run_frame_dma_forget (Q' := _) cfgs (dats m) (0 : Fin 1) launch0 osem0 defs₀ Variants.none forgotten ownSemFacts0 H0 H0_sub m ρ main
    (hbody := obligation m) (hshare := fun c => (dats m 0 c).share_full fun _ => rfl)
    (howed := fun _ _ => rfl) (V := Gen.V m) (hmain := hmain m Variants.none) (hA := A_eq m)
    (hin := fun _ => .rfl) (hout := fun _ => .rfl)

/-- The frame: every argument ends as launched, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨(((dats m 0 c).toRForget_arrAt_iff (w := 1) rfl _ _).mp ((h.1 c).1 1)).trans (((dats m 0 c).arrAt_in 1 rfl _).trans ((A_eq m c 1).trans (V_main_arg0 m c))),
    (((dats m 0 c).toRForget_arrAt_iff (w := 2) rfl _ _).mp ((h.1 c).1 2)).trans (((dats m 0 c).arrAt_in 2 rfl _).trans ((A_eq m c 2).trans (V_main_arg1 m c))),
    (((dats m 0 c).toRForget_arrAt_iff (w := 3) rfl _ _).mp ((h.1 c).1 3)).trans (((dats m 0 c).arrAt_in 3 rfl _).trans ((A_eq m c 3).trans (V_main_arg2 m c))),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c),
    ((h.1 c).2 main_arg6 (Pipeline.mem_restRefs_of main_arg6 (by decide) (by decide))).trans (V_main_arg6 m c),
    ((h.1 c).2 main_arg7 (Pipeline.mem_restRefs_of main_arg7 (by decide) (by decide))).trans (V_main_arg7 m c),
    ((h.1 c).2 main_arg8 (Pipeline.mem_restRefs_of main_arg8 (by decide) (by decide))).trans (V_main_arg8 m c)⟩, h.2⟩) (run_main m ρ)

end Cert.Kernel2Ideal.Odd

end
-- ==== Proof.Ideal.Base.lean ====
/- The vocabulary of the even layer's proof: the region's operands, the body's nine transfer semaphores, the arrays it
   leaves in HBM, what a point holds beside its windows, and @main up to the region. -/
module

public import proofs.«01_k».proof.Proof.Gen.KernelIdeal.Frame
public import proofs.«01_k».proof.Proof.Gen.KernelIdeal.Skeleton

@[expose] public section

set_option maxRecDepth 16384

noncomputable section

namespace Cert.KernelIdeal.Even

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main up to the region, at the algebra of a body with transfers of its own -/

theorem hmain (𝒱₀ : Variants) : Pipeline.HMain (Ix := Unit) (Name := ℕ) (U := Pipeline.UD sig nD τ) (Lvl := ℕ) cfgs 0 defs₀ 𝒱₀ m (main (F := F)) (Gen.V m) :=
  Pipeline.hmain_prefix cfgs 0 defs₀ 𝒱₀ m main hostOps0 hostOps0_sub hostOps0_fresh main_chain

/-! ## The body's operands that no window stages -/

/-- The last 1024 rows of `u` and the rows before them. -/
abbrev mU : Memref sig .tc .vmem S8x1056x128 .f32 := Memref.whole cc0_scratch0
/-- The sums of two rows, and of four. -/
abbrev mS2 : Memref sig .tc .vmem S24x280x128 .f32 := Memref.whole cc0_scratch1
abbrev mS4 : Memref sig .tc .vmem S16x272x128 .f32 := Memref.whole cc0_scratch2
/-- The products under the short convolution and the rows before them. -/
abbrev mC : Memref sig .tc .vmem S8x1032x128 .f32 := Memref.whole cc0_scratch3
/-- The three weights as the body keeps them. -/
abbrev mWi : Memref sig .tc .vmem S1024x6272 .bf16 := Memref.whole cc0_scratch4
abbrev mWp : Memref sig .tc .vmem S1024x256 .bf16 := Memref.whole cc0_scratch5
abbrev mWo : Memref sig .tc .vmem S2048x1152 .bf16 := Memref.whole cc0_scratch6
/-- The buffers the weights' transfers land in. -/
abbrev mGi : Memref sig .tc .vmem S4x32x6144 .f32 := Memref.whole cc0_scratch7
abbrev mGp : Memref sig .tc .vmem S1x1024x256 .f32 := Memref.whole cc0_scratch8
abbrev mGo : Memref sig .tc .vmem S4x256x1024 .f32 := Memref.whole cc0_scratch9
/-- The weights in HBM. -/
abbrev hWi : Memref sig .tc .hbm S1024x6144 .f32 := Memref.whole main_v0
abbrev hWp : Memref sig .tc .hbm S1024x256 .f32 := Memref.whole main_v4
abbrev hWo : Memref sig .tc .hbm S2048x1024 .f32 := Memref.whole main_v3

abbrev BufOf (c : Dev nD) {sp : Space} {S : Shape} {e : EltTy} (M : Memref sig .tc sp S e) : Type := Buf (Elt F) (M.view.loc (c : Thread nD τ))
/-- A whole buffer of core `c` at contents `f`. -/
abbrev pt (c : Dev nD) {sp : Space} {S : Shape} {e : EltTy} (M : Memref sig .tc sp S e) (f : BufOf (F := F) c M) : sProp 𝕄 :=
  M.view.loc (c : Thread nD τ) ↦{fullShare} f

/-- The body's nine transfer cells. -/
abbrev osem0 : Fin 9 → SemLoc sig := fun j =>
  (![SemLoc.dma 7, SemLoc.dma 8, SemLoc.dma 9, SemLoc.dma 10, SemLoc.dma 11, SemLoc.dma 12, SemLoc.dma 13, SemLoc.dma 14, SemLoc.dma 15] : Fin 9 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 7) 0 ∗ semVal ((c : Thread nD τ), SemLoc.dma 8) 0
          ∗ semVal ((c : Thread nD τ), SemLoc.dma 9) 0 ∗ semVal ((c : Thread nD τ), SemLoc.dma 10) 0
          ∗ semVal ((c : Thread nD τ), SemLoc.dma 11) 0 ∗ semVal ((c : Thread nD τ), SemLoc.dma 12) 0
          ∗ semVal ((c : Thread nD τ), SemLoc.dma 13) 0 ∗ semVal ((c : Thread nD τ), SemLoc.dma 14) 0
          ∗ semVal ((c : Thread nD τ), SemLoc.dma 15) 0) := by
  rw [Pipeline.ownSems0_eq_of_list c osem0 [0, 1, 2, 3, 4, 5, 6, 7, 8] (by decide) (by decide)]; rfl

/-- The arrays the body's transfers read. -/
def H0 : Finset (Ref sig .tc) := {main_v0, main_v4, main_v3}
theorem H0_sub : H0 ⊆ Pipeline.restRefs sig spec0 := by decide
theorem hbmPts0_eq (c : Dev nD) :
    (bigSep H0 (fun b => ((c : Thread nD τ).loc b) ↦{fullShare} Gen.V m c b) : sProp 𝕄)
      = iprop(pt c hWi (Gen.V m c main_v0) ∗ pt c hWp (Gen.V m c main_v4) ∗ pt c hWo (Gen.V m c main_v3)) := by
  rw [BI.bigSep_eq_bigSepL_of_eq [main_v0, main_v4, main_v3] (by decide) (by decide)]; rfl

/-- What a point of the launch holds beside its windows: the scratch at anything, the generator's register, the nine
    cells at zero, the three weights as launched. -/
theorem PhiD0_eq (c : Dev nD) :
    (Pipeline.ΦD osem0 spec0 H0 (Gen.V m) c : sProp 𝕄)
      = iprop(iprop((∃ f, pt c mU f) ∗ (∃ f, pt c mS2 f) ∗ (∃ f, pt c mS4 f) ∗ (∃ f, pt c mC f)
            ∗ (∃ f, pt c mWi f) ∗ (∃ f, pt c mWp f) ∗ (∃ f, pt c mWo f)
            ∗ (∃ f, pt c mGi f) ∗ (∃ f, pt c mGp f) ∗ (∃ f, pt c mGo f))
          ∗ (∃ r, prngReg c r)
          ∗ iprop(semVal ((c : Thread nD τ), SemLoc.dma 7) 0 ∗ semVal ((c : Thread nD τ), SemLoc.dma 8) 0
          ∗ semVal ((c : Thread nD τ), SemLoc.dma 9) 0 ∗ semVal ((c : Thread nD τ), SemLoc.dma 10) 0
          ∗ semVal ((c : Thread nD τ), SemLoc.dma 11) 0 ∗ semVal ((c : Thread nD τ), SemLoc.dma 12) 0
          ∗ semVal ((c : Thread nD τ), SemLoc.dma 13) 0 ∗ semVal ((c : Thread nD τ), SemLoc.dma 14) 0
          ∗ semVal ((c : Thread nD τ), SemLoc.dma 15) 0)
          ∗ iprop(pt c hWi (Gen.V m c main_v0) ∗ pt c hWp (Gen.V m c main_v4) ∗ pt c hWo (Gen.V m c main_v3))) := by
  rw [Pipeline.ΦD_eq, scopedRest0_eq, ownSems00_eq, hbmPts0_eq]
  try rfl

/-! ## The body at its operands -/

section Body

variable (i : grid0.Coords) (arg2 : Memref sig .tc .vmem S1x1024x1024 .f32) (harg2 : arg2.IsWhole)
  (arg3 : Memref sig .tc .vmem S2x1024 .f32) (harg3 : arg3.IsWhole)
  (arg6 : Memref sig .tc .vmem S1x1024 .f32) (harg6 : arg6.IsWhole)
  (arg7 : Memref sig .tc .vmem S1x3x1024 .f32) (harg7 : arg7.IsWhole)
  (arg9 : Memref sig .tc .vmem S1x1024x1024 .f32) (harg9 : arg9.IsWhole)

/-- The kernel on its five windows' buffers, everything else the region's own. -/
abbrev body : Prog (TpuEff nD τ sig (Elt F) Λ₀ .tc) PUnit :=
  cc0_even_layer i arg2 harg2 arg3 harg3 hWi (Memref.isWhole_whole _) hWp (Memref.isWhole_whole _) arg6 harg6 arg7 harg7
    hWo (Memref.isWhole_whole _) arg9 harg9 mU (Memref.isWhole_whole _) mS2 (Memref.isWhole_whole _) mS4 (Memref.isWhole_whole _)
    mC (Memref.isWhole_whole _) mWi (Memref.isWhole_whole _) mWp (Memref.isWhole_whole _) mWo (Memref.isWhole_whole _)
    mGi (Memref.isWhole_whole _) mGp (Memref.isWhole_whole _) mGo (Memref.isWhole_whole _) cc0_scratch10 cc0_scratch11 cc0_scratch12

/-- The body's first part: the two conditional stretches, then the first loads. -/
abbrev head :=
  k0_part26 (F := F) i arg2 harg2 arg3 harg3 hWi (Memref.isWhole_whole _) hWp (Memref.isWhole_whole _) arg6 harg6 arg7 harg7
    hWo (Memref.isWhole_whole _) arg9 harg9 mU (Memref.isWhole_whole _) mS2 (Memref.isWhole_whole _) mS4 (Memref.isWhole_whole _)
    mC (Memref.isWhole_whole _) mWi (Memref.isWhole_whole _) mWp (Memref.isWhole_whole _) mWo (Memref.isWhole_whole _)
    mGi (Memref.isWhole_whole _) mGp (Memref.isWhole_whole _) mGo (Memref.isWhole_whole _) cc0_scratch10 cc0_scratch11 cc0_scratch12

/-- The weights' transfers and stores, which the first point runs. -/
abbrev loads :=
  k0_part25 (F := F) i arg2 harg2 arg3 harg3 hWi (Memref.isWhole_whole _) hWp (Memref.isWhole_whole _) arg6 harg6 arg7 harg7
    hWo (Memref.isWhole_whole _) arg9 harg9 mU (Memref.isWhole_whole _) mS2 (Memref.isWhole_whole _) mS4 (Memref.isWhole_whole _)
    mC (Memref.isWhole_whole _) mWi (Memref.isWhole_whole _) mWp (Memref.isWhole_whole _) mWo (Memref.isWhole_whole _)
    mGi (Memref.isWhole_whole _) mGp (Memref.isWhole_whole _) mGo (Memref.isWhole_whole _) cc0_scratch10 cc0_scratch11 cc0_scratch12

/-- What the body does with the first part's results. -/
def after26 : { K : _ → Prog (TpuEff nD τ sig (Elt F) Λ₀ .tc) PUnit //
    body (F := F) i arg2 harg2 arg3 harg3 arg6 harg6 arg7 harg7 arg9 harg9
      = head (F := F) i arg2 harg2 arg3 harg3 arg6 harg6 arg7 harg7 arg9 harg9 >>= K } :=
by
  refine ⟨?K, ?h⟩
  case h =>
    simp only [body, head, cc0_even_layer_eq_skeleton]; unfold cc0_even_layer_skel
    rw [k0_part75_eq_skeleton]; unfold k0_part75_skel
    exact Prog.bind_assoc _ _ _

/-- The first part's own loads, behind its two conditional stretches. -/
def tail26 : Prog (TpuEff nD τ sig (Elt F) Λ₀ .tc) (Σ' (arg1 : BitVec 32) (v9 : FVec F S256x1024 .f32) (v23 : FVec F S256x1024 .bf16) (v25 : FVec F S256x1024 .f32) (v27 : FVec F S256x1024 .f32) (v29 : FVec F S256x1024 .f32) (v30 : Vec F S1024x1024 .bf16), FVec F S256x1024 .f32) := do
  let v8 : Vec F S1x256x1024 .f32 ← Prog.lift (.load arg2 (Rect.unit (s := S1x1024x1024) ![0, 0, 0] S1x256x1024.size inb_S1x1024x1024_S1x256x1024_0_0_0).toLoadRect (View.loadsAt_vmem h_S1x256x1024))
  let v10 : Vec F S1x1024 .f32 ← Prog.lift (.load arg3 (Rect.unit (s := S2x1024) ![0, 0] S1x1024.size inb_S2x1024_S1x1024_0_0).toLoadRect (View.loadsAt_vmem h_S1x1024))
  let v24 : Vec F S1024x1024 .bf16 ← Prog.lift (.load mWi (Rect.unit (s := S1024x6272) ![0, 0] S1024x1024.size inb_S1024x6272_S1024x1024_0_0).toLoadRect (View.loadsAt_vmem h_S1024x1024))
  let v26 : Vec F S1024x1024 .bf16 ← Prog.lift (.load mWi (Rect.unit (s := S1024x6272) ![0, 2048] S1024x1024.size inb_S1024x6272_S1024x1024_0_2048).toLoadRect (View.loadsAt_vmem h_S1024x1024))
  let v28 : Vec F S1024x1024 .bf16 ← Prog.lift (.load mWi (Rect.unit (s := S1024x6272) ![0, 3072] S1024x1024.size inb_S1024x6272_S1024x1024_0_3072).toLoadRect (View.loadsAt_vmem h_S1024x1024))
  let v30 : Vec F S1024x1024 .bf16 ← Prog.lift (.load mWi (Rect.unit (s := S1024x6272) ![0, 1024] S1024x1024.size inb_S1024x6272_S1024x1024_0_1024).toLoadRect (View.loadsAt_vmem h_S1024x1024))
  pure ⟨BitVec.ofNat 32 (i 1).val, k0_pay45 v8, k0_pay46 v8 v10, k0_pay47 v8 v10 v24, k0_pay48 v8 v10 v26, k0_pay49 v8 v10 v28, v30, constant S256x1024 .f32 0x00000000#32⟩

/-- The conditions, as words: the first point of all; the first of a sequence. -/
abbrev isFirst : Prop := Scalar.cmpi .ne (Scalar.extui (Scalar.andi (Scalar.cmpi .eq (BitVec.ofNat 32 (i 0).val) 0#32) (Scalar.cmpi .eq (BitVec.ofNat 32 (i 1).val) 0#32)) : BitVec 32) 0#32 = 1#1
abbrev isStart : Prop := Scalar.cmpi .ne (Scalar.extui (Scalar.cmpi .eq (BitVec.ofNat 32 (i 1).val) 0#32) : BitVec 32) 0#32 = 1#1

/-- The rows before a sequence's first are zero. -/
def zeros : Prog (TpuEff nD τ sig (Elt F) Λ₀ .tc) PUnit := do
  let v1753 : Vec F S8x32x128 .f32 ← Prog.lift (.load mU (Rect.unit (s := S8x1056x128) ![0, 0, 0] S8x32x128.size inb_S8x1056x128_S8x32x128_0_0_0).toLoadRect (View.loadsAt_vmem h_S8x32x128))
  Prog.lift (.store mU (Rect.unit (s := S8x1056x128) ![0, 0, 0] S8x32x128.size inb_S8x1056x128_S8x32x128_0_0_0) (k0_pay43 (F := F)) Finset.univ (View.stores_vmem_bits_univ h_S8x32x128 rfl) (.inl rfl))
  let v1757 : Vec F S8x8x128 .f32 ← Prog.lift (.load mC (Rect.unit (s := S8x1032x128) ![0, 0, 0] S8x8x128.size inb_S8x1032x128_S8x8x128_0_0_0).toLoadRect (View.loadsAt_vmem h_S8x8x128))
  Prog.lift (.store mC (Rect.unit (s := S8x1032x128) ![0, 0, 0] S8x8x128.size inb_S8x1032x128_S8x8x128_0_0_0) (k0_pay44 (F := F)) Finset.univ (View.stores_vmem_bits_univ h_S8x8x128 rfl) (.inl rfl))
  pure ⟨⟩

/-- At a point that is neither, the first part is its loads. -/
theorem head_mid (h1 : ¬ isFirst i) (h2 : ¬ isStart i) :
    head (F := F) i arg2 harg2 arg3 harg3 arg6 harg6 arg7 harg7 arg9 harg9 = tail26 i arg2 arg3 := by
  simp only [head, k0_part26_eq_skeleton]; unfold k0_part26_skel tail26
  simp only [dif_neg h1, dif_neg h2]; try rfl
/-- At a sequence's first point the zeros come before them. -/
theorem head_start (h1 : ¬ isFirst i) (h2 : isStart i) :
    head (F := F) i arg2 harg2 arg3 harg3 arg6 harg6 arg7 harg7 arg9 harg9 = (zeros >>= fun _ => tail26 i arg2 arg3) := by
  simp only [head, k0_part26_eq_skeleton]; unfold k0_part26_skel tail26
  simp only [dif_neg h1, dif_pos h2]; rfl
/-- At the first point of all, the weights' loads before those. -/
theorem head_first (h1 : isFirst i) (h2 : isStart i) :
    head (F := F) i arg2 harg2 arg3 harg3 arg6 harg6 arg7 harg7 arg9 harg9
      = (loads i arg2 harg2 arg3 harg3 arg6 harg6 arg7 harg7 arg9 harg9 >>= fun _ => zeros >>= fun _ => tail26 i arg2 arg3) := by
  simp only [head, k0_part26_eq_skeleton]; unfold k0_part26_skel tail26
  simp only [dif_pos h1, dif_pos h2]; rfl

/-- The whole body at each kind of point. -/
theorem body_mid (h1 : ¬ isFirst i) (h2 : ¬ isStart i) :
    body (F := F) i arg2 harg2 arg3 harg3 arg6 harg6 arg7 harg7 arg9 harg9 = (tail26 i arg2 arg3 >>= (after26 (F := F) i arg2 harg2 arg3 harg3 arg6 harg6 arg7 harg7 arg9 harg9).1) :=
  (after26 (F := F) i arg2 harg2 arg3 harg3 arg6 harg6 arg7 harg7 arg9 harg9).2.trans (congrArg (fun p => p >>= (after26 (F := F) i arg2 harg2 arg3 harg3 arg6 harg6 arg7 harg7 arg9 harg9).1) (head_mid i arg2 harg2 arg3 harg3 arg6 harg6 arg7 harg7 arg9 harg9 h1 h2))
theorem body_start (h1 : ¬ isFirst i) (h2 : isStart i) :
    body (F := F) i arg2 harg2 arg3 harg3 arg6 harg6 arg7 harg7 arg9 harg9 = (zeros >>= fun _ => (tail26 i arg2 arg3 >>= (after26 (F := F) i arg2 harg2 arg3 harg3 arg6 harg6 arg7 harg7 arg9 harg9).1)) :=
  ((after26 (F := F) i arg2 harg2 arg3 harg3 arg6 harg6 arg7 harg7 arg9 harg9).2.trans (congrArg (fun p => p >>= (after26 (F := F) i arg2 harg2 arg3 harg3 arg6 harg6 arg7 harg7 arg9 harg9).1) (head_start i arg2 harg2 arg3 harg3 arg6 harg6 arg7 harg7 arg9 harg9 h1 h2))).trans (Prog.bind_assoc _ _ _)
theorem body_first (h1 : isFirst i) (h2 : isStart i) :
    body (F := F) i arg2 harg2 arg3 harg3 arg6 harg6 arg7 harg7 arg9 harg9
      = (loads i arg2 harg2 arg3 harg3 arg6 harg6 arg7 harg7 arg9 harg9 >>= fun _ => (zeros >>= fun _ => (tail26 i arg2 arg3 >>= (after26 (F := F) i arg2 harg2 arg3 harg3 arg6 harg6 arg7 harg7 arg9 harg9).1))) :=
  ((after26 (F := F) i arg2 harg2 arg3 harg3 arg6 harg6 arg7 harg7 arg9 harg9).2.trans (congrArg (fun p => p >>= (after26 (F := F) i arg2 harg2 arg3 harg3 arg6 harg6 arg7 harg7 arg9 harg9).1) (head_first i arg2 harg2 arg3 harg3 arg6 harg6 arg7 harg7 arg9 harg9 h1 h2))).trans
    ((Prog.bind_assoc _ _ _).trans (congrArg (fun k => loads i arg2 harg2 arg3 harg3 arg6 harg6 arg7 harg7 arg9 harg9 >>= k) (funext fun _ => Prog.bind_assoc _ _ _)))

end Body

end Cert.KernelIdeal.Even

end
-- ==== Proof.Ideal.Load.lean ====
/- The first point's transfers and casts of the three weights. -/
module

public import proofs.«01_k».proof.Proof.Ideal.Base

@[expose] public section

set_option maxRecDepth 16384

noncomputable section

namespace Cert.KernelIdeal.Even

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The body's nine transfer cells at zero. -/
abbrev cells (c : Dev nD) : sProp 𝕄 :=
  iprop(semVal ((c : Thread nD τ), SemLoc.dma 7) 0 ∗ semVal ((c : Thread nD τ), SemLoc.dma 8) 0
    ∗ semVal ((c : Thread nD τ), SemLoc.dma 9) 0 ∗ semVal ((c : Thread nD τ), SemLoc.dma 10) 0
    ∗ semVal ((c : Thread nD τ), SemLoc.dma 11) 0 ∗ semVal ((c : Thread nD τ), SemLoc.dma 12) 0
    ∗ semVal ((c : Thread nD τ), SemLoc.dma 13) 0 ∗ semVal ((c : Thread nD τ), SemLoc.dma 14) 0
    ∗ semVal ((c : Thread nD τ), SemLoc.dma 15) 0)

set_option maxHeartbeats 4000000 in
/-- The weights' transfers and stores: the arrays in HBM stay, and each weight buffer is written with pieces that depend on
    them alone. -/
def loadRun (c : Dev nD) (i : grid0.Coords) (arg2 : Memref sig .tc .vmem S1x1024x1024 .f32) (harg2 : arg2.IsWhole)
    (arg3 : Memref sig .tc .vmem S2x1024 .f32) (harg3 : arg3.IsWhole)
    (arg6 : Memref sig .tc .vmem S1x1024 .f32) (harg6 : arg6.IsWhole)
    (arg7 : Memref sig .tc .vmem S1x3x1024 .f32) (harg7 : arg7.IsWhole)
    (arg9 : Memref sig .tc .vmem S1x1024x1024 .f32) (harg9 : arg9.IsWhole)
    (fi : BufOf (F := F) c hWi) (fp : BufOf (F := F) c hWp) (fo : BufOf (F := F) c hWo)
    (ggi : BufOf (F := F) c mGi) (ggp : BufOf (F := F) c mGp) (ggo : BufOf (F := F) c mGo) :
    { L : List (View.Piece (Elt F) S1024x6272 .bf16) × List (View.Piece (Elt F) S1024x256 .bf16) × List (View.Piece (Elt F) S2048x1152 .bf16) //
      ∀ (gwi : BufOf (F := F) c mWi) (gwp : BufOf (F := F) c mWp) (gwo : BufOf (F := F) c mWo)
        (W : Waits sig Unit) (K : PUnit → sProp 𝕄),
        iprop(pt c hWi fi ∗ pt c hWp fp ∗ pt c hWo fo
            ∗ pt c mWi gwi ∗ pt c mWp gwp ∗ pt c mWo gwo ∗ pt c mGi ggi ∗ pt c mGp ggp ∗ pt c mGo ggo
            ∗ cells c ∗ owes (c : Thread nD τ) 0 W
            ∗ (iprop(pt c hWi fi ∗ pt c hWp fp ∗ pt c hWo fo
                ∗ pt c mWi (mWi.view.writes (Elt F) gwi L.1) ∗ pt c mWp (mWp.view.writes (Elt F) gwp L.2.1)
                ∗ pt c mWo (mWo.view.writes (Elt F) gwo L.2.2)
                ∗ (∃ f, pt c mGi f) ∗ (∃ f, pt c mGp f) ∗ (∃ f, pt c mGo f)
                ∗ cells c ∗ (∃ W', owes (c : Thread nD τ) 0 W')) -∗ K ⟨⟩))
          ⊢ wp frame (wpE (defs₀ (F := F)) Variants.none c none) Set.univ
              (loads (F := F) i arg2 harg2 arg3 harg3 arg6 harg6 arg7 harg7 arg9 harg9) K } := by
  refine ⟨(?L1, ?L2, ?L3), fun gwi gwp gwo W K => ?run⟩
  case run =>
    simp only [loads, k0_part25_eq_skeleton]; unfold k0_part25_skel
    unfold cells
    iintro ⟨Hi, Hp, Ho, HWi, HWp, HWo, HGi, HGp, HGo, ⟨Hq7, Hq8, Hq9, Hq10, Hq11, Hq12, Hq13, Hq14, Hq15⟩, HW, Hk⟩
    set_option sl_exec.dmaWindow true in
    sl_exec
    sl_step
    iapply Hk
    isplitl [Hi]; · iexact Hi
    isplitl [Hp]; · iexact Hp
    isplitl [Ho]; · iexact Ho
    isplitl [HWi]; · iexact HWi
    isplitl [HWp]; · iexact HWp
    isplitl [HWo]; · iexact HWo
    isplitl [HGi]; · iexists _; iexact HGi
    isplitl [HGp]; · iexists _; iexact HGp
    isplitl [HGo]; · iexists _; iexact HGo
    isplitl [Hq7 Hq8 Hq9 Hq10 Hq11 Hq12 Hq13 Hq14 Hq15]
    · isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      iexact Hq15
    iexists _; iexact HW

end Cert.KernelIdeal.Even

end
-- ==== Proof.Ideal.Rest.lean ====
/- One run of the body past its two conditional stretches, for every point of the grid: from the windows' blocks, the
   three weights and the rows carried from the point before. -/
module

public import proofs.«01_k».proof.Proof.Ideal.Base
public import Idealize.ShloMosaic.Lib.VecWindow

@[expose] public section

set_option maxRecDepth 16384

noncomputable section

namespace Cert.KernelIdeal.Even

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The columns of the weight buffers that the body reads. -/
theorem inbWi : ∀ a, (![0, 0] : Fin 2 → ℕ) a + S1024x6144.size a ≤ S1024x6272.size a := by decide
theorem inbWo : ∀ a, (![0, 0] : Fin 2 → ℕ) a + S2048x1024.size a ≤ S2048x1152.size a := by decide
abbrev rWi : Rect S1024x6272 := Rect.unit (s := S1024x6272) ![0, 0] S1024x6144.size inbWi
abbrev rWo : Rect S2048x1152 := Rect.unit (s := S2048x1152) ![0, 0] S2048x1024.size inbWo
abbrev rWp : Rect S1024x256 := Rect.unit (s := S1024x256) ![0, 0] S1024x256.size inb_S1024x256_S1024x256_0_0
/-- The rows of the two row buffers that come from the point before. -/
abbrev rU : Rect S8x1056x128 := Rect.unit (s := S8x1056x128) ![0, 0, 0] S8x32x128.size inb_S8x1056x128_S8x32x128_0_0_0
abbrev rC : Rect S8x1032x128 := Rect.unit (s := S8x1032x128) ![0, 0, 0] S8x8x128.size inb_S8x1032x128_S8x8x128_0_0_0

/-- A window's buffer at the values `x`. -/
abbrev at' (c : Dev nD) {S : Shape} {e : EltTy} (a : Memref sig .tc .vmem S e) (x : Vec F S e) : sProp 𝕄 :=
  a.view.loc (c : Thread nD τ) ↦[a.view.set]{fullShare} a.view.rep x

/-- A window's buffer owned at `x` is held at the values `x`, and back. -/
theorem at_of_owns (c : Dev nD) {S : Shape} {e : EltTy} (a : Memref sig .tc .vmem S e) (x : Vec F S e) :
    owns (c : Thread nD τ) a fullShare x ⊢ (at' c a x : sProp 𝕄) := by
  unfold owns
  iintro ⟨%f, %h, H⟩
  iapply (pointsTo_rep_of_read (c : Thread nD τ) a f fullShare x h)
  iexact H
theorem owns_of_at (c : Dev nD) {S : Shape} {e : EltTy} (a : Memref sig .tc .vmem S e) (x : Vec F S e) :
    (at' c a x : sProp 𝕄) ⊢ owns (c : Thread nD τ) a fullShare x := by
  unfold owns
  iintro H
  iexists _; isplitr
  swap; · iexact H
  ipureintro; exact View.read_rep _ _

/-- From the blocks of the four inputs, the weights `wi`, `wp'`, `wo` and the carried rows `cu`, `cc`, the body leaves the
    output's buffer and the two row buffers written with pieces that depend on nothing else. -/
def rest (c : Dev nD) (i : grid0.Coords) (arg2 : Memref sig .tc .vmem S1x1024x1024 .f32) (harg2 : arg2.IsWhole)
    (arg3 : Memref sig .tc .vmem S2x1024 .f32) (harg3 : arg3.IsWhole)
    (arg6 : Memref sig .tc .vmem S1x1024 .f32) (harg6 : arg6.IsWhole)
    (arg7 : Memref sig .tc .vmem S1x3x1024 .f32) (harg7 : arg7.IsWhole)
    (arg9 : Memref sig .tc .vmem S1x1024x1024 .f32) (harg9 : arg9.IsWhole)
    (x : Vec F S1x1024x1024 .f32) (g : Vec F S2x1024 .f32) (ps : Vec F S1x1024 .f32) (cw : Vec F S1x3x1024 .f32)
    (wi : Vec F S1024x6144 .bf16) (wp' : Vec F S1024x256 .bf16) (wo : Vec F S2048x1024 .bf16)
    (cu : Vec F S8x32x128 .f32) (cc : Vec F S8x8x128 .f32) :
    { L : List (View.Piece (Elt F) S1x1024x1024 .f32) × List (View.Piece (Elt F) S8x1056x128 .f32) × List (View.Piece (Elt F) S8x1032x128 .f32) //
      ∀ (fU : BufOf (F := F) c mU) (fC : BufOf (F := F) c mC) (fWi : BufOf (F := F) c mWi) (fWp : BufOf (F := F) c mWp)
        (fWo : BufOf (F := F) c mWo) (W : Waits sig Unit) (K : PUnit → sProp 𝕄),
        iprop(at' c arg2 x ∗ at' c arg3 g
            ∗ at' c arg6 ps ∗ at' c arg7 cw
            ∗ (∃ d, owns (c : Thread nD τ) arg9 fullShare d)
            ∗ pt c mU (mU.view.writes (Elt F) fU [⟨rU, cu⟩]) ∗ (∃ f, pt c mS2 f) ∗ (∃ f, pt c mS4 f)
            ∗ pt c mC (mC.view.writes (Elt F) fC [⟨rC, cc⟩])
            ∗ pt c mWi (mWi.view.writes (Elt F) fWi [⟨rWi, wi⟩]) ∗ pt c mWp (mWp.view.writes (Elt F) fWp [⟨rWp, wp'⟩])
            ∗ pt c mWo (mWo.view.writes (Elt F) fWo [⟨rWo, wo⟩])
            ∗ owes (c : Thread nD τ) 0 W
            ∗ (iprop(at' c arg2 x ∗ at' c arg3 g
                ∗ at' c arg6 ps ∗ at' c arg7 cw
                ∗ (∃ f, arg9.view.loc (c : Thread nD τ) ↦[arg9.view.set]{fullShare} arg9.view.writes (Elt F) f L.1)
                ∗ pt c mU (mU.view.writes (Elt F) fU L.2.1) ∗ (∃ f, pt c mS2 f) ∗ (∃ f, pt c mS4 f)
                ∗ pt c mC (mC.view.writes (Elt F) fC L.2.2)
                ∗ pt c mWi (mWi.view.writes (Elt F) fWi [⟨rWi, wi⟩]) ∗ pt c mWp (mWp.view.writes (Elt F) fWp [⟨rWp, wp'⟩])
                ∗ pt c mWo (mWo.view.writes (Elt F) fWo [⟨rWo, wo⟩])
                ∗ (∃ W', owes (c : Thread nD τ) 0 W')) -∗ K ⟨⟩))
          ⊢ wp frame (wpE (defs₀ (F := F)) Variants.none c none) Set.univ
              (tail26 i arg2 arg3 >>= (after26 (F := F) i arg2 harg2 arg3 harg3 arg6 harg6 arg7 harg7 arg9 harg9).1) K } := by
  refine ⟨(?L1, ?L2, ?L3), fun fU fC fWi fWp fWo W K => ?run⟩
  case run =>
    unfold after26 tail26
    dsimp only
    iintro ⟨H2, H3, H6, H7, ⟨%d9, H9⟩, HU, ⟨%f2, HS2⟩, ⟨%f4, HS4⟩, HC, HWi, HWp, HWo, HW, Hk⟩
    unfold owns
    icases H9 with ⟨%f9, -, H9⟩
    sl_exec_parts
    sl_step
    iapply Hk
    isplitl [H2]; · iexact H2
    isplitl [H3]; · iexact H3
    isplitl [H6]; · iexact H6
    isplitl [H7]; · iexact H7
    isplitl [H9]; · iexists _; iexact H9
    isplitl [HU]; · iexact HU
    isplitl [HS2]; · iexists _; iexact HS2
    isplitl [HS4]; · iexists _; iexact HS4
    isplitl [HC]; · iexact HC
    isplitl [HWi]; · iexact HWi
    isplitl [HWp]; · iexact HWp
    isplitl [HWo]; · iexact HWo
    iexists _; iexact HW

end Cert.KernelIdeal.Even

end
-- ==== Proof.Ideal.Weights.lean ====
/- The three weights as the first point leaves them: each array cast. -/
module

public import proofs.«01_k».proof.Proof.Ideal.Load
public import proofs.«01_k».proof.Proof.Ideal.Rest

@[expose] public section

set_option maxRecDepth 16384

noncomputable section

namespace Cert.KernelIdeal.Even

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A weight array cast. -/
def winI (f : Vec F S1024x6144 .f32) : Vec F S1024x6144 .bf16 := truncf .bf16 f bitsLt_bf16_f32
def winP (f : Vec F S1024x256 .f32) : Vec F S1024x256 .bf16 := truncf .bf16 f bitsLt_bf16_f32
def winO (f : Vec F S2048x1024 .f32) : Vec F S2048x1024 .bf16 := truncf .bf16 f bitsLt_bf16_f32

/-- A part of a buffer reads what was last written over it through a reshaped view of that part; -/
theorem read_hit {κ : Kind} {sp : Space} {S : Shape} {e : EltTy} (v : View sig κ sp S e) (r : Rect S) (s' : Shape)
    (h : s'.numel = r.shape.numel) (f : v.ty.Contents (Elt F)) (w : s'.Idx → Elt F e) :
    v.readAt (Elt F) r.toLoadRect (View.write (Elt F) ((v.slice r).reshape s' h) f w Finset.univ)
      = fun x => w ((Shape.reshapeEquiv h).symm x) := by
  rw [View.write_reshape_univ]
  funext x
  exact View.read_writes_cons_emb v f r _ [] x
/-- a write over another part leaves it. -/
theorem read_miss {κ : Kind} {sp : Space} {S : Shape} {e : EltTy} (v : View sig κ sp S e) (r r' : Rect S) (s' : Shape)
    (h : s'.numel = r'.shape.numel) (f : v.ty.Contents (Elt F)) (w : s'.Idx → Elt F e)
    (hd : ∀ x, r.emb x ∈ r'.set → False) :
    v.readAt (Elt F) r.toLoadRect (View.write (Elt F) ((v.slice r').reshape s' h) f w Finset.univ)
      = v.readAt (Elt F) r.toLoadRect f := by
  rw [View.write_reshape_univ]
  funext x
  exact View.read_writes_apply_of_forall_not_mem v f (r.emb x) [⟨r', _⟩] (fun p hp => by
    rw [List.mem_singleton] at hp; subst hp; exact hd x)

variable (c : Dev nD) (i : grid0.Coords) (arg2 : Memref sig .tc .vmem S1x1024x1024 .f32) (harg2 : arg2.IsWhole)
  (arg3 : Memref sig .tc .vmem S2x1024 .f32) (harg3 : arg3.IsWhole)
  (arg6 : Memref sig .tc .vmem S1x1024 .f32) (harg6 : arg6.IsWhole)
  (arg7 : Memref sig .tc .vmem S1x3x1024 .f32) (harg7 : arg7.IsWhole)
  (arg9 : Memref sig .tc .vmem S1x1024x1024 .f32) (harg9 : arg9.IsWhole)
  (fi : BufOf (F := F) c hWi) (fp : BufOf (F := F) c hWp) (fo : BufOf (F := F) c hWo)
  (ggi : BufOf (F := F) c mGi) (ggp : BufOf (F := F) c mGp) (ggo : BufOf (F := F) c mGo)

/-! ## The stage of `winI` -/

/-- A slot of the stage reads what its transfer brought, -/
theorem stageI_hit (k : ℕ) (hk hk' h1 h2) (f : BufOf (F := F) c mGi) (w : S32x6144.Idx → Elt F .f32) :
    mGi.view.readAt (Elt F) (Rect.unit (s := S4x32x6144) ![k, 0, 0] S1x32x6144.size hk).toLoadRect
        (View.write (Elt F) ((mGi.slice (Rect.unit (s := S4x32x6144) ![k, 0, 0] S1x32x6144.size hk') h1).squeeze S32x6144 h2).view f w Finset.univ)
      = fun x => w ((Shape.reshapeEquiv h2.numel_eq).symm x) :=
  read_hit mGi.view (Rect.unit (s := S4x32x6144) ![k, 0, 0] S1x32x6144.size hk) S32x6144 h2.numel_eq f w
/-- and another slot's transfer leaves it. -/
theorem stageI_miss (k k' : ℕ) (hk hk' h1 h2) (f : BufOf (F := F) c mGi) (w : S32x6144.Idx → Elt F .f32) (hne : k ≠ k') :
    mGi.view.readAt (Elt F) (Rect.unit (s := S4x32x6144) ![k, 0, 0] S1x32x6144.size hk).toLoadRect
        (View.write (Elt F) ((mGi.slice (Rect.unit (s := S4x32x6144) ![k', 0, 0] S1x32x6144.size hk') h1).squeeze S32x6144 h2).view f w Finset.univ)
      = mGi.view.readAt (Elt F) (Rect.unit (s := S4x32x6144) ![k, 0, 0] S1x32x6144.size hk).toLoadRect f :=
  read_miss mGi.view (Rect.unit (s := S4x32x6144) ![k, 0, 0] S1x32x6144.size hk) (Rect.unit (s := S4x32x6144) ![k', 0, 0] S1x32x6144.size hk') S32x6144 h2.numel_eq f w
    (fun x hx => Rect.not_mem_set_of_axis _ _ 0 k' 1 rfl rfl rfl (by
      have h0 : (x 0).val < 1 := (x 0).isLt
      have : ((Rect.unit (s := S4x32x6144) ![k, 0, 0] S1x32x6144.size hk).emb x 0).val = k + (x 0).val := by
        show k + 1 * (x 0).val = _
        omega
      rw [this]; omega) hx)

/-- The cast array at a place of the padded buffer. -/
def atI (f : BufOf (F := F) c hWi) (y : S1024x6272.Idx) : Elt F .bf16 :=
  winI f (fun | 0 => ⟨(y 0).val, (y 0).isLt⟩ | 1 => ⟨(y 1).val % 6144, Nat.mod_lt _ (by decide)⟩)

theorem inbI (o : ℕ) (h : o + 32 ≤ 1024) : ∀ a, (![o, 0] : Fin 2 → ℕ) a + S32x6144.size a ≤ S1024x6144.size a :=
  fun | 0 => h | 1 => show 0 + S32x6144.size 1 ≤ S1024x6144.size 1 from by decide
theorem inbI' (o : ℕ) (h : o + 32 ≤ 1024) : ∀ a, (![o, 0] : Fin 2 → ℕ) a + S32x6144.size a ≤ S1024x6272.size a :=
  fun | 0 => h | 1 => show 0 + S32x6144.size 1 ≤ S1024x6272.size 1 from by decide

/-- A block of the stage, cast, is the cast array over the block's place. -/
theorem pieceI (o : ℕ) (h : o + 32 ≤ 1024) (v : Vec F S1x32x6144 .f32)
    (hv : ∀ x : S32x6144.Idx, v (Shape.reshapeEquiv shapeCasts_S1x32x6144_S32x6144 x) = fi ((Rect.unit (s := S1024x6144) ![o, 0] S32x6144.size (inbI o h)).emb x)) (x : S32x6144.Idx) :
    k0_pay2 v x = atI c fi ((Rect.unit (s := S1024x6272) ![o, 0] S32x6144.size (inbI' o h)).emb x) := by
  unfold k0_pay2 atI winI
  dsimp only
  simp only [shapeCast, truncf, Shape.reshapeEquiv_self]
  refine congrArg _ ((hv x).trans (congrArg fi (funext fun a => ?_)))
  have h1 : (x 1).val < 6144 := (x 1).isLt
  match a with
  | 0 => exact Fin.ext rfl
  | 1 => exact Fin.ext (by
      show 0 + 1 * (x 1).val = (0 + 1 * (x 1).val) % 6144
      rw [Nat.mod_eq_of_lt (by omega)])

set_option maxHeartbeats 2000000 in
theorem piecesI : ∀ p ∈ (loadRun c i arg2 harg2 arg3 harg3 arg6 harg6 arg7 harg7 arg9 harg9 fi fp fo ggi ggp ggo).1.1, ∀ x : p.1.shape.Idx, p.2 x = atI c fi (p.1.emb x) := by
  unfold loadRun
  dsimp only
  sl_unfold_run_names
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl <;>
    refine pieceI c fi _ (by decide) _ (fun x => ?_) <;>
    (repeat (first | rw [stageI_hit c] | rw [stageI_miss c])) <;>
    first
      | decide
      | (dsimp only; erw [Equiv.symm_apply_apply]; rfl)

/-! ## The stage of `winP` -/

/-- A slot of the stage reads what its transfer brought, -/
theorem stageP_hit (k : ℕ) (hk hk' h1 h2) (f : BufOf (F := F) c mGp) (w : S1024x256.Idx → Elt F .f32) :
    mGp.view.readAt (Elt F) (Rect.unit (s := S1x1024x256) ![k, 0, 0] S1x1024x256.size hk).toLoadRect
        (View.write (Elt F) ((mGp.slice (Rect.unit (s := S1x1024x256) ![k, 0, 0] S1x1024x256.size hk') h1).squeeze S1024x256 h2).view f w Finset.univ)
      = fun x => w ((Shape.reshapeEquiv h2.numel_eq).symm x) :=
  read_hit mGp.view (Rect.unit (s := S1x1024x256) ![k, 0, 0] S1x1024x256.size hk) S1024x256 h2.numel_eq f w
/-- and another slot's transfer leaves it. -/
theorem stageP_miss (k k' : ℕ) (hk hk' h1 h2) (f : BufOf (F := F) c mGp) (w : S1024x256.Idx → Elt F .f32) (hne : k ≠ k') :
    mGp.view.readAt (Elt F) (Rect.unit (s := S1x1024x256) ![k, 0, 0] S1x1024x256.size hk).toLoadRect
        (View.write (Elt F) ((mGp.slice (Rect.unit (s := S1x1024x256) ![k', 0, 0] S1x1024x256.size hk') h1).squeeze S1024x256 h2).view f w Finset.univ)
      = mGp.view.readAt (Elt F) (Rect.unit (s := S1x1024x256) ![k, 0, 0] S1x1024x256.size hk).toLoadRect f :=
  read_miss mGp.view (Rect.unit (s := S1x1024x256) ![k, 0, 0] S1x1024x256.size hk) (Rect.unit (s := S1x1024x256) ![k', 0, 0] S1x1024x256.size hk') S1024x256 h2.numel_eq f w
    (fun x hx => Rect.not_mem_set_of_axis _ _ 0 k' 1 rfl rfl rfl (by
      have h0 : (x 0).val < 1 := (x 0).isLt
      have : ((Rect.unit (s := S1x1024x256) ![k, 0, 0] S1x1024x256.size hk).emb x 0).val = k + (x 0).val := by
        show k + 1 * (x 0).val = _
        omega
      rw [this]; omega) hx)

/-- The cast array at a place of the padded buffer. -/
def atP (f : BufOf (F := F) c hWp) (y : S1024x256.Idx) : Elt F .bf16 :=
  winP f (fun | 0 => ⟨(y 0).val, (y 0).isLt⟩ | 1 => ⟨(y 1).val % 256, Nat.mod_lt _ (by decide)⟩)

theorem inbP (o : ℕ) (h : o + 1024 ≤ 1024) : ∀ a, (![o, 0] : Fin 2 → ℕ) a + S1024x256.size a ≤ S1024x256.size a :=
  fun | 0 => h | 1 => show 0 + S1024x256.size 1 ≤ S1024x256.size 1 from by decide
theorem inbP' (o : ℕ) (h : o + 1024 ≤ 1024) : ∀ a, (![o, 0] : Fin 2 → ℕ) a + S1024x256.size a ≤ S1024x256.size a :=
  fun | 0 => h | 1 => show 0 + S1024x256.size 1 ≤ S1024x256.size 1 from by decide

/-- A block of the stage, cast, is the cast array over the block's place. -/
theorem pieceP (o : ℕ) (h : o + 1024 ≤ 1024) (v : Vec F S1x1024x256 .f32)
    (hv : ∀ x : S1024x256.Idx, v (Shape.reshapeEquiv shapeCasts_S1x1024x256_S1024x256 x) = fp ((Rect.unit (s := S1024x256) ![o, 0] S1024x256.size (inbP o h)).emb x)) (x : S1024x256.Idx) :
    k0_pay42 v x = atP c fp ((Rect.unit (s := S1024x256) ![o, 0] S1024x256.size (inbP' o h)).emb x) := by
  unfold k0_pay42 atP winP
  dsimp only
  simp only [shapeCast, truncf, Shape.reshapeEquiv_self]
  refine congrArg _ ((hv x).trans (congrArg fp (funext fun a => ?_)))
  have h1 : (x 1).val < 256 := (x 1).isLt
  match a with
  | 0 => exact Fin.ext rfl
  | 1 => exact Fin.ext (by
      show 0 + 1 * (x 1).val = (0 + 1 * (x 1).val) % 256
      rw [Nat.mod_eq_of_lt (by omega)])

set_option maxHeartbeats 2000000 in
theorem piecesP : ∀ p ∈ (loadRun c i arg2 harg2 arg3 harg3 arg6 harg6 arg7 harg7 arg9 harg9 fi fp fo ggi ggp ggo).1.2.1, ∀ x : p.1.shape.Idx, p.2 x = atP c fp (p.1.emb x) := by
  unfold loadRun
  dsimp only
  sl_unfold_run_names
  intro p hp
  simp only [List.mem_cons, List.not_mem_nil, or_false] at hp
  rcases hp with rfl <;>
    refine pieceP c fp _ (by decide) _ (fun x => ?_) <;>
    (repeat (first | rw [stageP_hit c] | rw [stageP_miss c])) <;>
    first
      | decide
      | (dsimp only; erw [Equiv.symm_apply_apply]; rfl)

/-! ## The stage of `winO` -/

/-- A slot of the stage reads what its transfer brought, -/
theorem stageO_hit (k : ℕ) (hk hk' h1 h2) (f : BufOf (F := F) c mGo) (w : S256x1024.Idx → Elt F .f32) :
    mGo.view.readAt (Elt F) (Rect.unit (s := S4x256x1024) ![k, 0, 0] S1x256x1024.size hk).toLoadRect
        (View.write (Elt F) ((mGo.slice (Rect.unit (s := S4x256x1024) ![k, 0, 0] S1x256x1024.size hk') h1).squeeze S256x1024 h2).view f w Finset.univ)
      = fun x => w ((Shape.reshapeEquiv h2.numel_eq).symm x) :=
  read_hit mGo.view (Rect.unit (s := S4x256x1024) ![k, 0, 0] S1x256x1024.size hk) S256x1024 h2.numel_eq f w
/-- and another slot's transfer leaves it. -/
theorem stageO_miss (k k' : ℕ) (hk hk' h1 h2) (f : BufOf (F := F) c mGo) (w : S256x1024.Idx → Elt F .f32) (hne : k ≠ k') :
    mGo.view.readAt (Elt F) (Rect.unit (s := S4x256x1024) ![k, 0, 0] S1x256x1024.size hk).toLoadRect
        (View.write (Elt F) ((mGo.slice (Rect.unit (s := S4x256x1024) ![k', 0, 0] S1x256x1024.size hk') h1).squeeze S256x1024 h2).view f w Finset.univ)
      = mGo.view.readAt (Elt F) (Rect.unit (s := S4x256x1024) ![k, 0, 0] S1x256x1024.size hk).toLoadRect f :=
  read_miss mGo.view (Rect.unit (s := S4x256x1024) ![k, 0, 0] S1x256x1024.size hk) (Rect.unit (s := S4x256x1024) ![k', 0, 0] S1x256x1024.size hk') S256x1024 h2.numel_eq f w
    (fun x hx => Rect.not_mem_set_of_axis _ _ 0 k' 1 rfl rfl rfl (by
      have h0 : (x 0).val < 1 := (x 0).isLt
      have : ((Rect.unit (s := S4x256x1024) ![k, 0, 0] S1x256x1024.size hk).emb x 0).val = k + (x 0).val := by
        show k + 1 * (x 0).val = _
        omega
      rw [this]; omega) hx)

/-- The cast array at a place of the padded buffer. -/
def atO (f : BufOf (F := F) c hWo) (y : S2048x1152.Idx) : Elt F .bf16 :=
  winO f (fun | 0 => ⟨(y 0).val, (y 0).isLt⟩ | 1 => ⟨(y 1).val % 1024, Nat.mod_lt _ (by decide)⟩)

theorem inbO (o : ℕ) (h : o + 256 ≤ 2048) : ∀ a, (![o, 0] : Fin 2 → ℕ) a + S256x1024.size a ≤ S2048x1024.size a :=
  fun | 0 => h | 1 => show 0 + S256x1024.size 1 ≤ S2048x1024.size 1 from by decide
theorem inbO' (o : ℕ) (h : o + 256 ≤ 2048) : ∀ a, (![o, 0] : Fin 2 → ℕ) a + S256x1024.size a ≤ S2048x1152.size a :=
  fun | 0 => h | 1 => show 0 + S256x1024.size 1 ≤ S2048x1152.size 1 from by decide

/-- A block of the stage, cast, is the cast array over the block's place. -/
theorem pieceO (o : ℕ) (h : o + 256 ≤ 2048) (v : Vec F S1x256x1024 .f32)
    (hv : ∀ x : S256x1024.Idx, v (Shape.reshapeEquiv shapeCasts_S1x256x1024_S256x1024 x) = fo ((Rect.unit (s := S2048x1024) ![o, 0] S256x1024.size (inbO o h)).emb x)) (x : S256x1024.Idx) :
    k0_pay34 v x = atO c fo ((Rect.unit (s := S2048x1152) ![o, 0] S256x1024.size (inbO' o h)).emb x) := by
  unfold k0_pay34 atO winO
  dsimp only
  simp only [shapeCast, truncf, Shape.reshapeEquiv_self]
  refine congrArg _ ((hv x).trans (congrArg fo (funext fun a => ?_)))
  have h1 : (x 1).val < 1024 := (x 1).isLt
  match a with
  | 0 => exact Fin.ext rfl
  | 1 => exact Fin.ext (by
      show 0 + 1 * (x 1).val = (0 + 1 * (x 1).val) % 1024
      rw [Nat.mod_eq_of_lt (by omega)])

set_option maxHeartbeats 2000000 in
theorem piecesO : ∀ p ∈ (loadRun c i arg2 harg2 arg3 harg3 arg6 harg6 arg7 harg7 arg9 harg9 fi fp fo ggi ggp ggo).1.2.2, ∀ x : p.1.shape.Idx, p.2 x = atO c fo (p.1.emb x) := by
  unfold loadRun
  dsimp only
  sl_unfold_run_names
  intro p hp
  simp only [List.mem_cons, List.not_mem_nil, or_false] at hp
  rcases hp with rfl | rfl | rfl | rfl | rfl | rfl | rfl | rfl <;>
    refine pieceO c fo _ (by decide) _ (fun x => ?_) <;>
    (repeat (first | rw [stageO_hit c] | rw [stageO_miss c])) <;>
    first
      | decide
      | (dsimp only; erw [Equiv.symm_apply_apply]; rfl)

/-! ## The weight buffers as loaded -/

/-- Blocks of `b` rows, the newest written last in the list's order. -/
def rowTree (b : ℕ) : ℕ → LoadRect.Cov
  | 0 => .leaf 0
  | n + 1 => .split 0 b (.leaf (n + 1)) (rowTree b n)

theorem atI_emb (x : rWi.shape.Idx) : atI c fi (rWi.emb x) = winI fi x := by
  unfold atI
  refine congrArg (winI fi) (funext fun a => ?_)
  have h1 : (x 1).val < 6144 := (x 1).isLt
  match a with
  | 0 => exact Fin.ext (show 0 + 1 * (x 0).val = (x 0).val by omega)
  | 1 => exact Fin.ext (by
      show (0 + 1 * (x 1).val) % 6144 = (x 1).val
      rw [Nat.mod_eq_of_lt (by omega)]; omega)

/-- After the transfers the buffer holds the array, cast. -/
theorem loadedI (gwi : BufOf (F := F) c mWi) :
    mWi.view.readAt (Elt F) rWi.toLoadRect (mWi.view.writes (Elt F) gwi (loadRun c i arg2 harg2 arg3 harg3 arg6 harg6 arg7 harg7 arg9 harg9 fi fp fo ggi ggp ggo).1.1) = winI fi := by
  funext x
  exact (View.read_writes_apply_of_pieces mWi.view gwi (atI c fi) _ (piecesI c i arg2 harg2 arg3 harg3 arg6 harg6 arg7 harg7 arg9 harg9 fi fp fo ggi ggp ggo) _
    (LoadRect.cover_of_covChk (loadRun c i arg2 harg2 arg3 harg3 arg6 harg6 arg7 harg7 arg9 harg9 fi fp fo ggi ggp ggo).1.1 rWi.toLoadRect (rowTree 32 31) (by sl_kernel_rfl) x)).trans (atI_emb c fi x)

theorem atP_emb (x : rWp.shape.Idx) : atP c fp (rWp.emb x) = winP fp x := by
  unfold atP
  refine congrArg (winP fp) (funext fun a => ?_)
  have h1 : (x 1).val < 256 := (x 1).isLt
  match a with
  | 0 => exact Fin.ext (show 0 + 1 * (x 0).val = (x 0).val by omega)
  | 1 => exact Fin.ext (by
      show (0 + 1 * (x 1).val) % 256 = (x 1).val
      rw [Nat.mod_eq_of_lt (by omega)]; omega)

/-- After the transfers the buffer holds the array, cast. -/
theorem loadedP (gwp : BufOf (F := F) c mWp) :
    mWp.view.readAt (Elt F) rWp.toLoadRect (mWp.view.writes (Elt F) gwp (loadRun c i arg2 harg2 arg3 harg3 arg6 harg6 arg7 harg7 arg9 harg9 fi fp fo ggi ggp ggo).1.2.1) = winP fp := by
  funext x
  exact (View.read_writes_apply_of_pieces mWp.view gwp (atP c fp) _ (piecesP c i arg2 harg2 arg3 harg3 arg6 harg6 arg7 harg7 arg9 harg9 fi fp fo ggi ggp ggo) _
    (LoadRect.cover_of_covChk (loadRun c i arg2 harg2 arg3 harg3 arg6 harg6 arg7 harg7 arg9 harg9 fi fp fo ggi ggp ggo).1.2.1 rWp.toLoadRect (rowTree 1024 0) (by sl_kernel_rfl) x)).trans (atP_emb c fp x)

theorem atO_emb (x : rWo.shape.Idx) : atO c fo (rWo.emb x) = winO fo x := by
  unfold atO
  refine congrArg (winO fo) (funext fun a => ?_)
  have h1 : (x 1).val < 1024 := (x 1).isLt
  match a with
  | 0 => exact Fin.ext (show 0 + 1 * (x 0).val = (x 0).val by omega)
  | 1 => exact Fin.ext (by
      show (0 + 1 * (x 1).val) % 1024 = (x 1).val
      rw [Nat.mod_eq_of_lt (by omega)]; omega)

/-- After the transfers the buffer holds the array, cast. -/
theorem loadedO (gwo : BufOf (F := F) c mWo) :
    mWo.view.readAt (Elt F) rWo.toLoadRect (mWo.view.writes (Elt F) gwo (loadRun c i arg2 harg2 arg3 harg3 arg6 harg6 arg7 harg7 arg9 harg9 fi fp fo ggi ggp ggo).1.2.2) = winO fo := by
  funext x
  exact (View.read_writes_apply_of_pieces mWo.view gwo (atO c fo) _ (piecesO c i arg2 harg2 arg3 harg3 arg6 harg6 arg7 harg7 arg9 harg9 fi fp fo ggi ggp ggo) _
    (LoadRect.cover_of_covChk (loadRun c i arg2 harg2 arg3 harg3 arg6 harg6 arg7 harg7 arg9 harg9 fi fp fo ggi ggp ggo).1.2.2 rWo.toLoadRect (rowTree 256 7) (by sl_kernel_rfl) x)).trans (atO_emb c fo x)

end Cert.KernelIdeal.Even

end
-- ==== Proof.Ideal.Body.lean ====
/- What each point of the grid finds, what it leaves, and that the body meets the launch's obligation at every point. -/
module

public import proofs.«01_k».proof.Proof.Ideal.Weights
public import proofs.«01_k».proof.Proof.Ideal.Rest

@[expose] public section

set_option maxRecDepth 16384

noncomputable section

namespace Cert.KernelIdeal.Even

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Writing over a rectangle what it holds changes nothing. -/
theorem writes_self {κ : Kind} {sp : Space} {S : Shape} {e : EltTy} (v : View sig κ sp S e) (f : v.ty.Contents (Elt F))
    (r : Rect S) (w : r.shape.Idx → Elt F e) (h : v.readAt (Elt F) r.toLoadRect f = w) : v.writes (Elt F) f [⟨r, w⟩] = f := by
  subst h
  refine View.contents_ext v (fun y => ?_) (fun i hi => View.writes_apply_of_forall_ne v f _ hi)
  by_cases hy : y ∈ r.set
  · obtain ⟨x, rfl⟩ : ∃ x, r.emb x = y := r.exists_idx_of_mem hy
    rw [View.read_writes_cons_emb]
    rfl
  · exact View.read_writes_apply_of_forall_not_mem v f y _ (fun p hp => by
      rw [List.mem_singleton] at hp; subst hp; exact hy)

/-- After a write over a rectangle the rectangle reads what was written. -/
theorem readAt_writes_head {κ : Kind} {sp : Space} {S : Shape} {e : EltTy} (v : View sig κ sp S e) (f : v.ty.Contents (Elt F))
    (r : Rect S) (w : r.shape.Idx → Elt F e) (L : List (View.Piece (Elt F) S e)) :
    v.readAt (Elt F) r.toLoadRect (v.writes (Elt F) f (⟨r, w⟩ :: L)) = w := by
  funext x
  exact View.read_writes_cons_emb v f r w L x

/-! ## What a point finds and leaves -/

/-- The blocks a point reads. -/
abbrev xB (c : Dev nD) (t : Fin cfg0.N) : Vec F S1x1024x1024 .f32 := iblk m c 0 t
abbrev gB (c : Dev nD) (t : Fin cfg0.N) : Vec F S2x1024 .f32 := iblk m c 1 t
abbrev psB (c : Dev nD) (t : Fin cfg0.N) : Vec F S1x1024 .f32 := iblk m c 2 t
abbrev cwB (c : Dev nD) (t : Fin cfg0.N) : Vec F S1x3x1024 .f32 := iblk m c 3 t

/-- What point `t` writes, from the rows `cu`, `cc` it was left. -/
abbrev restAt (c : Dev nD) (t : Fin cfg0.N) (cu : Vec F S8x32x128 .f32) (cc : Vec F S8x8x128 .f32) :=
  rest c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4))
    (xB m c t) (gB m c t) (psB m c t) (cwB m c t) (winI (Gen.V m c main_v0)) (winP (Gen.V m c main_v4)) (winO (Gen.V m c main_v3)) cu cc

/-- The rows point `t` leaves to the next. -/
def leaves (c : Dev nD) (t : Fin cfg0.N) (cu : Vec F S8x32x128 .f32) (cc : Vec F S8x8x128 .f32) : Vec F S8x32x128 .f32 × Vec F S8x8x128 .f32 :=
  (mU.view.readAt (Elt F) rU.toLoadRect (mU.view.writes (Elt F) mU.view.junk (restAt m c t cu cc).1.2.1),
    mC.view.readAt (Elt F) rC.toLoadRect (mC.view.writes (Elt F) mC.view.junk (restAt m c t cu cc).1.2.2))

/-- The rows before point `n`'s own: zeros at a sequence's first, else what the point before left. -/
def carry (c : Dev nD) : ℕ → Vec F S8x32x128 .f32 × Vec F S8x8x128 .f32
  | 0 => (k0_pay43, k0_pay44)
  | n + 1 => if (n + 1) % 8 = 0 then (k0_pay43, k0_pay44) else
      if h : n < 32 then leaves m c ⟨n, h.trans_eq N_0.symm⟩ (carry c n).1 (carry c n).2 else (k0_pay43, k0_pay44)

theorem carry_start (c : Dev nD) (n : ℕ) (h : n % 8 = 0) : carry m c n = (k0_pay43, k0_pay44) := by
  cases n with
  | zero => rfl
  | succ n => unfold carry; rw [if_pos h]

theorem carry_succ (c : Dev nD) (t : Fin cfg0.N) (h : (t.val + 1) % 8 ≠ 0) :
    carry m c (t.val + 1) = leaves m c t (carry m c t.val).1 (carry m c t.val).2 := by
  have ht : t.val < 32 := t.isLt.trans_eq N_0
  rw [carry, if_neg h, dif_pos ht]

/-- What point `t` writes. -/
abbrev runAt (c : Dev nD) (t : Fin cfg0.N) := restAt m c t (carry m c t.val).1 (carry m c t.val).2

/-- The point's four pieces of the result tile its block. -/
theorem cover4 (c : Dev nD) (t : Fin cfg0.N) (cu : Vec F S8x32x128 .f32) (cc : Vec F S8x8x128 .f32) (y : S1x1024x1024.Idx) :
    ∃ pc ∈ (restAt m c t cu cc).1.1, y ∈ pc.1.set :=
  View.cover_of_tiledL (restAt m c t cu cc).1.1 S1x256x1024.size (by sl_kernel_rfl) y

/-- The result's block at point `t`. -/
def outAt (c : Dev nD) (t : Fin cfg0.N) : Vec F S1x1024x1024 .f32 := View.canon (runAt m c t).1.1

theorem headU (c : Dev nD) (t : Fin cfg0.N) (cu : Vec F S8x32x128 .f32) (cc : Vec F S8x8x128 .f32) :
    ∃ w L, (restAt m c t cu cc).1.2.1 = ⟨rU, w⟩ :: L := by
  unfold restAt rest
  exact ⟨_, _, rfl⟩
theorem rowsU (c : Dev nD) (t : Fin cfg0.N) (cu : Vec F S8x32x128 .f32) (cc : Vec F S8x8x128 .f32) (f : BufOf (F := F) c mU) :
    mU.view.readAt (Elt F) rU.toLoadRect (mU.view.writes (Elt F) f (restAt m c t cu cc).1.2.1) = (leaves m c t cu cc).1 :=
by
  obtain ⟨w, L, h⟩ := headU m c t cu cc
  unfold leaves
  dsimp only
  rw [h, readAt_writes_head, readAt_writes_head]

theorem headC (c : Dev nD) (t : Fin cfg0.N) (cu : Vec F S8x32x128 .f32) (cc : Vec F S8x8x128 .f32) :
    ∃ w L, (restAt m c t cu cc).1.2.2 = ⟨rC, w⟩ :: L := by
  unfold restAt rest
  exact ⟨_, _, rfl⟩
theorem rowsC (c : Dev nD) (t : Fin cfg0.N) (cu : Vec F S8x32x128 .f32) (cc : Vec F S8x8x128 .f32) (f : BufOf (F := F) c mC) :
    mC.view.readAt (Elt F) rC.toLoadRect (mC.view.writes (Elt F) f (restAt m c t cu cc).1.2.2) = (leaves m c t cu cc).2 :=
by
  obtain ⟨w, L, h⟩ := headC m c t cu cc
  unfold leaves
  dsimp only
  rw [h, readAt_writes_head, readAt_writes_head]

/-! ## The invariant -/

/-- What the core holds before point `n`, beside the windows: the row buffers with the carried rows, and from the second
    point on the three weights, cast. -/
def Inv (c : Dev nD) (n : ℕ) : sProp 𝕄 :=
  iprop(iprop((∃ f, ⌜n % 8 ≠ 0 → mU.view.readAt (Elt F) rU.toLoadRect f = (carry m c n).1⌝ ∗ pt c mU f) ∗ (∃ f, pt c mS2 f) ∗ (∃ f, pt c mS4 f)
        ∗ (∃ f, ⌜n % 8 ≠ 0 → mC.view.readAt (Elt F) rC.toLoadRect f = (carry m c n).2⌝ ∗ pt c mC f)
        ∗ (∃ f, ⌜n ≠ 0 → mWi.view.readAt (Elt F) rWi.toLoadRect f = winI (Gen.V m c main_v0)⌝ ∗ pt c mWi f)
        ∗ (∃ f, ⌜n ≠ 0 → mWp.view.readAt (Elt F) rWp.toLoadRect f = winP (Gen.V m c main_v4)⌝ ∗ pt c mWp f)
        ∗ (∃ f, ⌜n ≠ 0 → mWo.view.readAt (Elt F) rWo.toLoadRect f = winO (Gen.V m c main_v3)⌝ ∗ pt c mWo f)
        ∗ (∃ f, pt c mGi f) ∗ (∃ f, pt c mGp f) ∗ (∃ f, pt c mGo f))
      ∗ (∃ r, prngReg c r) ∗ cells c
      ∗ iprop(pt c hWi (Gen.V m c main_v0) ∗ pt c hWp (Gen.V m c main_v4) ∗ pt c hWo (Gen.V m c main_v3)))

theorem inv_in (c : Dev nD) : Pipeline.ΦD osem0 spec0 H0 (Gen.V m) c ⊢ (Inv m c 0 : sProp 𝕄) := by
  rw [PhiD0_eq]; unfold Inv
  iintro ⟨⟨⟨%f0, H0⟩, H1, H2, ⟨%f3, H3⟩, ⟨%f4, H4⟩, ⟨%f5, H5⟩, ⟨%f6, H6⟩, H7⟩, HR⟩
  isplitr [HR]; swap; · iexact HR
  isplitl [H0]; · iexists f0; isplitr; · ipureintro; exact fun h => absurd rfl h
                  iexact H0
  isplitl [H1]; · iexact H1
  isplitl [H2]; · iexact H2
  isplitl [H3]; · iexists f3; isplitr; · ipureintro; exact fun h => absurd rfl h
                  iexact H3
  isplitl [H4]; · iexists f4; isplitr; · ipureintro; exact fun h => absurd rfl h
                  iexact H4
  isplitl [H5]; · iexists f5; isplitr; · ipureintro; exact fun h => absurd rfl h
                  iexact H5
  isplitl [H6]; · iexists f6; isplitr; · ipureintro; exact fun h => absurd rfl h
                  iexact H6
  iexact H7

theorem inv_out (c : Dev nD) (n : ℕ) : (Inv m c n : sProp 𝕄) ⊢ Pipeline.ΦD osem0 spec0 H0 (Gen.V m) c := by
  rw [PhiD0_eq]; unfold Inv
  iintro ⟨⟨⟨%f0, -, H0⟩, H1, H2, ⟨%f3, -, H3⟩, ⟨%f4, -, H4⟩, ⟨%f5, -, H5⟩, ⟨%f6, -, H6⟩, H7⟩, HR⟩
  isplitr [HR]; swap; · iexact HR
  isplitl [H0]; · iexists _; iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  iexact H7

/-! ## The conditions -/

theorem isFirst_iff : ∀ t : Fin cfg0.N, isFirst (grid0.coords t) ↔ t.val = 0 := by decide +kernel
theorem isStart_iff : ∀ t : Fin cfg0.N, isStart (grid0.coords t) ↔ t.val % 8 = 0 := by decide +kernel

/-- The zeros go over the carried rows. -/
theorem zeros_run (c : Dev nD) (f : BufOf (F := F) c mU) (f' : BufOf (F := F) c mC) (K : PUnit → sProp 𝕄) :
    iprop(pt c mU f ∗ pt c mC f' ∗ (iprop(pt c mU (mU.view.writes (Elt F) f [⟨rU, k0_pay43⟩]) ∗ pt c mC (mC.view.writes (Elt F) f' [⟨rC, k0_pay44⟩])) -∗ K ⟨⟩))
      ⊢ wp frame (wpE (defs₀ (F := F)) Variants.none c none) Set.univ (zeros (F := F)) K := by
  unfold zeros
  iintro ⟨HU, HC, Hk⟩
  sl_exec
  sl_step
  iapply Hk
  isplitl [HU]; · iexact HU
  iexact HC

/-! ## The body at a point -/

/-- What the body is given, and gives back, beside the invariant: the windows' buffers and its own waits. -/
def winPre (c : Dev nD) (t : Fin cfg0.N) : sProp 𝕄 :=
  iprop(at' c (st0_0 t) (xB m c t) ∗ at' c (st0_1 t) (gB m c t) ∗ at' c (st0_2 t) (psB m c t) ∗ at' c (st0_3 t) (cwB m c t)
    ∗ (∃ d, owns (c : Thread nD τ) (st0_4 t) fullShare d))
def winPost (c : Dev nD) (t : Fin cfg0.N) : sProp 𝕄 :=
  iprop(at' c (st0_0 t) (xB m c t) ∗ at' c (st0_1 t) (gB m c t) ∗ at' c (st0_2 t) (psB m c t) ∗ at' c (st0_3 t) (cwB m c t)
    ∗ owns (c : Thread nD τ) (st0_4 t) fullShare (outAt m c t) ∗ (∃ W', owes (c : Thread nD τ) 0 W'))

/-- The five buffers a point's rest takes, at what it should find there. -/
def heldAt (c : Dev nD) (n : ℕ) : sProp 𝕄 :=
  iprop((∃ f, ⌜mU.view.readAt (Elt F) rU.toLoadRect f = (carry m c n).1⌝ ∗ pt c mU f) ∗ (∃ f, pt c mS2 f) ∗ (∃ f, pt c mS4 f)
        ∗ (∃ f, ⌜mC.view.readAt (Elt F) rC.toLoadRect f = (carry m c n).2⌝ ∗ pt c mC f)
        ∗ (∃ f, ⌜mWi.view.readAt (Elt F) rWi.toLoadRect f = winI (Gen.V m c main_v0)⌝ ∗ pt c mWi f)
        ∗ (∃ f, ⌜mWp.view.readAt (Elt F) rWp.toLoadRect f = winP (Gen.V m c main_v4)⌝ ∗ pt c mWp f)
        ∗ (∃ f, ⌜mWo.view.readAt (Elt F) rWo.toLoadRect f = winO (Gen.V m c main_v3)⌝ ∗ pt c mWo f))
def leftAt (c : Dev nD) (n : ℕ) : sProp 𝕄 :=
  iprop((∃ f, ⌜n % 8 ≠ 0 → mU.view.readAt (Elt F) rU.toLoadRect f = (carry m c n).1⌝ ∗ pt c mU f) ∗ (∃ f, pt c mS2 f) ∗ (∃ f, pt c mS4 f)
        ∗ (∃ f, ⌜n % 8 ≠ 0 → mC.view.readAt (Elt F) rC.toLoadRect f = (carry m c n).2⌝ ∗ pt c mC f)
        ∗ (∃ f, ⌜n ≠ 0 → mWi.view.readAt (Elt F) rWi.toLoadRect f = winI (Gen.V m c main_v0)⌝ ∗ pt c mWi f)
        ∗ (∃ f, ⌜n ≠ 0 → mWp.view.readAt (Elt F) rWp.toLoadRect f = winP (Gen.V m c main_v4)⌝ ∗ pt c mWp f)
        ∗ (∃ f, ⌜n ≠ 0 → mWo.view.readAt (Elt F) rWo.toLoadRect f = winO (Gen.V m c main_v3)⌝ ∗ pt c mWo f))

/-- The body past its conditional stretches. -/
abbrev restProg (t : Fin cfg0.N) : Prog (TpuEff nD τ sig (Elt F) Λ₀ .tc) PUnit :=
  tail26 (grid0.coords t) (st0_0 t) (st0_1 t)
    >>= (after26 (F := F) (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3))
      (st0_4 t) (hstage0_4 ((cfg0.slots t 4).cast nbuf0_4))).1

theorem rest_run (c : Dev nD) (t : Fin cfg0.N) (W : Waits sig Unit) (K : PUnit → sProp 𝕄) :
    iprop(winPre m c t ∗ heldAt m c t.val ∗ owes (c : Thread nD τ) 0 W
        ∗ (iprop(winPost m c t ∗ leftAt m c (t.val + 1)) -∗ K ⟨⟩))
      ⊢ wp frame (wpE (defs₀ (F := F)) Variants.none c none) Set.univ (restProg (F := F) t) K := by
  unfold winPre heldAt
  iintro ⟨⟨H2, H3, H6, H7, H9⟩, ⟨⟨%fU, %hU, HU⟩, HS2, HS4, ⟨%fC, %hC, HC⟩, ⟨%fi, %hi, HWi⟩, ⟨%fp, %hp, HWp⟩, ⟨%fo, %ho, HWo⟩⟩, HW, Hk⟩
  have eU := writes_self mU.view fU rU _ hU
  have eC := writes_self mC.view fC rC _ hC
  have ei := writes_self mWi.view fi rWi _ hi
  have ep := writes_self mWp.view fp rWp _ hp
  have eo := writes_self mWo.view fo rWo _ ho
  have hrun := (runAt m c t).2 fU fC fi fp fo W K
  rw [eU, eC, ei, ep, eo] at hrun
  iapply hrun
  isplitl [H2]; · iexact H2
  isplitl [H3]; · iexact H3
  isplitl [H6]; · iexact H6
  isplitl [H7]; · iexact H7
  isplitl [H9]; · iexact H9
  isplitl [HU]; · iexact HU
  isplitl [HS2]; · iexact HS2
  isplitl [HS4]; · iexact HS4
  isplitl [HC]; · iexact HC
  isplitl [HWi]; · iexact HWi
  isplitl [HWp]; · iexact HWp
  isplitl [HWo]; · iexact HWo
  isplitl [HW]; · iexact HW
  iintro ⟨H2, H3, H6, H7, ⟨%f9, H9⟩, HU, HS2, HS4, HC, HWi, HWp, HWo, HW⟩
  iapply Hk
  unfold winPost leftAt
  isplitl [H2 H3 H6 H7 H9 HW]
  · isplitl [H2]; · iexact H2
    isplitl [H3]; · iexact H3
    isplitl [H6]; · iexact H6
    isplitl [H7]; · iexact H7
    isplitl [H9]
    · unfold owns; iexists _; isplitr
      swap; · iexact H9
      ipureintro; exact View.read_writes_eq_canon _ _ _ (cover4 m c t _ _)
    iexact HW
  isplitl [HU]
  · iexists _; isplitr
    swap; · iexact HU
    ipureintro; exact fun h => (rowsU m c t _ _ _).trans (congrArg Prod.fst (carry_succ m c t h).symm)
  isplitl [HS2]; · iexact HS2
  isplitl [HS4]; · iexact HS4
  isplitl [HC]
  · iexists _; isplitr
    swap; · iexact HC
    ipureintro; exact fun h => (rowsC m c t _ _ _).trans (congrArg Prod.snd (carry_succ m c t h).symm)
  isplitl [HWi]
  · iexists _; isplitr
    swap; · iexact HWi
    ipureintro; exact fun _ => hi
  isplitl [HWp]
  · iexists _; isplitr
    swap; · iexact HWp
    ipureintro; exact fun _ => hp
  iexists _; isplitr
  swap; · iexact HWo
  ipureintro; exact fun _ => ho

/-- The body at any point: its conditional stretches first, whichever the point runs. -/
theorem body_run (c : Dev nD) (t : Fin cfg0.N) (W : Waits sig Unit) (K : PUnit → sProp 𝕄) :
    iprop(winPre m c t ∗ Inv m c t.val ∗ owes (c : Thread nD τ) 0 W
        ∗ (iprop(winPost m c t ∗ Inv m c (t.val + 1)) -∗ K ⟨⟩))
      ⊢ wp frame (wpE (defs₀ (F := F)) Variants.none c none) Set.univ (bodyAt0 (F := F) t) K := by
  by_cases hs : isStart (grid0.coords t)
  · have hs' := (isStart_iff t).mp hs
    have hz := carry_start m c t.val hs'
    by_cases hf : isFirst (grid0.coords t)
    · have hf' := (isFirst_iff t).mp hf
      rw [show bodyAt0 (F := F) t = _ from body_first (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3))
      (st0_4 t) (hstage0_4 ((cfg0.slots t 4).cast nbuf0_4)) hf hs, wp_bind]
      unfold Inv
      iintro ⟨Hwin, ⟨⟨⟨%fU, -, HU⟩, HS2, HS4, ⟨%fC, -, HC⟩, ⟨%fi, -, HWi⟩, ⟨%fp, -, HWp⟩, ⟨%fo, -, HWo⟩, ⟨%ggi, HGi⟩, ⟨%ggp, HGp⟩, ⟨%ggo, HGo⟩⟩, Hr, Hq, ⟨Hhi, Hhp, Hho⟩⟩, HW, Hk⟩
      iapply ((loadRun c (grid0.coords t) (st0_0 t) (hstage0_0 ((cfg0.slots t 0).cast nbuf0_0)) (st0_1 t) (hstage0_1 ((cfg0.slots t 1).cast nbuf0_1))
        (st0_2 t) (hstage0_2 ((cfg0.slots t 2).cast nbuf0_2)) (st0_3 t) (hstage0_3 ((cfg0.slots t 3).cast nbuf0_3))
        (st0_4 t) (hstage0_4 ((cfg0.slots t 4).cast nbuf0_4)) (Gen.V m c main_v0) (Gen.V m c main_v4) (Gen.V m c main_v3) ggi ggp ggo).2 fi fp fo W _)
      isplitl [Hhi]; · iexact Hhi
      isplitl [Hhp]; · iexact Hhp
      isplitl [Hho]; · iexact Hho
      isplitl [HWi]; · iexact HWi
      isplitl [HWp]; · iexact HWp
      isplitl [HWo]; · iexact HWo
      isplitl [HGi]; · iexact HGi
      isplitl [HGp]; · iexact HGp
      isplitl [HGo]; · iexact HGo
      isplitl [Hq]; · iexact Hq
      isplitl [HW]; · iexact HW
      iintro ⟨Hhi, Hhp, Hho, HWi, HWp, HWo, HGi, HGp, HGo, Hq, ⟨%W', HW⟩⟩
      rw [wp_bind]
      iapply (zeros_run c fU fC _)
      isplitl [HU]; · iexact HU
      isplitl [HC]; · iexact HC
      iintro ⟨HU, HC⟩
      iapply (rest_run m c t W' K)
      isplitl [Hwin]; · iexact Hwin
      isplitl [HU HS2 HS4 HC HWi HWp HWo]
      · unfold heldAt; rw [hz]
        isplitl [HU]
        · iexists _; isplitr
          swap; · iexact HU
          ipureintro; exact readAt_writes_head _ _ _ _ _
        isplitl [HS2]; · iexact HS2
        isplitl [HS4]; · iexact HS4
        isplitl [HC]
        · iexists _; isplitr
          swap; · iexact HC
          ipureintro; exact readAt_writes_head _ _ _ _ _
        isplitl [HWi]
        · iexists _; isplitr
          swap; · iexact HWi
          ipureintro; exact loadedI ..
        isplitl [HWp]
        · iexists _; isplitr
          swap; · iexact HWp
          ipureintro; exact loadedP ..
        iexists _; isplitr
        swap; · iexact HWo
        ipureintro; exact loadedO ..
      isplitl [HW]; · iexact HW
      iintro ⟨Hwin, Hleft⟩
      iapply Hk
      isplitl [Hwin]; · iexact Hwin
      unfold leftAt
      icases Hleft with ⟨HU, HS2, HS4, HC, HWi, HWp, HWo⟩
      isplitr [Hr Hq Hhi Hhp Hho]
      · isplitl [HU]; · iexact HU
        isplitl [HS2]; · iexact HS2
        isplitl [HS4]; · iexact HS4
        isplitl [HC]; · iexact HC
        isplitl [HWi]; · iexact HWi
        isplitl [HWp]; · iexact HWp
        isplitl [HWo]; · iexact HWo
        isplitl [HGi]; · iexact HGi
        isplitl [HGp]; · iexact HGp
        iexact HGo
      isplitl [Hr]; · iexact Hr
      isplitl [Hq]; · iexact Hq
      isplitl [Hhi]; · iexact Hhi
      isplitl [Hhp]; · iexact Hhp
      iexact Hho
    · have hf' : t.val ≠ 0 := fun h => hf ((isFirst_iff t).mpr h)
      rw [show bodyAt0 (F := F) t = _ from body_start (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3))
      (st0_4 t) (hstage0_4 ((cfg0.slots t 4).cast nbuf0_4)) hf hs, wp_bind]
      unfold Inv
      iintro ⟨Hwin, ⟨⟨⟨%fU, -, HU⟩, HS2, HS4, ⟨%fC, -, HC⟩, ⟨%fi, %hi, HWi⟩, ⟨%fp, %hp, HWp⟩, ⟨%fo, %ho, HWo⟩, HG⟩, HR⟩, HW, Hk⟩
      iapply (zeros_run c fU fC _)
      isplitl [HU]; · iexact HU
      isplitl [HC]; · iexact HC
      iintro ⟨HU, HC⟩
      iapply (rest_run m c t W K)
      isplitl [Hwin]; · iexact Hwin
      isplitl [HU HS2 HS4 HC HWi HWp HWo]
      · unfold heldAt; rw [hz]
        isplitl [HU]
        · iexists _; isplitr
          swap; · iexact HU
          ipureintro; exact readAt_writes_head _ _ _ _ _
        isplitl [HS2]; · iexact HS2
        isplitl [HS4]; · iexact HS4
        isplitl [HC]
        · iexists _; isplitr
          swap; · iexact HC
          ipureintro; exact readAt_writes_head _ _ _ _ _
        isplitl [HWi]
        · iexists _; isplitr
          swap; · iexact HWi
          ipureintro; exact hi hf'
        isplitl [HWp]
        · iexists _; isplitr
          swap; · iexact HWp
          ipureintro; exact hp hf'
        iexists _; isplitr
        swap; · iexact HWo
        ipureintro; exact ho hf'
      isplitl [HW]; · iexact HW
      iintro ⟨Hwin, Hleft⟩
      iapply Hk
      isplitl [Hwin]; · iexact Hwin
      unfold leftAt
      icases Hleft with ⟨HU, HS2, HS4, HC, HWi, HWp, HWo⟩
      isplitr [HR]; swap; · iexact HR
      isplitl [HU]; · iexact HU
      isplitl [HS2]; · iexact HS2
      isplitl [HS4]; · iexact HS4
      isplitl [HC]; · iexact HC
      isplitl [HWi]; · iexact HWi
      isplitl [HWp]; · iexact HWp
      isplitl [HWo]; · iexact HWo
      iexact HG
  · have hs' : t.val % 8 ≠ 0 := fun h => hs ((isStart_iff t).mpr h)
    have hf' : t.val ≠ 0 := fun h => hs' (by rw [h])
    have hf : ¬ isFirst (grid0.coords t) := fun h => hf' ((isFirst_iff t).mp h)
    rw [show bodyAt0 (F := F) t = _ from body_mid (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3))
      (st0_4 t) (hstage0_4 ((cfg0.slots t 4).cast nbuf0_4)) hf hs]
    unfold Inv
    iintro ⟨Hwin, ⟨⟨⟨%fU, %hU, HU⟩, HS2, HS4, ⟨%fC, %hC, HC⟩, ⟨%fi, %hi, HWi⟩, ⟨%fp, %hp, HWp⟩, ⟨%fo, %ho, HWo⟩, HG⟩, HR⟩, HW, Hk⟩
    iapply (rest_run m c t W K)
    isplitl [Hwin]; · iexact Hwin
    isplitl [HU HS2 HS4 HC HWi HWp HWo]
    · unfold heldAt
      isplitl [HU]
      · iexists _; isplitr
        swap; · iexact HU
        ipureintro; exact hU hs'
      isplitl [HS2]; · iexact HS2
      isplitl [HS4]; · iexact HS4
      isplitl [HC]
      · iexists _; isplitr
        swap; · iexact HC
        ipureintro; exact hC hs'
      isplitl [HWi]
      · iexists _; isplitr
        swap; · iexact HWi
        ipureintro; exact hi hf'
      isplitl [HWp]
      · iexists _; isplitr
        swap; · iexact HWp
        ipureintro; exact hp hf'
      iexists _; isplitr
      swap; · iexact HWo
      ipureintro; exact ho hf'
    isplitl [HW]; · iexact HW
    iintro ⟨Hwin, Hleft⟩
    iapply Hk
    isplitl [Hwin]; · iexact Hwin
    unfold leftAt
    icases Hleft with ⟨HU, HS2, HS4, HC, HWi, HWp, HWo⟩
    isplitr [HR]; swap; · iexact HR
    isplitl [HU]; · iexact HU
    isplitl [HS2]; · iexact HS2
    isplitl [HS4]; · iexact HS4
    isplitl [HC]; · iexact HC
    isplitl [HWi]; · iexact HWi
    isplitl [HWp]; · iexact HWp
    isplitl [HWo]; · iexact HWo
    iexact HG

end Cert.KernelIdeal.Even

end
-- ==== Proof.Ideal.Run.lean ====
/- The launch: the windows' arrays, the run of @main, and the frame. -/
module

public import proofs.«01_k».proof.Proof.Ideal.Body

@[expose] public section

set_option maxRecDepth 16384

noncomputable section

namespace Cert.KernelIdeal.Even

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The proof data of the pipeline on core `c`: an input's buffer keeps its block, the result's holds what the body wrote. -/
def dats (_ : Fin 1) (c : Dev nD) : Dat τ (Elt F) Unit ℕ (Pipeline.UD sig nD τ) ℕ cfg0 c where
  A w := Gen.V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := Inv m c t.val
  q _ := fullShare
  owed _ := 0

theorem A_eq (c : Dev nD) (w : Fin cfg0.W) : (dats m 0 c).A w = Gen.V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]

theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).Φ t.succ = Inv m c (t.val + 1) from rfl, show (dats m 0 c).Φ t.castSucc = Inv m c t.val from rfl,
    after0_0, after0_1, after0_2, after0_3, after0_4]
  simp only [before0_0, before0_1, before0_2, before0_3]
  unfold Dat.owesAt Pipeline.owesWithin
  rw [show (dats m 0 c).owed t.castSucc = 0 from rfl, show (dats m 0 c).owed t.succ = 0 from rfl]
  iintro ⟨HΦ, ⟨%W, -, HW⟩, ⟨%d0, H0⟩, ⟨%d1, H1⟩, ⟨%d2, H2⟩, ⟨%d3, H3⟩, ⟨%d4, H4⟩⟩
  iapply (body_run m c t W _)
  isplitl [H0 H1 H2 H3 H4]
  · unfold winPre
    isplitl [H0]; · iapply (at_of_owns c (st0_0 t) (xB m c t)); iexact H0
    isplitl [H1]; · iapply (at_of_owns c (st0_1 t) (gB m c t)); iexact H1
    isplitl [H2]; · iapply (at_of_owns c (st0_2 t) (psB m c t)); iexact H2
    isplitl [H3]; · iapply (at_of_owns c (st0_3 t) (cwB m c t)); iexact H3
    iexists _; iexact H4
  isplitl [HΦ]; · iexact HΦ
  isplitl [HW]; · iexact HW
  iintro ⟨Hwin, HΦ⟩
  unfold winPost
  icases Hwin with ⟨H0, H1, H2, H3, H4, ⟨%W', HW'⟩⟩
  isplitl [HΦ]; · iexact HΦ
  isplitl [HW']
  · iexists W'; isplitr; · ipureintro; exact fun _ _ => Or.inl trivial
    iexact HW'
  isplitl [H0]; · iapply (owns_of_at c (st0_0 t) (xB m c t)); iexact H0
  isplitl [H1]; · iapply (owns_of_at c (st0_1 t) (gB m c t)); iexact H1
  isplitl [H2]; · iapply (owns_of_at c (st0_2 t) (psB m c t)); iexact H2
  isplitl [H3]; · iapply (owns_of_at c (st0_3 t) (cwB m c t)); iexact H3
  iexact H4

theorem body_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (sound_body m c t) rfl .rfl fun _ => .rfl

set_option backward.isDefEq.respectTransparency.types false in
/-- The run of @main: every array as the pipeline leaves it, every semaphore at zero. -/
theorem run_main : θ_run defs (onTc (τ := τ) (main (F := F))) (s₀ m ρ) (fun r => Pipeline.FramePost cfgs (dats m) 0 (Gen.V m) r ∧ r.2.sem = fun _ => 0) :=
  Pipeline.θ_run_frame_dma (Q' := _) cfgs (dats m) (0 : Fin 1) launch0 osem0 defs₀ Variants.none ownSemFacts0 H0 H0_sub m ρ main
    (hbody := fun c => (obligation m c).loose) (hshare := fun c => (dats m 0 c).share_full fun _ => rfl)
    (howed := fun _ _ => rfl) (V := Gen.V m) (hmain := hmain m Variants.none) (hA := A_eq m)
    (hin := inv_in m) (hout := fun c => inv_out m c _)

/-- The frame: every argument ends as launched, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨((h.1 c).1 0).trans (((dats m 0 c).arrAt_in 0 rfl _).trans ((A_eq m c 0).trans (V_main_arg0 m c))),
    ((h.1 c).1 1).trans (((dats m 0 c).arrAt_in 1 rfl _).trans ((A_eq m c 1).trans (V_main_arg1 m c))),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).1 3).trans (((dats m 0 c).arrAt_in 3 rfl _).trans ((A_eq m c 3).trans (V_main_arg5 m c))),
    ((h.1 c).2 main_arg6 (Pipeline.mem_restRefs_of main_arg6 (by decide) (by decide))).trans (V_main_arg6 m c)⟩, h.2⟩) (run_main m ρ)

end Cert.KernelIdeal.Even

end
-- ==== Proof.Ideal.Math.lean ====
/- What one tile of 1024 rows computes, as functions of row and column numbers over the extended reals. -/
module

public import proofs.«01_k».proof.Proof.Ideal.Rest
public import Idealize.ShloMosaic.Lib.Pointwise

@[expose] public section

set_option maxRecDepth 16384

noncomputable section

namespace Cert.KernelIdeal.Even

open Cert.KernelIdeal Cert.KernelIdeal.Gen
open Idealize.ShloMosaic Idealize.ShloMosaic.TcCoe Idealize.SL.Sem

/-- An array read at row and column numbers. -/
def at2 {n0 n1 : ℕ} (v : (⟨2, ![n0, n1]⟩ : Shape).Idx → EReal) (a b : ℕ) : EReal :=
  if h : a < n0 ∧ b < n1 then v (ix2 ⟨a, h.1⟩ ⟨b, h.2⟩) else 0
def at3 {n0 n1 n2 : ℕ} (v : (⟨3, ![n0, n1, n2]⟩ : Shape).Idx → EReal) (a b c : ℕ) : EReal :=
  if h : a < n0 ∧ b < n1 ∧ c < n2 then v (ix3 ⟨a, h.1⟩ ⟨b, h.2.1⟩ ⟨c, h.2.2⟩) else 0

theorem at2_ix {n0 n1 : ℕ} (v : (⟨2, ![n0, n1]⟩ : Shape).Idx → EReal) (a b : ℕ) (ha : a < n0) (hb : b < n1) :
    at2 v a b = v (ix2 ⟨a, ha⟩ ⟨b, hb⟩) := dif_pos ⟨ha, hb⟩
theorem at3_ix {n0 n1 n2 : ℕ} (v : (⟨3, ![n0, n1, n2]⟩ : Shape).Idx → EReal) (a b c : ℕ) (ha : a < n0) (hb : b < n1) (hc : c < n2) :
    at3 v a b c = v (ix3 ⟨a, ha⟩ ⟨b, hb⟩ ⟨c, hc⟩) := dif_pos ⟨ha, hb, hc⟩

theorem at2_fin {n0 n1 : ℕ} (v : (⟨2, ![n0, n1]⟩ : Shape).Idx → EReal) (a : Fin n0) (b : Fin n1) : at2 v a b = v (ix2 a b) := dif_pos ⟨a.isLt, b.isLt⟩
theorem at3_fin {n0 n1 n2 : ℕ} (v : (⟨3, ![n0, n1, n2]⟩ : Shape).Idx → EReal) (a : Fin n0) (b : Fin n1) (c : Fin n2) : at3 v a b c = v (ix3 a b c) :=
  dif_pos ⟨a.isLt, b.isLt, c.isLt⟩

/-- What the normalisation adds to a row's mean square. -/
abbrev eps : EReal := Ideal.ofBits .f32 0x3727C5AC#32
/-- A row's reciprocal root mean square. -/
def rms (X : ℕ → EReal) : EReal := Ideal.rsqrt (Ideal.div (∑ q : Fin 1024, X q * X q) (Ideal.ofBits .f32 0x44800000#32) + eps)

section
variable (x : Vec Ideal S1x1024x1024 .f32) (g : Vec Ideal S2x1024 .f32) (wi : Vec Ideal S1024x6144 .bf16)

/-- The normalised rows of a tile. -/
def nrm (r k : ℕ) : EReal := at3 x 0 r k * rms (at3 x 0 r) * at2 g 0 k
/-- The projected rows: column `o + k`. -/
def prj (o r k : ℕ) : EReal := ∑ q : Fin 1024, nrm x g r q * at2 wi q (o + k)

/-- Blocks of the arguments, as the body loads them. -/
def rowsX (o : ℕ) : Vec Ideal S1x256x1024 .f32 := fun y => at3 x 0 (o + (y 1).val) (y 2).val
def rowG : Vec Ideal S1x1024 .f32 := fun y => at2 g 0 (y 1).val
def colsW (o : ℕ) : Vec Ideal S1024x1024 .bf16 := fun y => at2 wi (y 0).val (o + (y 1).val)
def projV (q o : ℕ) : FVec Ideal S256x1024 .f32 := fun y => prj x g wi q (o + (y 0).val) (y 1).val

theorem ldX (a : Memref sig .tc .vmem S1x1024x1024 .f32) (o : ℕ) (h : ∀ b, (![0, o, 0] : Fin 3 → ℕ) b + (![1, 256, 1024] : Fin 3 → ℕ) b ≤ S1x1024x1024.size b) :
    a.view.readAt (Elt Ideal) (Rect.unit (s := S1x1024x1024) ![0, o, 0] ![1, 256, 1024] h).toLoadRect (a.view.rep x) = rowsX x o := by
  funext y
  have hb := h 1
  have h0 : (y 0).val < 1 := (y 0).isLt
  have h1 : (y 1).val < 256 := (y 1).isLt
  have h2 : (y 2).val < 1024 := (y 2).isLt
  simp at hb
  rw [View.readAt_eq_ld, View.read_rep]
  unfold rowsX
  rw [at3_ix x 0 _ _ (by decide) (by omega) h2]
  refine congrArg x (funext fun b => Fin.ext ?_)
  match b with
  | 0 => show 0 + 1 * (y 0).val = 0; omega
  | 1 => show o + 1 * (y 1).val = _; simp [ix3]
  | 2 => show 0 + 1 * (y 2).val = _; simp [ix3]

theorem ldG (a : Memref sig .tc .vmem S2x1024 .f32) (h : ∀ b, (![0, 0] : Fin 2 → ℕ) b + (![1, 1024] : Fin 2 → ℕ) b ≤ S2x1024.size b) :
    a.view.readAt (Elt Ideal) (Rect.unit (s := S2x1024) ![0, 0] ![1, 1024] h).toLoadRect (a.view.rep g) = rowG g := by
  funext y
  have h0 : (y 0).val < 1 := (y 0).isLt
  have h1 : (y 1).val < 1024 := (y 1).isLt
  rw [View.readAt_eq_ld, View.read_rep]
  unfold rowG
  rw [at2_ix g 0 _ (by decide) h1]
  refine congrArg g (funext fun b => Fin.ext ?_)
  match b with
  | 0 => show 0 + 1 * (y 0).val = 0; omega
  | 1 => show 0 + 1 * (y 1).val = _; simp [ix2]

/-- Rows from `p`, columns from `q` of a weight. -/
def part2 {n0 n1 : ℕ} (w : Vec Ideal ⟨2, ![n0, n1]⟩ .bf16) (k0 k1 p q : ℕ) : Vec Ideal ⟨2, ![k0, k1]⟩ .bf16 :=
  fun y => at2 (n0 := n0) (n1 := n1) w (p + (y 0).val) (q + (y 1).val)

/-- A weight buffer that one write filled, read at a block of it. -/
theorem ld_weight {n0 n1 n2 n3 k0 k1 : ℕ} (v : View sig .tc .vmem ⟨2, ![n2, n3]⟩ .bf16) (w : Vec Ideal ⟨2, ![n0, n1]⟩ .bf16) (p q : ℕ)
    (h : ∀ b, (![0, 0] : Fin 2 → ℕ) b + (![n0, n1] : Fin 2 → ℕ) b ≤ (⟨2, ![n2, n3]⟩ : Shape).size b)
    (h' : ∀ b, (![p, q] : Fin 2 → ℕ) b + (![k0, k1] : Fin 2 → ℕ) b ≤ (⟨2, ![n2, n3]⟩ : Shape).size b) (hp : p + k0 ≤ n0) (hq : q + k1 ≤ n1) :
    v.readCov [(⟨Rect.unit (s := ⟨2, ![n2, n3]⟩) ![0, 0] ![n0, n1] h, w⟩ : View.Piece (Elt Ideal) _ _)] (Rect.unit (s := ⟨2, ![n2, n3]⟩) ![p, q] ![k0, k1] h').toLoadRect
      = part2 (n0 := n0) (n1 := n1) w k0 k1 p q := by
  funext y
  have h0 : (y 0).val < k0 := (y 0).isLt
  have h1 : (y 1).val < k1 := (y 1).isLt
  refine (View.read_writes_apply_of_pieces v v.junk (fun z => at2 (n0 := n0) (n1 := n1) w (z 0).val (z 1).val) _ ?_ _ ?_).trans ?_
  · intro P hP z
    rw [List.mem_singleton] at hP
    subst hP
    have h0 : (z 0).val < n0 := (z 0).isLt
    have h1 : (z 1).val < n1 := (z 1).isLt
    symm
    refine Eq.trans (congrArg₂ (at2 (n0 := n0) (n1 := n1) w) (show 0 + 1 * (z 0).val = (z 0).val by omega) (show 0 + 1 * (z 1).val = (z 1).val by omega)) ?_
    refine (at2_ix _ _ _ h0 h1).trans (congrArg w (funext fun b => ?_))
    match b with
    | 0 => rfl
    | 1 => rfl
  · refine ⟨_, List.mem_singleton.2 rfl, ?_⟩
    refine (Rect.mem_set_unit (inb := h)).2 ?_
    intro b
    match b with
    | 0 => exact ⟨Nat.zero_le _, show p + 1 * (y 0).val < 0 + n0 by omega⟩
    | 1 => exact ⟨Nat.zero_le _, show q + 1 * (y 1).val < 0 + n1 by omega⟩
  · exact congrArg₂ (at2 (n0 := n0) (n1 := n1) w) (show p + 1 * (y 0).val = _ by omega) (show q + 1 * (y 1).val = _ by omega)

/-- A block of rows, normalised and projected. -/
theorem projV_eq (q o : ℕ) (ho : o + 256 ≤ 1024) : k0_pay51 (F := Ideal) (k0_pay46 (rowsX x o) (rowG g)) (colsW wi q) = projV x g wi q o := by
  funext y
  idx_vars y
  pointwise [k0_pay51, k0_pay46, k0_pay45]
  rfl

/-! ## The row buffers: `K` rows from the tile before, then the tile's own 1024 rows, eight slabs of 128 columns -/

/-- Slab `j`, row `r`, lane `l`: the rows before the tile's are `old`, the tile's own are `new row column`. -/
def buf (K : ℕ) (old : ℕ → ℕ → ℕ → EReal) (new : ℕ → ℕ → EReal) (j r l : ℕ) : EReal := if r < K then old j r l else new (r - K) (128 * j + l)

variable {K : ℕ} (B : ℕ → ℕ → ℕ → EReal)

/-- After `q` of the 32 stores (chunk by chunk, slab by slab) over the rows from before: every piece holds `B`, and the
    rows written are those from before and, of each slab, those of the chunks stored. -/
structure Good (K : ℕ) (B : ℕ → ℕ → ℕ → EReal) (q : ℕ) (L : List (View.Piece (Elt Ideal) ⟨3, ![8, K + 1024, 128]⟩ .f32)) : Prop where
  agree : ∀ p ∈ L, ∀ y : p.1.shape.Idx, p.2 y = B (p.1.emb y 0).val (p.1.emb y 1).val (p.1.emb y 2).val
  full : ∀ y : (⟨3, ![8, K + 1024, 128]⟩ : Shape).Idx, ((y 1).val < K ∨ 8 * (((y 1).val - K) / 256) + (y 0).val < q) → ∃ p ∈ L, y ∈ p.1.set

theorem Good.start {B : ℕ → ℕ → ℕ → EReal} (h : ∀ b, (![0, 0, 0] : Fin 3 → ℕ) b + (![8, K, 128] : Fin 3 → ℕ) b ≤ (⟨3, ![8, K + 1024, 128]⟩ : Shape).size b)
    (w : Vec Ideal ⟨3, ![8, K, 128]⟩ .f32) (hw : ∀ y : (⟨3, ![8, K, 128]⟩ : Shape).Idx, w y = B (y 0).val (y 1).val (y 2).val) :
    Good K B 0 [⟨Rect.unit (s := ⟨3, ![8, K + 1024, 128]⟩) ![0, 0, 0] ![8, K, 128] h, w⟩] where
  agree p hp y := by
    rw [List.mem_singleton] at hp
    subst hp
    refine (hw y).trans ?_
    show _ = B (0 + 1 * (y 0).val) (0 + 1 * (y 1).val) (0 + 1 * (y 2).val)
    simp only [Nat.zero_add, Nat.one_mul]
  full y hy := by
    refine ⟨_, List.mem_singleton.2 rfl, (Rect.mem_set_unit (inb := h)).2 ?_⟩
    have h0 : (y 0).val < 8 := (y 0).isLt
    have h1 : (y 1).val < K := by omega
    have h2 : (y 2).val < 128 := (y 2).isLt
    intro b
    match b with
    | 0 => exact ⟨Nat.zero_le _, show _ < 0 + 8 by omega⟩
    | 1 => exact ⟨Nat.zero_le _, show _ < 0 + K by omega⟩
    | 2 => exact ⟨Nat.zero_le _, show _ < 0 + 128 by omega⟩

theorem Good.cons {B : ℕ → ℕ → ℕ → EReal} {L : List (View.Piece (Elt Ideal) ⟨3, ![8, K + 1024, 128]⟩ .f32)} (c j : ℕ) (hj : j < 8) (hL : Good K B (8 * c + j) L)
    {o : ℕ} (ho : o = K + 256 * c) (h : ∀ b, (![j, o, 0] : Fin 3 → ℕ) b + (![1, 256, 128] : Fin 3 → ℕ) b ≤ (⟨3, ![8, K + 1024, 128]⟩ : Shape).size b)
    (w : Vec Ideal ⟨3, ![1, 256, 128]⟩ .f32) (hw : ∀ y : (⟨3, ![1, 256, 128]⟩ : Shape).Idx, w y = B j (o + (y 1).val) (y 2).val) :
    Good K B (8 * c + j + 1) (⟨Rect.unit (s := ⟨3, ![8, K + 1024, 128]⟩) ![j, o, 0] ![1, 256, 128] h, w⟩ :: L) where
  agree p hp y := by
    rcases List.mem_cons.1 hp with rfl | hp
    · refine (hw y).trans ?_
      have h0 : (y 0).val < 1 := (y 0).isLt
      show _ = B (j + 1 * (y 0).val) (o + 1 * (y 1).val) (0 + 1 * (y 2).val)
      simp only [Nat.zero_add, Nat.one_mul]
      rw [show j + (y 0).val = j by omega]
    · exact hL.agree p hp y
  full y hy := by
    have h0 : (y 0).val < 8 := (y 0).isLt
    have h1 : (y 1).val < K + 1024 := (y 1).isLt
    have h2 : (y 2).val < 128 := (y 2).isLt
    by_cases hc : (y 1).val < K ∨ 8 * (((y 1).val - K) / 256) + (y 0).val < 8 * c + j
    · obtain ⟨p, hp, hm⟩ := hL.full y hc
      exact ⟨p, List.mem_cons_of_mem _ hp, hm⟩
    · have hd := Nat.div_add_mod ((y 1).val - K) 256
      have hm := Nat.mod_lt ((y 1).val - K) (show 256 > 0 by decide)
      have e0 : (y 0).val = j := by omega
      have e1 : ((y 1).val - K) / 256 = c := by omega
      rw [e1] at hd
      refine ⟨_, List.mem_cons_self, (Rect.mem_set_unit (inb := h)).2 ?_⟩
      intro b
      match b with
      | 0 => exact ⟨show j ≤ _ by omega, show _ < j + 1 by omega⟩
      | 1 => exact ⟨show o ≤ _ by omega, show _ < o + 256 by omega⟩
      | 2 => exact ⟨Nat.zero_le _, show _ < 0 + 128 by omega⟩

/-- `n` rows of slab `j` from row `o` on, as the body loads them. -/
def blk (n j o : ℕ) : Vec Ideal ⟨3, ![1, n, 128]⟩ .f32 := fun y => B j (o + (y 1).val) (y 2).val

theorem Good.load {B : ℕ → ℕ → ℕ → EReal} {L : List (View.Piece (Elt Ideal) ⟨3, ![8, K + 1024, 128]⟩ .f32)} {q : ℕ} (hL : Good K B q L)
    (v : View sig .tc .vmem ⟨3, ![8, K + 1024, 128]⟩ .f32) (n j o : ℕ)
    (h : ∀ b, (![j, o, 0] : Fin 3 → ℕ) b + (![1, n, 128] : Fin 3 → ℕ) b ≤ (⟨3, ![8, K + 1024, 128]⟩ : Shape).size b)
    (hq : o + n ≤ K ∨ 8 * ((o + n - 1 - K) / 256) + j < q) :
    v.readCov L (Rect.unit (s := ⟨3, ![8, K + 1024, 128]⟩) ![j, o, 0] ![1, n, 128] h).toLoadRect = blk B n j o := by
  funext y
  have h0 : (y 0).val < 1 := (y 0).isLt
  have h1 : (y 1).val < n := (y 1).isLt
  refine (View.read_writes_apply_of_pieces v v.junk (fun z : (⟨3, ![8, K + 1024, 128]⟩ : Shape).Idx => B (z 0).val (z 1).val (z 2).val) _ hL.agree _ (hL.full _ ?_)).trans ?_
  · show o + 1 * (y 1).val < K ∨ 8 * ((o + 1 * (y 1).val - K) / 256) + (j + 1 * (y 0).val) < q
    have := Nat.div_le_div_right (c := 256) (show o + 1 * (y 1).val - K ≤ o + n - 1 - K by omega)
    omega
  · show B (j + 1 * (y 0).val) (o + 1 * (y 1).val) (0 + 1 * (y 2).val) = B j (o + (y 1).val) (y 2).val
    simp only [Nat.zero_add, Nat.one_mul]
    rw [show j + (y 0).val = j by omega]

/-- A slab just stored whole, read from one of its rows on. -/
theorem ld_head {n0 n1 n : ℕ} (v : View sig .tc .vmem ⟨3, ![n0, n1, 128]⟩ .f32) (j o : ℕ) (w : Vec Ideal ⟨3, ![1, n1, 128]⟩ .f32)
    (L : List (View.Piece (Elt Ideal) ⟨3, ![n0, n1, 128]⟩ .f32))
    (h : ∀ b, (![j, 0, 0] : Fin 3 → ℕ) b + (![1, n1, 128] : Fin 3 → ℕ) b ≤ (⟨3, ![n0, n1, 128]⟩ : Shape).size b)
    (h' : ∀ b, (![j, o, 0] : Fin 3 → ℕ) b + (![1, n, 128] : Fin 3 → ℕ) b ≤ (⟨3, ![n0, n1, 128]⟩ : Shape).size b)
    (f : ℕ → ℕ → EReal) (hw : ∀ y : (⟨3, ![1, n1, 128]⟩ : Shape).Idx, w y = f (y 1).val (y 2).val) :
    v.readCov (⟨Rect.unit (s := ⟨3, ![n0, n1, 128]⟩) ![j, 0, 0] ![1, n1, 128] h, w⟩ :: L) (Rect.unit (s := ⟨3, ![n0, n1, 128]⟩) ![j, o, 0] ![1, n, 128] h').toLoadRect
      = fun y => f (o + (y 1).val) (y 2).val := by
  funext y
  have h0 : (y 0).val < 1 := (y 0).isLt
  have h1 : (y 1).val < n := (y 1).isLt
  have h2 : (y 2).val < 128 := (y 2).isLt
  have hb : o + n ≤ n1 := h' 1
  obtain ⟨z, hz⟩ : ∃ z, (Rect.unit (s := ⟨3, ![n0, n1, 128]⟩) ![j, 0, 0] ![1, n1, 128] h).emb z
      = (Rect.unit (s := ⟨3, ![n0, n1, 128]⟩) ![j, o, 0] ![1, n, 128] h').toLoadRect.idx y := by
    refine LoadRect.exists_idx_of_mem (Rect.toLoadRect _) ((Rect.mem_set_unit (inb := h)).2 ?_)
    intro b
    match b with
    | 0 => exact ⟨show j ≤ j + 1 * (y 0).val by omega, show j + 1 * (y 0).val < j + 1 by omega⟩
    | 1 => exact ⟨Nat.zero_le _, show o + 1 * (y 1).val < 0 + n1 by omega⟩
    | 2 => exact ⟨Nat.zero_le _, show 0 + 1 * (y 2).val < 0 + 128 by omega⟩
  have e1 : 0 + 1 * (z 1).val = o + 1 * (y 1).val := congrArg (fun i => (i 1).val) hz
  have e2 : 0 + 1 * (z 2).val = 0 + 1 * (y 2).val := congrArg (fun i => (i 2).val) hz
  show v.read (Elt Ideal) (v.writes (Elt Ideal) v.junk _) ((Rect.unit (s := ⟨3, ![n0, n1, 128]⟩) ![j, o, 0] ![1, n, 128] h').toLoadRect.idx y) = _
  rw [← hz, View.read_writes_cons_emb]
  refine (hw z).trans (congrArg₂ f (by omega) (by omega))

end

end Cert.KernelIdeal.Even

end
-- ==== Proof.Ideal.Chunk.lean ====
/- What the body computes from 256 rows of a tile: the vector operations of the chunk, once for all four chunks, and their
   values at an index. -/
module

public import proofs.«01_k».proof.Proof.Ideal.Math
public import Idealize.ShloMosaic.Lib.SortNet.Extract

@[expose] public section

set_option maxRecDepth 16384

noncomputable section

namespace Cert.KernelIdeal.Even

open Cert.KernelIdeal Cert.KernelIdeal.Gen
open Idealize.ShloMosaic Idealize.ShloMosaic.TcCoe Idealize.SL.Sem

/-! ## Sums of the last rows, by doubling -/

section
variable (B : ℕ → ℕ → ℕ → EReal)

/-- Sums of 2, 4, 8 and 16 rows ending at row `r` of slab `j`. -/
def s2 (j r l : ℕ) : EReal := B j r l + B j (r - 1) l
def s4 (j r l : ℕ) : EReal := s2 B j r l + s2 B j (r - 2) l
def s8 (j r l : ℕ) : EReal := s4 B j r l + s4 B j (r - 4) l
def s16 (j r l : ℕ) : EReal := s8 B j r l + s8 B j (r - 8) l

def win2 (a b : Vec Ideal S1x280x128 .f32) : FVec Ideal S280x128 .f32 :=
  addf (shapeCast S280x128 a shapeCasts_S1x280x128_S280x128) (shapeCast S280x128 b shapeCasts_S1x280x128_S280x128)
def win4 (a b : Vec Ideal S1x280x128 .f32) (c : Vec Ideal S1x272x128 .f32) : FVec Ideal S272x128 .f32 :=
  addf (extractStridedSlice S272x128 ![8, 0] (win2 a b) slices_S280x128_o8_0_S272x128) (shapeCast S272x128 c shapeCasts_S1x272x128_S272x128)
def win8 (a b : Vec Ideal S1x280x128 .f32) (c : Vec Ideal S1x272x128 .f32) (d : Vec Ideal S1x264x128 .f32) : FVec Ideal S264x128 .f32 :=
  addf (extractStridedSlice S264x128 ![8, 0] (win4 a b c) slices_S272x128_o8_0_S264x128) (shapeCast S264x128 d shapeCasts_S1x264x128_S264x128)
def win16 (a b : Vec Ideal S1x280x128 .f32) (c : Vec Ideal S1x272x128 .f32) (d : Vec Ideal S1x264x128 .f32) : FVec Ideal S256x128 .f32 :=
  addf (extractStridedSlice S256x128 ![8, 0] (win8 a b c d) slices_S264x128_o8_0_S256x128) (extractStridedSlice S256x128 ![0, 0] (win8 a b c d) slices_S264x128_o0_0_S256x128)

/-- The loads the sums start from, for the chunk whose rows start at `o`. -/
abbrev ua (j o : ℕ) : Vec Ideal S1x280x128 .f32 := blk B 280 j (o + 8)
abbrev ub (j o : ℕ) : Vec Ideal S1x280x128 .f32 := blk B 280 j (o + 7)
abbrev uc (j o : ℕ) : Vec Ideal S1x272x128 .f32 := blk (s2 B) 272 j (o + 14)
abbrev ud (j o : ℕ) : Vec Ideal S1x264x128 .f32 := blk (s4 B) 264 j (o + 20)

theorem win2_at (j o p l : ℕ) (hp : p < 280) (hl : l < 128) : win2 (ua B j o) (ub B j o) (ix2 ⟨p, hp⟩ ⟨l, hl⟩) = s2 B j (o + 8 + p) l := by
  pointwise [win2]
  show B j (o + 8 + p) l + B j (o + 7 + p) l = B j (o + 8 + p) l + B j (o + 8 + p - 1) l
  rw [show o + 8 + p - 1 = o + 7 + p by omega]
theorem win4_at (j o p l : ℕ) (hp : p < 272) (hl : l < 128) : win4 (ua B j o) (ub B j o) (uc B j o) (ix2 ⟨p, hp⟩ ⟨l, hl⟩) = s4 B j (o + 16 + p) l := by
  pointwise [win4]
  refine congrArg₂ (· + ·) ((win2_at B j o (8 + p) l (by omega) hl).trans ?_) ?_
  · rw [show o + 8 + (8 + p) = o + 16 + p by omega]
  · show s2 B j (o + 14 + p) l = s2 B j (o + 16 + p - 2) l
    rw [show o + 16 + p - 2 = o + 14 + p by omega]
theorem win8_at (j o p l : ℕ) (hp : p < 264) (hl : l < 128) : win8 (ua B j o) (ub B j o) (uc B j o) (ud B j o) (ix2 ⟨p, hp⟩ ⟨l, hl⟩) = s8 B j (o + 24 + p) l := by
  pointwise [win8]
  refine congrArg₂ (· + ·) ((win4_at B j o (8 + p) l (by omega) hl).trans ?_) ?_
  · rw [show o + 16 + (8 + p) = o + 24 + p by omega]
  · show s4 B j (o + 20 + p) l = s4 B j (o + 24 + p - 4) l
    rw [show o + 24 + p - 4 = o + 20 + p by omega]
theorem win16_at (j o p l : ℕ) (hp : p < 256) (hl : l < 128) : win16 (ua B j o) (ub B j o) (uc B j o) (ud B j o) (ix2 ⟨p, hp⟩ ⟨l, hl⟩) = s16 B j (o + 32 + p) l := by
  pointwise [win16]
  refine congrArg₂ (· + ·) ((win8_at B j o (8 + p) l (by omega) hl).trans ?_) ((win8_at B j o p l (by omega) hl).trans ?_)
  · rw [show o + 24 + (8 + p) = o + 32 + p by omega]
  · rw [show o + 24 + p = o + 32 + p - 8 by omega]

/-- Sums of two and of four rows, as kept for the next doubling. -/
theorem kept2 (j o : ℕ) (y : S1x280x128.Idx) :
    shapeCast (α := EReal) S1x280x128 (win2 (ua B j o) (ub B j o)) shapeCasts_S280x128_S1x280x128 y = s2 B j (o + 8 + (y 1).val) (y 2).val := by
  idx_vars y
  pointwise
  exact win2_at B j o _ _ (by omega) (by omega)
theorem kept4 (j o : ℕ) (y : S1x272x128.Idx) :
    shapeCast (α := EReal) S1x272x128 (win4 (ua B j o) (ub B j o) (uc B j o)) shapeCasts_S272x128_S1x272x128 y = s4 B j (o + 16 + (y 1).val) (y 2).val := by
  idx_vars y
  pointwise
  exact win4_at B j o _ _ (by omega) (by omega)

/-! ## One over the number of rows a window holds -/

def posV (t o : BitVec 32) : IVec S256x128 32 :=
  addi (broadcast S256x128 (Scalar.addi (Scalar.muli t 1024#32) o)) (iota .tc S256x128 32 [0] iota_S256x128_d0_w32)
def invV (q : IVec S256x128 32) (w : BitVec 32) : FVec Ideal S256x128 .f32 :=
  divf (broadcast S256x128 (Scalar.ofBits .f32 0x3F800000#32)) (sitofp .f32 (minsi (addi q (broadcast S256x128 1#32)) (broadcast S256x128 w)))

/-- One over the number of rows, at most `w`, up to row `s` of a sequence. -/
def inv (w s : ℕ) : EReal := Ideal.div 1 (((min (s + 1) w : ℕ) : ℝ) : EReal)

theorem invV_at (t o w p l : ℕ) (ht : t < 8) (ho : o < 1024) (hw : w ≤ 16) (hp : p < 256) (hl : l < 128) :
    invV (posV (BitVec.ofNat 32 t) (BitVec.ofNat 32 o)) (BitVec.ofNat 32 w) (ix2 ⟨p, hp⟩ ⟨l, hl⟩) = inv w (t * 1024 + (o + p)) := by
  have e : (IntOp.minsi (IntOp.addi (IntOp.addi (Scalar.addi (Scalar.muli (BitVec.ofNat 32 t) 1024#32) (BitVec.ofNat 32 o)) (BitVec.ofNat 32 p)) 1#32)
      (BitVec.ofNat 32 w)).toInt = ((min (t * 1024 + (o + p) + 1) w : ℕ) : ℤ) := by
    have e1 : IntOp.addi (IntOp.addi (Scalar.addi (Scalar.muli (BitVec.ofNat 32 t) 1024#32) (BitVec.ofNat 32 o)) (BitVec.ofNat 32 p)) 1#32
        = BitVec.ofNat 32 (t * 1024 + (o + p) + 1) := by
      show BitVec.ofNat 32 t * BitVec.ofNat 32 1024 + BitVec.ofNat 32 o + BitVec.ofNat 32 p + BitVec.ofNat 32 1 = _
      rw [← BitVec.ofNat_mul, ← BitVec.ofNat_add, ← BitVec.ofNat_add, ← BitVec.ofNat_add, Nat.add_assoc (t * 1024)]
    rw [e1, SortNet.toInt_minsi, BitVec.toInt_eq_toNat_cond, BitVec.toInt_eq_toNat_cond, BitVec.toNat_ofNat, BitVec.toNat_ofNat,
      Nat.mod_eq_of_lt (by omega), Nat.mod_eq_of_lt (by omega)]
    rw [if_pos (by omega), if_pos (by omega), Nat.cast_min]
  pointwise [invV, posV]
  show Ideal.div 1 ((((IntOp.minsi _ _).toInt : ℤ) : ℝ) : EReal) = _
  rw [e]
  rfl

/-! ## The pools -/

theorem dite_is {α : Type} {c : Prop} [Decidable c] {t : c → α} {e : ¬c → α} {z : α} (ht : ∀ h, t h = z) (he : ∀ h, e h = z) : dite c t e = z := by
  by_cases h : c
  · rw [dif_pos h]; exact ht h
  · rw [dif_neg h]; exact he h

def poolV (w iv u : FVec Ideal S256x128 .f32) : FVec Ideal S256x128 .f32 := subf (mulf w iv) u
def grpV (a b : FVec Ideal S256x128 .f32) (m : Vec Ideal S256x256 .bf16) : FVec Ideal S256x256 .f32 :=
  matmul dot_S256x256_S256x256_S256x256_1_0_0_1_n_n none (φ₂ := .bf16)
    (truncf .bf16 (concatenate S256x256 1 [⟨S256x128, a⟩, ⟨S256x128, b⟩] concatenates_S256x128_S256x128_S256x256_d1) bitsLt_bf16_f32) m (constant S256x256 .f32 0x00000000#32)
def mixV (a b c d : FVec Ideal S256x256 .f32) (ps : Vec Ideal S1x1024 .f32) : FVec Ideal S256x1024 .f32 :=
  mulf (concatenate S256x1024 1 [⟨S256x256, a⟩, ⟨S256x256, b⟩, ⟨S256x256, c⟩, ⟨S256x256, d⟩] concatenates_S256x256_S256x256_S256x256_S256x256_S256x1024_d1)
    (broadcastTo S256x1024 (shapeCast S1x1024 ps shapeCasts_S1x1024_S1x1024) broadcasts_S1x1024_S256x1024)

theorem grpV_at (a b : FVec Ideal S256x128 .f32) (m : Vec Ideal S256x256 .bf16) (f : ℕ → ℕ → EReal) (M : ℕ → ℕ → EReal)
    (ha : ∀ (p l : ℕ) (hp : p < 256) (hl : l < 128), a (ix2 ⟨p, hp⟩ ⟨l, hl⟩) = f p l) (hb : ∀ (p l : ℕ) (hp : p < 256) (hl : l < 128), b (ix2 ⟨p, hp⟩ ⟨l, hl⟩) = f p (128 + l))
    (hm : ∀ (p l : ℕ) (hp : p < 256) (hl : l < 256), m (ix2 ⟨p, hp⟩ ⟨l, hl⟩) = M p l) (p k : ℕ) (hp : p < 256) (hk : k < 256) :
    grpV a b m (ix2 ⟨p, hp⟩ ⟨k, hk⟩) = ∑ q : Fin 256, f p q * M q k := by
  pointwise [grpV]
  rw [show (∑ q : Fin 256, f p q * M q k) = ∑ q : Fin 128, f p q * M q k + ∑ q : Fin 128, f p (128 + q) * M (128 + q) k from Fin.sum_univ_add (a := 128) (b := 128) _]
  refine congrArg₂ (· + ·) (Finset.sum_congr rfl fun q _ => ?_) (Finset.sum_congr rfl fun q _ => ?_)
  · exact congrArg₂ (· * ·) (ha p q hp q.isLt) (hm q k (by omega) hk)
  · exact congrArg₂ (· * ·) (hb p q hp q.isLt) (hm (128 + q) k (by omega) hk)

theorem mixV_at (a b c d : FVec Ideal S256x256 .f32) (ps : Vec Ideal S1x1024 .f32) (f : ℕ → ℕ → EReal)
    (ha : ∀ (p l : ℕ) (hp : p < 256) (hl : l < 256), a (ix2 ⟨p, hp⟩ ⟨l, hl⟩) = f p l) (hb : ∀ (p l : ℕ) (hp : p < 256) (hl : l < 256), b (ix2 ⟨p, hp⟩ ⟨l, hl⟩) = f p (256 + l))
    (hc : ∀ (p l : ℕ) (hp : p < 256) (hl : l < 256), c (ix2 ⟨p, hp⟩ ⟨l, hl⟩) = f p (512 + l)) (hd : ∀ (p l : ℕ) (hp : p < 256) (hl : l < 256), d (ix2 ⟨p, hp⟩ ⟨l, hl⟩) = f p (768 + l))
    (p k : ℕ) (hp : p < 256) (hk : k < 1024) :
    mixV a b c d ps (ix2 ⟨p, hp⟩ ⟨k, hk⟩) = f p k * at2 ps 0 k := by
  pointwise [mixV]
  refine congrArg₂ (· * ·) ?_ (at2_ix _ _ _ (by decide) hk).symm
  refine dite_is (fun h => ha p k hp (by omega)) fun h => dite_is (fun h' => (hb p _ hp (by omega)).trans (congrArg (f p) (by omega))) fun h' => ?_
  exact dite_is (fun h'' => (hc p _ hp (by omega)).trans (congrArg (f p) (by omega))) fun h'' => (hd p _ hp (by omega)).trans (congrArg (f p) (by omega))

/-! ## The convolution -/

/-- One slab of the three taps: columns `n` to `n + 127`. -/
def convV (cu : FVec Ideal S256x1024 .f32) (cw : FVec Ideal S3x1024 .f32) (a b : Vec Ideal S1x256x128 .f32) (n : ℕ)
    (h : S256x1024.Slices ![0, n] S256x128) (h2 : S3x1024.Slices ![2, n] S1x128) (h1 : S3x1024.Slices ![1, n] S1x128) (h0 : S3x1024.Slices ![0, n] S1x128) : FVec Ideal S256x128 .f32 :=
  addf (addf (mulf (broadcastTo S256x128 (extractStridedSlice S1x128 ![2, n] cw h2) broadcasts_S1x128_S256x128) (extractStridedSlice S256x128 ![0, n] cu h))
      (mulf (broadcastTo S256x128 (extractStridedSlice S1x128 ![1, n] cw h1) broadcasts_S1x128_S256x128) (shapeCast S256x128 a shapeCasts_S1x256x128_S256x128)))
    (mulf (broadcastTo S256x128 (extractStridedSlice S1x128 ![0, n] cw h0) broadcasts_S1x128_S256x128) (shapeCast S256x128 b shapeCasts_S1x256x128_S256x128))

theorem convV_at (cu : FVec Ideal S256x1024 .f32) (cw : Vec Ideal S1x3x1024 .f32) (j o n : ℕ) (hn : n = 128 * j) (hj : j < 8) (h h2 h1 h0) (p l : ℕ) (hp : p < 256) (hl : l < 128) :
    convV cu (shapeCast S3x1024 cw shapeCasts_S1x3x1024_S3x1024) (blk B 256 j (o + 7)) (blk B 256 j (o + 6)) n h h2 h1 h0 (ix2 ⟨p, hp⟩ ⟨l, hl⟩)
      = at3 cw 0 2 (n + l) * at2 cu p (n + l) + at3 cw 0 1 (n + l) * B j (o + 7 + p) l + at3 cw 0 0 (n + l) * B j (o + 6 + p) l := by
  rw [at3_ix _ _ _ _ (by decide) (by decide) (by omega), at3_ix _ _ _ _ (by decide) (by decide) (by omega), at3_ix _ _ _ _ (by decide) (by decide) (by omega), at2_ix _ _ _ hp (by omega)]
  pointwise [convV]
  rfl

def cat8V (a0 a1 a2 a3 a4 a5 a6 a7 : FVec Ideal S256x128 .f32) : FVec Ideal S256x1024 .f32 :=
  concatenate S256x1024 1 [⟨S256x128, a0⟩, ⟨S256x128, a1⟩, ⟨S256x128, a2⟩, ⟨S256x128, a3⟩, ⟨S256x128, a4⟩, ⟨S256x128, a5⟩, ⟨S256x128, a6⟩, ⟨S256x128, a7⟩]
    concatenates_S256x128_S256x128_S256x128_S256x128_S256x128_S256x128_S256x128_S256x128_S256x1024_d1

theorem cat8V_at (a0 a1 a2 a3 a4 a5 a6 a7 : FVec Ideal S256x128 .f32) (f : ℕ → ℕ → EReal)
    (h0 : ∀ (p l : ℕ) (hp : p < 256) (hl : l < 128), a0 (ix2 ⟨p, hp⟩ ⟨l, hl⟩) = f p l) (h1 : ∀ (p l : ℕ) (hp : p < 256) (hl : l < 128), a1 (ix2 ⟨p, hp⟩ ⟨l, hl⟩) = f p (128 + l))
    (h2 : ∀ (p l : ℕ) (hp : p < 256) (hl : l < 128), a2 (ix2 ⟨p, hp⟩ ⟨l, hl⟩) = f p (256 + l)) (h3 : ∀ (p l : ℕ) (hp : p < 256) (hl : l < 128), a3 (ix2 ⟨p, hp⟩ ⟨l, hl⟩) = f p (384 + l))
    (h4 : ∀ (p l : ℕ) (hp : p < 256) (hl : l < 128), a4 (ix2 ⟨p, hp⟩ ⟨l, hl⟩) = f p (512 + l)) (h5 : ∀ (p l : ℕ) (hp : p < 256) (hl : l < 128), a5 (ix2 ⟨p, hp⟩ ⟨l, hl⟩) = f p (640 + l))
    (h6 : ∀ (p l : ℕ) (hp : p < 256) (hl : l < 128), a6 (ix2 ⟨p, hp⟩ ⟨l, hl⟩) = f p (768 + l)) (h7 : ∀ (p l : ℕ) (hp : p < 256) (hl : l < 128), a7 (ix2 ⟨p, hp⟩ ⟨l, hl⟩) = f p (896 + l))
    (p k : ℕ) (hp : p < 256) (hk : k < 1024) : cat8V a0 a1 a2 a3 a4 a5 a6 a7 (ix2 ⟨p, hp⟩ ⟨k, hk⟩) = f p k := by
  pointwise [cat8V]
  refine dite_is (fun _ => h0 p k hp (by omega)) fun _ => ?_
  refine dite_is (fun _ => (h1 p _ hp (by omega)).trans (congrArg (f p) (by omega))) fun _ => ?_
  refine dite_is (fun _ => (h2 p _ hp (by omega)).trans (congrArg (f p) (by omega))) fun _ => ?_
  refine dite_is (fun _ => (h3 p _ hp (by omega)).trans (congrArg (f p) (by omega))) fun _ => ?_
  refine dite_is (fun _ => (h4 p _ hp (by omega)).trans (congrArg (f p) (by omega))) fun _ => ?_
  refine dite_is (fun _ => (h5 p _ hp (by omega)).trans (congrArg (f p) (by omega))) fun _ => ?_
  refine dite_is (fun _ => (h6 p _ hp (by omega)).trans (congrArg (f p) (by omega))) fun _ => ?_
  exact (h7 p _ hp (by omega)).trans (congrArg (f p) (by omega))

/-! ## The sum with the rows -/

/-- `z` times its logistic. -/
def silu (z : EReal) : EReal := z * Ideal.logistic z

def outV (xs gb zb za a v : FVec Ideal S256x1024 .f32) (w1 w0 : Vec Ideal S1024x1024 .bf16) : FVec Ideal S1x256x1024 .f32 :=
  shapeCast S1x256x1024 (addf xs (addf
    (matmul dot_S256x1024_S1024x1024_S256x1024_1_0_0_1_n_n none (φ₂ := .bf16) (truncf .bf16 (mulf (mulf gb v) (mulf zb (logistic zb))) bitsLt_bf16_f32) w1 (constant S256x1024 .f32 0x00000000#32))
    (matmul dot_S256x1024_S1024x1024_S256x1024_1_0_0_1_n_n none (φ₂ := .bf16) (truncf .bf16 (mulf a (mulf za (logistic za))) bitsLt_bf16_f32) w0 (constant S256x1024 .f32 0x00000000#32))))
    shapeCasts_S256x1024_S1x256x1024

theorem outV_at (xs gb zb za a v : FVec Ideal S256x1024 .f32) (w1 w0 : Vec Ideal S1024x1024 .bf16) (y : S1x256x1024.Idx) :
    outV xs gb zb za a v w1 w0 y = at2 xs (y 1).val (y 2).val
      + (∑ k : Fin 1024, at2 gb (y 1).val k * at2 v (y 1).val k * silu (at2 zb (y 1).val k) * at2 w1 k (y 2).val
        + ∑ k : Fin 1024, at2 a (y 1).val k * silu (at2 za (y 1).val k) * at2 w0 k (y 2).val) := by
  idx_vars y
  pointwise [outV]
  simp only [at2_fin]
  rfl

/-! ## The chunk whole -/

variable (D : ℕ → ℕ → ℕ → EReal) (x : Vec Ideal S1x1024x1024 .f32) (g : Vec Ideal S2x1024 .f32) (ps : Vec Ideal S1x1024 .f32) (cw : Vec Ideal S1x3x1024 .f32)
  (wi : Vec Ideal S1024x6144 .bf16) (wp : Vec Ideal S1024x256 .bf16) (wo : Vec Ideal S2048x1024 .bf16)

/-- Row `r` of tile `t`: the windowed sum column `c` takes. -/
def winS (r c : ℕ) : EReal :=
  if c < 256 then s2 B (c / 128) r (c % 128) else if c < 512 then s4 B (c / 128) r (c % 128) else if c < 768 then s8 B (c / 128) r (c % 128) else s16 B (c / 128) r (c % 128)
/-- The pool's column `c`: the window's mean less the row's own value. -/
def poolF (t r c : ℕ) : EReal := winS B (32 + r) c * inv (2 ^ (c / 256 + 1)) (t * 1024 + r) - prj x g wi 0 r c
/-- The pools' columns mixed by group and scaled. -/
def mixF (t r k : ℕ) : EReal := (∑ q : Fin 256, poolF B x g wi t r (256 * (k / 256) + q) * at2 wp (256 * (k / 256) + q) (k % 256)) * at2 ps 0 k
/-- The three taps. -/
def convF (r k : ℕ) : EReal :=
  at3 cw 0 2 k * (prj x g wi 2048 r k * prj x g wi 3072 r k) + at3 cw 0 1 k * D (k / 128) (r + 7) (k % 128) + at3 cw 0 0 k * D (k / 128) (r + 6) (k % 128)
/-- Row `r`, column `n` of what the tile writes. -/
def rowF (t r n : ℕ) : EReal :=
  at3 x 0 r n + (∑ k : Fin 1024, prj x g wi 1024 r k * convF D x g cw wi r k * silu (prj x g wi 5120 r k) * at2 wo (1024 + k) n
    + ∑ k : Fin 1024, mixF B x g ps wi wp t r k * silu (prj x g wi 4096 r k) * at2 wo k n)

def poolsV (tb ob : BitVec 32) (o : ℕ) : FVec Ideal S256x1024 .f32 :=
  mixV
    (grpV
      (poolV (extractStridedSlice S256x128 ![24, 0] (win2 (ua B 0 o) (ub B 0 o)) slices_S280x128_o24_0_S256x128) (invV (posV tb ob) 2#32)
        (extractStridedSlice S256x128 ![0, 0] (projV x g wi 0 o) slices_S256x1024_o0_0_S256x128))
      (poolV (extractStridedSlice S256x128 ![24, 0] (win2 (ua B 1 o) (ub B 1 o)) slices_S280x128_o24_0_S256x128) (invV (posV tb ob) 2#32)
        (extractStridedSlice S256x128 ![0, 128] (projV x g wi 0 o) slices_S256x1024_o0_128_S256x128))
      (part2 (n0 := 1024) (n1 := 256) wp 256 256 0 0))
    (grpV
      (poolV (extractStridedSlice S256x128 ![16, 0] (win4 (ua B 2 o) (ub B 2 o) (uc B 2 o)) slices_S272x128_o16_0_S256x128) (invV (posV tb ob) 4#32)
        (extractStridedSlice S256x128 ![0, 256] (projV x g wi 0 o) slices_S256x1024_o0_256_S256x128))
      (poolV (extractStridedSlice S256x128 ![16, 0] (win4 (ua B 3 o) (ub B 3 o) (uc B 3 o)) slices_S272x128_o16_0_S256x128) (invV (posV tb ob) 4#32)
        (extractStridedSlice S256x128 ![0, 384] (projV x g wi 0 o) slices_S256x1024_o0_384_S256x128))
      (part2 (n0 := 1024) (n1 := 256) wp 256 256 256 0))
    (grpV
      (poolV (extractStridedSlice S256x128 ![8, 0] (win8 (ua B 4 o) (ub B 4 o) (uc B 4 o) (ud B 4 o)) slices_S264x128_o8_0_S256x128) (invV (posV tb ob) 8#32)
        (extractStridedSlice S256x128 ![0, 512] (projV x g wi 0 o) slices_S256x1024_o0_512_S256x128))
      (poolV (extractStridedSlice S256x128 ![8, 0] (win8 (ua B 5 o) (ub B 5 o) (uc B 5 o) (ud B 5 o)) slices_S264x128_o8_0_S256x128) (invV (posV tb ob) 8#32)
        (extractStridedSlice S256x128 ![0, 640] (projV x g wi 0 o) slices_S256x1024_o0_640_S256x128))
      (part2 (n0 := 1024) (n1 := 256) wp 256 256 512 0))
    (grpV
      (poolV (win16 (ua B 6 o) (ub B 6 o) (uc B 6 o) (ud B 6 o)) (invV (posV tb ob) 16#32)
        (extractStridedSlice S256x128 ![0, 768] (projV x g wi 0 o) slices_S256x1024_o0_768_S256x128))
      (poolV (win16 (ua B 7 o) (ub B 7 o) (uc B 7 o) (ud B 7 o)) (invV (posV tb ob) 16#32)
        (extractStridedSlice S256x128 ![0, 896] (projV x g wi 0 o) slices_S256x1024_o0_896_S256x128))
      (part2 (n0 := 1024) (n1 := 256) wp 256 256 768 0))
    ps

def convsV (o : ℕ) : FVec Ideal S256x1024 .f32 :=
  cat8V
    (convV (mulf (projV x g wi 2048 o) (projV x g wi 3072 o)) (shapeCast S3x1024 cw shapeCasts_S1x3x1024_S3x1024) (blk D 256 0 (o + 7)) (blk D 256 0 (o + 6)) 0
      slices_S256x1024_o0_0_S256x128 slices_S3x1024_o2_0_S1x128 slices_S3x1024_o1_0_S1x128 slices_S3x1024_o0_0_S1x128)
    (convV (mulf (projV x g wi 2048 o) (projV x g wi 3072 o)) (shapeCast S3x1024 cw shapeCasts_S1x3x1024_S3x1024) (blk D 256 1 (o + 7)) (blk D 256 1 (o + 6)) 128
      slices_S256x1024_o0_128_S256x128 slices_S3x1024_o2_128_S1x128 slices_S3x1024_o1_128_S1x128 slices_S3x1024_o0_128_S1x128)
    (convV (mulf (projV x g wi 2048 o) (projV x g wi 3072 o)) (shapeCast S3x1024 cw shapeCasts_S1x3x1024_S3x1024) (blk D 256 2 (o + 7)) (blk D 256 2 (o + 6)) 256
      slices_S256x1024_o0_256_S256x128 slices_S3x1024_o2_256_S1x128 slices_S3x1024_o1_256_S1x128 slices_S3x1024_o0_256_S1x128)
    (convV (mulf (projV x g wi 2048 o) (projV x g wi 3072 o)) (shapeCast S3x1024 cw shapeCasts_S1x3x1024_S3x1024) (blk D 256 3 (o + 7)) (blk D 256 3 (o + 6)) 384
      slices_S256x1024_o0_384_S256x128 slices_S3x1024_o2_384_S1x128 slices_S3x1024_o1_384_S1x128 slices_S3x1024_o0_384_S1x128)
    (convV (mulf (projV x g wi 2048 o) (projV x g wi 3072 o)) (shapeCast S3x1024 cw shapeCasts_S1x3x1024_S3x1024) (blk D 256 4 (o + 7)) (blk D 256 4 (o + 6)) 512
      slices_S256x1024_o0_512_S256x128 slices_S3x1024_o2_512_S1x128 slices_S3x1024_o1_512_S1x128 slices_S3x1024_o0_512_S1x128)
    (convV (mulf (projV x g wi 2048 o) (projV x g wi 3072 o)) (shapeCast S3x1024 cw shapeCasts_S1x3x1024_S3x1024) (blk D 256 5 (o + 7)) (blk D 256 5 (o + 6)) 640
      slices_S256x1024_o0_640_S256x128 slices_S3x1024_o2_640_S1x128 slices_S3x1024_o1_640_S1x128 slices_S3x1024_o0_640_S1x128)
    (convV (mulf (projV x g wi 2048 o) (projV x g wi 3072 o)) (shapeCast S3x1024 cw shapeCasts_S1x3x1024_S3x1024) (blk D 256 6 (o + 7)) (blk D 256 6 (o + 6)) 768
      slices_S256x1024_o0_768_S256x128 slices_S3x1024_o2_768_S1x128 slices_S3x1024_o1_768_S1x128 slices_S3x1024_o0_768_S1x128)
    (convV (mulf (projV x g wi 2048 o) (projV x g wi 3072 o)) (shapeCast S3x1024 cw shapeCasts_S1x3x1024_S3x1024) (blk D 256 7 (o + 7)) (blk D 256 7 (o + 6)) 896
      slices_S256x1024_o0_896_S256x128 slices_S3x1024_o2_896_S1x128 slices_S3x1024_o1_896_S1x128 slices_S3x1024_o0_896_S1x128)

def chunkV (tb ob : BitVec 32) (o : ℕ) : FVec Ideal S1x256x1024 .f32 :=
  outV (shapeCast S256x1024 (rowsX x o) shapeCasts_S1x256x1024_S256x1024) (projV x g wi 1024 o) (projV x g wi 5120 o) (projV x g wi 4096 o)
    (poolsV B x g ps wi wp tb ob o) (convsV D x g cw wi o) (part2 (n0 := 2048) (n1 := 1024) wo 1024 1024 1024 0) (part2 (n0 := 2048) (n1 := 1024) wo 1024 1024 0 0)

theorem poolV_at (w : FVec Ideal S256x128 .f32) (t o j wd n : ℕ) (ht : t < 8) (ho : o + 256 ≤ 1024) (hj : j < 8) (hn : n = 128 * j) (hw : wd = 2 ^ (j / 2 + 1)) (h : S256x1024.Slices ![0, n] S256x128)
    (hs : ∀ (p l : ℕ) (hp : p < 256) (hl : l < 128), w (ix2 ⟨p, hp⟩ ⟨l, hl⟩) = winS B (o + 32 + p) (n + l)) (p l : ℕ) (hp : p < 256) (hl : l < 128) :
    poolV w (invV (posV (BitVec.ofNat 32 t) (BitVec.ofNat 32 o)) (BitVec.ofNat 32 wd)) (extractStridedSlice S256x128 ![0, n] (projV x g wi 0 o) h) (ix2 ⟨p, hp⟩ ⟨l, hl⟩)
      = poolF B x g wi t (o + p) (n + l) := by
  have hwd : wd ≤ 16 := by rw [hw]; exact (Nat.pow_le_pow_right (by decide) (show j / 2 + 1 ≤ 4 by omega)).trans (by decide)
  pointwise [poolV]
  rw [hs p l hp hl, invV_at t o wd p l ht (by omega) hwd hp hl]
  unfold poolF
  rw [show 32 + (o + p) = o + 32 + p by omega, show (n + l) / 256 = j / 2 by omega, ← hw]
  rfl

theorem poolsV_at (t o : ℕ) (ht : t < 8) (ho : o + 256 ≤ 1024) (p k : ℕ) (hp : p < 256) (hk : k < 1024) :
    poolsV B x g ps wi wp (BitVec.ofNat 32 t) (BitVec.ofNat 32 o) o (ix2 ⟨p, hp⟩ ⟨k, hk⟩) = mixF B x g ps wi wp t (o + p) k := by
  have hm : ∀ (gn p l : ℕ) (hp : p < 256) (hl : l < 256), part2 (n0 := 1024) (n1 := 256) wp 256 256 gn 0 (ix2 ⟨p, hp⟩ ⟨l, hl⟩) = at2 wp (gn + p) l :=
    fun gn p l _ _ => congrArg (at2 wp (gn + p)) (Nat.zero_add l)
  have hg : ∀ (a b : FVec Ideal S256x128 .f32) (gi gn : ℕ) (hgi : gn = 256 * gi)
      (ha : ∀ (p l : ℕ) (hp : p < 256) (hl : l < 128), a (ix2 ⟨p, hp⟩ ⟨l, hl⟩) = poolF B x g wi t (o + p) (gn + l))
      (hb : ∀ (p l : ℕ) (hp : p < 256) (hl : l < 128), b (ix2 ⟨p, hp⟩ ⟨l, hl⟩) = poolF B x g wi t (o + p) (gn + 128 + l)) (p l : ℕ) (hp : p < 256) (hl : l < 256),
      grpV a b (part2 (n0 := 1024) (n1 := 256) wp 256 256 gn 0) (ix2 ⟨p, hp⟩ ⟨l, hl⟩)
        = ∑ q : Fin 256, poolF B x g wi t (o + p) (256 * ((gn + l) / 256) + q) * at2 wp (256 * ((gn + l) / 256) + q) ((gn + l) % 256) := by
    intro a b gi gn hgi ha hb p l hp hl
    rw [show 256 * ((gn + l) / 256) = gn by omega, show (gn + l) % 256 = l by omega]
    refine grpV_at a b _ (fun p q => poolF B x g wi t (o + p) (gn + q)) (fun q k => at2 wp (gn + q) k) ha (fun p l hp hl => (hb p l hp hl).trans ?_) (hm gn) p l hp hl
    rw [Nat.add_assoc]
  have hw2 : ∀ (j n : ℕ) (hn : n = 128 * j) (hj : j < 2) (p l : ℕ) (hp : p < 256) (hl : l < 128),
      extractStridedSlice S256x128 ![24, 0] (win2 (ua B j o) (ub B j o)) slices_S280x128_o24_0_S256x128 (ix2 ⟨p, hp⟩ ⟨l, hl⟩) = winS B (o + 32 + p) (n + l) := by
    intro j n hn hj p l hp hl
    pointwise
    refine (win2_at B j o (24 + p) l (by omega) hl).trans ?_
    unfold winS
    rw [if_pos (by omega), show (n + l) / 128 = j by omega, show (n + l) % 128 = l by omega, show o + 8 + (24 + p) = o + 32 + p by omega]
  have hw4 : ∀ (j n : ℕ) (hn : n = 128 * j) (hj : 2 ≤ j) (hj' : j < 4) (p l : ℕ) (hp : p < 256) (hl : l < 128),
      extractStridedSlice S256x128 ![16, 0] (win4 (ua B j o) (ub B j o) (uc B j o)) slices_S272x128_o16_0_S256x128 (ix2 ⟨p, hp⟩ ⟨l, hl⟩) = winS B (o + 32 + p) (n + l) := by
    intro j n hn hj hj' p l hp hl
    pointwise
    refine (win4_at B j o (16 + p) l (by omega) hl).trans ?_
    unfold winS
    rw [if_neg (by omega), if_pos (by omega), show (n + l) / 128 = j by omega, show (n + l) % 128 = l by omega, show o + 16 + (16 + p) = o + 32 + p by omega]
  have hw8 : ∀ (j n : ℕ) (hn : n = 128 * j) (hj : 4 ≤ j) (hj' : j < 6) (p l : ℕ) (hp : p < 256) (hl : l < 128),
      extractStridedSlice S256x128 ![8, 0] (win8 (ua B j o) (ub B j o) (uc B j o) (ud B j o)) slices_S264x128_o8_0_S256x128 (ix2 ⟨p, hp⟩ ⟨l, hl⟩) = winS B (o + 32 + p) (n + l) := by
    intro j n hn hj hj' p l hp hl
    pointwise
    refine (win8_at B j o (8 + p) l (by omega) hl).trans ?_
    unfold winS
    rw [if_neg (by omega), if_neg (by omega), if_pos (by omega), show (n + l) / 128 = j by omega, show (n + l) % 128 = l by omega, show o + 24 + (8 + p) = o + 32 + p by omega]
  have hw16 : ∀ (j n : ℕ) (hn : n = 128 * j) (hj : 6 ≤ j) (hj' : j < 8) (p l : ℕ) (hp : p < 256) (hl : l < 128),
      win16 (ua B j o) (ub B j o) (uc B j o) (ud B j o) (ix2 ⟨p, hp⟩ ⟨l, hl⟩) = winS B (o + 32 + p) (n + l) := by
    intro j n hn hj hj' p l hp hl
    refine (win16_at B j o p l hp hl).trans ?_
    unfold winS
    rw [if_neg (by omega), if_neg (by omega), if_neg (by omega), show (n + l) / 128 = j by omega, show (n + l) % 128 = l by omega]
  refine (mixV_at _ _ _ _ ps (fun p k => ∑ q : Fin 256, poolF B x g wi t (o + p) (256 * (k / 256) + q) * at2 wp (256 * (k / 256) + q) (k % 256)) ?_ ?_ ?_ ?_ p k hp hk)
  · intro p l hp hl
    refine (hg _ _ 0 0 rfl (poolV_at B x g wi _ t o 0 2 0 ht ho (by decide) rfl rfl _ (hw2 0 0 rfl (by decide))) (poolV_at B x g wi _ t o 1 2 128 ht ho (by decide) rfl rfl _ (hw2 1 128 rfl (by decide))) p l hp hl).trans ?_
    rw [Nat.zero_add]
  · exact hg _ _ 1 256 rfl (poolV_at B x g wi _ t o 2 4 256 ht ho (by decide) rfl rfl _ (hw4 2 256 rfl (by decide) (by decide))) (poolV_at B x g wi _ t o 3 4 384 ht ho (by decide) rfl rfl _ (hw4 3 384 rfl (by decide) (by decide)))
  · exact hg _ _ 2 512 rfl (poolV_at B x g wi _ t o 4 8 512 ht ho (by decide) rfl rfl _ (hw8 4 512 rfl (by decide) (by decide))) (poolV_at B x g wi _ t o 5 8 640 ht ho (by decide) rfl rfl _ (hw8 5 640 rfl (by decide) (by decide)))
  · exact hg _ _ 3 768 rfl (poolV_at B x g wi _ t o 6 16 768 ht ho (by decide) rfl rfl _ (hw16 6 768 rfl (by decide) (by decide))) (poolV_at B x g wi _ t o 7 16 896 ht ho (by decide) rfl rfl _ (hw16 7 896 rfl (by decide) (by decide)))

theorem convsV_at (o : ℕ) (p k : ℕ) (hp : p < 256) (hk : k < 1024) : convsV D x g cw wi o (ix2 ⟨p, hp⟩ ⟨k, hk⟩) = convF D x g cw wi (o + p) k := by
  have hc : ∀ (j n : ℕ) (hn : n = 128 * j) (hj : j < 8) (h h2 h1 h0) (p l : ℕ) (hp : p < 256) (hl : l < 128),
      convV (mulf (projV x g wi 2048 o) (projV x g wi 3072 o)) (shapeCast S3x1024 cw shapeCasts_S1x3x1024_S3x1024) (blk D 256 j (o + 7)) (blk D 256 j (o + 6)) n h h2 h1 h0 (ix2 ⟨p, hp⟩ ⟨l, hl⟩)
        = convF D x g cw wi (o + p) (n + l) := by
    intro j n hn hj h h2 h1 h0 p l hp hl
    refine (convV_at D _ cw j o n hn hj h h2 h1 h0 p l hp hl).trans ?_
    rw [at2_ix _ _ _ hp (by omega)]
    unfold convF
    rw [show (n + l) / 128 = j by omega, show (n + l) % 128 = l by omega, show o + p + 7 = o + 7 + p by omega, show o + p + 6 = o + 6 + p by omega]
    rfl
  refine cat8V_at _ _ _ _ _ _ _ _ (fun p k => convF D x g cw wi (o + p) k) ?_ (hc 1 128 rfl (by decide) _ _ _ _) (hc 2 256 rfl (by decide) _ _ _ _) (hc 3 384 rfl (by decide) _ _ _ _)
    (hc 4 512 rfl (by decide) _ _ _ _) (hc 5 640 rfl (by decide) _ _ _ _) (hc 6 768 rfl (by decide) _ _ _ _) (hc 7 896 rfl (by decide) _ _ _ _) p k hp hk
  intro p l hp hl
  refine (hc 0 0 rfl (by decide) _ _ _ _ p l hp hl).trans ?_
  rw [Nat.zero_add]

theorem chunkV_at (t o : ℕ) (ht : t < 8) (ho : o + 256 ≤ 1024) (y : S1x256x1024.Idx) :
    chunkV B D x g ps cw wi wp wo (BitVec.ofNat 32 t) (BitVec.ofNat 32 o) o y = rowF B D x g ps cw wi wp wo t (o + (y 1).val) (y 2).val := by
  have h1 : (y 1).val < 256 := (y 1).isLt
  have h2 : (y 2).val < 1024 := (y 2).isLt
  unfold chunkV rowF
  rw [outV_at]
  refine congrArg₂ (· + ·) ?_ (congrArg₂ (· + ·) (Finset.sum_congr rfl fun k _ => ?_) (Finset.sum_congr rfl fun k _ => ?_))
  · rw [at2_ix _ _ _ h1 h2]
    pointwise
    rfl
  · rw [at2_ix (projV x g wi 1024 o) _ _ h1 k.isLt, at2_ix (projV x g wi 5120 o) _ _ h1 k.isLt, at2_ix (convsV _ _ _ _ _ _) _ _ h1 k.isLt, convsV_at, at2_ix (part2 _ _ _ _ _) _ _ k.isLt h2]
    refine congrArg (_ * ·) (congrArg (at2 wo (1024 + k)) (Nat.zero_add _))
  · rw [at2_ix (projV x g wi 4096 o) _ _ h1 k.isLt, at2_ix (poolsV _ _ _ _ _ _ _ _ _) _ _ h1 k.isLt, poolsV_at _ _ _ _ _ _ _ _ ht ho, at2_ix (part2 _ _ _ _ _) _ _ k.isLt h2]
    refine congrArg (_ * ·) (congrArg₂ (at2 wo) (Nat.zero_add _) (Nat.zero_add _))

end
end Cert.KernelIdeal.Even
-- ==== Proof.Ideal.Bufs.lean ====
/- The loads of the body: which rows of which buffer each brings, as functions of row and column numbers. -/
module

public import proofs.«01_k».proof.Proof.Ideal.Chunk

@[expose] public section

set_option maxRecDepth 16384

noncomputable section

namespace Cert.KernelIdeal.Even

open Cert.KernelIdeal Cert.KernelIdeal.Gen
open Idealize.ShloMosaic Idealize.ShloMosaic.TcCoe Idealize.SL.Sem

variable (i : grid0.Coords) (arg2 : Memref sig .tc .vmem S1x1024x1024 .f32) (arg3 : Memref sig .tc .vmem S2x1024 .f32)
  (arg6 : Memref sig .tc .vmem S1x1024 .f32) (arg7 : Memref sig .tc .vmem S1x3x1024 .f32)
  (x : Vec Ideal S1x1024x1024 .f32) (g : Vec Ideal S2x1024 .f32) (ps : Vec Ideal S1x1024 .f32) (cw : Vec Ideal S1x3x1024 .f32)
  (wi : Vec Ideal S1024x6144 .bf16) (wp' : Vec Ideal S1024x256 .bf16) (wo : Vec Ideal S2048x1024 .bf16) (cu : Vec Ideal S8x32x128 .f32) (cc : Vec Ideal S8x8x128 .f32)

/-- Slabs of the two row buffers: the rows before the tile, then the tile's. -/
abbrev tU : ℕ → ℕ → ℕ → EReal := buf 32 (at3 cu) (prj x g wi 0)
abbrev tC : ℕ → ℕ → ℕ → EReal := buf 8 (at3 cc) (fun r k => prj x g wi 2048 r k * prj x g wi 3072 r k)

theorem ldPs : arg6.view.readAt (Elt Ideal) (Rect.unit (s := S1x1024) ![0, 0] ![1, 1024] inb_S1x1024_S1x1024_0_0).toLoadRect (arg6.view.rep ps) = ps := by
  rw [View.readAt_eq_ld, View.read_rep]
  funext y
  refine congrArg ps (funext fun b => Fin.ext ?_)
  match b with
  | 0 => show 0 + 1 * (y 0).val = _; omega
  | 1 => show 0 + 1 * (y 1).val = _; omega
theorem ldCw : arg7.view.readAt (Elt Ideal) (Rect.unit (s := S1x3x1024) ![0, 0, 0] ![1, 3, 1024] inb_S1x3x1024_S1x3x1024_0_0_0).toLoadRect (arg7.view.rep cw) = cw := by
  rw [View.readAt_eq_ld, View.read_rep]
  funext y
  refine congrArg cw (funext fun b => Fin.ext ?_)
  match b with
  | 0 => show 0 + 1 * (y 0).val = _; omega
  | 1 => show 0 + 1 * (y 1).val = _; omega
  | 2 => show 0 + 1 * (y 2).val = _; omega

/-- A block of rows loaded, normalised and projected by a block of the weight's columns. -/
theorem ldProj (o q : ℕ) (ho : o + 256 ≤ 1024) (hq : q + 1024 ≤ 6144) (h h' h'') :
    k0_pay51 (F := Ideal) (k0_pay46
      (arg2.view.readAt (Elt Ideal) (Rect.unit (s := S1x1024x1024) ![0, o, 0] ![1, 256, 1024] h).toLoadRect (arg2.view.rep x))
      (arg3.view.readAt (Elt Ideal) (Rect.unit (s := S2x1024) ![0, 0] ![1, 1024] h').toLoadRect (arg3.view.rep g)))
      (mWi.view.readCov [(⟨rWi, wi⟩ : View.Piece (Elt Ideal) _ _)] (Rect.unit (s := S1024x6272) ![0, q] ![1024, 1024] h'').toLoadRect) = projV x g wi q o := by
  rw [ldX, ldG, show mWi.view.readCov [(⟨rWi, wi⟩ : View.Piece (Elt Ideal) _ _)] (Rect.unit (s := S1024x6272) ![0, q] ![1024, 1024] h'').toLoadRect = colsW wi q from
    (ld_weight (n0 := 1024) (n1 := 6144) mWi.view wi 0 q inbWi h'' (by omega) (by omega)).trans (funext fun y => congrArg (fun a => at2 wi a (q + (y 1).val)) (Nat.zero_add _))]
  exact projV_eq x g wi q o ho

variable {x g wi cu cc}

theorem storeU (j n c : ℕ) (hn : n = 128 * j) (hj : j < 8) {o : ℕ} (ho : o = 32 + 256 * c) {V : FVec Ideal S256x1024 .f32} (hV : V = projV x g wi 0 (256 * c)) (h : S256x1024.Slices ![0, n] S256x128) (y : S1x256x128.Idx) :
    shapeCast (α := EReal) S1x256x128 (extractStridedSlice S256x128 ![0, n] V h) shapeCasts_S256x128_S1x256x128 y = tU x g wi cu j (o + (y 1).val) (y 2).val := by
  idx_vars y
  subst hV ho hn
  have e : tU x g wi cu j (32 + 256 * c + y1.val) y2.val = prj x g wi 0 (256 * c + y1.val) (128 * j + y2.val) := by
    unfold tU buf
    rw [if_neg (by omega), show 32 + 256 * c + y1.val - 32 = 256 * c + y1.val by omega]
  refine Eq.trans ?_ e.symm
  pointwise
  rfl

theorem storeC (j n c : ℕ) (hn : n = 128 * j) (hj : j < 8) {o : ℕ} (ho : o = 8 + 256 * c) {V W : FVec Ideal S256x1024 .f32} (hV : V = projV x g wi 2048 (256 * c)) (hW : W = projV x g wi 3072 (256 * c)) (h : S256x1024.Slices ![0, n] S256x128) (y : S1x256x128.Idx) :
    shapeCast (α := EReal) S1x256x128 (extractStridedSlice S256x128 ![0, n] (mulf V W) h) shapeCasts_S256x128_S1x256x128 y = tC x g wi cc j (o + (y 1).val) (y 2).val := by
  idx_vars y
  subst hV hW ho hn
  have e : tC x g wi cc j (8 + 256 * c + y1.val) y2.val = prj x g wi 2048 (256 * c + y1.val) (128 * j + y2.val) * prj x g wi 3072 (256 * c + y1.val) (128 * j + y2.val) := by
    unfold tC buf
    rw [if_neg (by omega), show 8 + 256 * c + y1.val - 8 = 256 * c + y1.val by omega]
  refine Eq.trans ?_ e.symm
  pointwise
  rfl

theorem keptS2 {B : ℕ → ℕ → ℕ → EReal} {a b : Vec Ideal S1x280x128 .f32} (jj j o : ℕ) (ha : a = ua B j o) (hb : b = ub B j o) (L : List (View.Piece (Elt Ideal) S24x280x128 .f32)) (h h') :
    mS2.view.readCov (⟨Rect.unit (s := S24x280x128) ![jj, 0, 0] ![1, 280, 128] h, shapeCast S1x280x128 (win2 a b) shapeCasts_S280x128_S1x280x128⟩ :: L)
      (Rect.unit (s := S24x280x128) ![jj, 6, 0] ![1, 272, 128] h').toLoadRect = uc B j o := by
  subst ha hb
  refine (ld_head mS2.view jj 6 _ L h h' (fun p l => s2 B j (o + 8 + p) l) (kept2 B j o)).trans (funext fun y => ?_)
  show s2 B j (o + 8 + (6 + (y 1).val)) (y 2).val = s2 B j (o + 14 + (y 1).val) (y 2).val
  rw [show o + 8 + (6 + (y 1).val) = o + 14 + (y 1).val by omega]

theorem keptS4 {B : ℕ → ℕ → ℕ → EReal} {a b : Vec Ideal S1x280x128 .f32} {d : Vec Ideal S1x272x128 .f32} (jj j o : ℕ) (ha : a = ua B j o) (hb : b = ub B j o) (hd : d = uc B j o)
    (L : List (View.Piece (Elt Ideal) S16x272x128 .f32)) (h h') :
    mS4.view.readCov (⟨Rect.unit (s := S16x272x128) ![jj, 0, 0] ![1, 272, 128] h, shapeCast S1x272x128 (win4 a b d) shapeCasts_S272x128_S1x272x128⟩ :: L)
      (Rect.unit (s := S16x272x128) ![jj, 4, 0] ![1, 264, 128] h').toLoadRect = ud B j o := by
  subst ha hb hd
  refine (ld_head mS4.view jj 4 _ L h h' (fun p l => s4 B j (o + 16 + p) l) (kept4 B j o)).trans (funext fun y => ?_)
  show s4 B j (o + 16 + (4 + (y 1).val)) (y 2).val = s4 B j (o + 20 + (y 1).val) (y 2).val
  rw [show o + 16 + (4 + (y 1).val) = o + 20 + (y 1).val by omega]

theorem startU : Good 32 (tU x g wi cu) 0 [(⟨rU, cu⟩ : View.Piece (Elt Ideal) _ _)] :=
  .start _ cu fun y => (by
    have h1 : (y 1).val < 32 := (y 1).isLt
    show cu y = if (y 1).val < 32 then at3 cu (y 0).val (y 1).val (y 2).val else _
    rw [if_pos h1, at3_ix cu _ _ _ (y 0).isLt h1 (y 2).isLt]
    exact congrArg cu (eq_ix3 y))
theorem startC : Good 8 (tC x g wi cc) 0 [(⟨rC, cc⟩ : View.Piece (Elt Ideal) _ _)] :=
  .start _ cc fun y => (by
    have h1 : (y 1).val < 8 := (y 1).isLt
    show cc y = if (y 1).val < 8 then at3 cc (y 0).val (y 1).val (y 2).val else _
    rw [if_pos h1, at3_ix cc _ _ _ (y 0).isLt h1 (y 2).isLt]
    exact congrArg cc (eq_ix3 y))

end Cert.KernelIdeal.Even
-- ==== Proof.Ideal.Loads.lean ====
/- The body's loads by name: each projection, each store into the row buffers, each load from a buffer. -/
module

public import proofs.«01_k».proof.Proof.Ideal.Bufs

@[expose] public section

set_option maxRecDepth 16384

noncomputable section

namespace Cert.KernelIdeal.Even

open Cert.KernelIdeal Cert.KernelIdeal.Gen
open Idealize.ShloMosaic Idealize.ShloMosaic.TcCoe Idealize.SL.Sem

variable (i : grid0.Coords) (arg2 : Memref sig .tc .vmem S1x1024x1024 .f32) (arg3 : Memref sig .tc .vmem S2x1024 .f32)
  (arg6 : Memref sig .tc .vmem S1x1024 .f32) (arg7 : Memref sig .tc .vmem S1x3x1024 .f32)
  (x : Vec Ideal S1x1024x1024 .f32) (g : Vec Ideal S2x1024 .f32) (ps : Vec Ideal S1x1024 .f32) (cw : Vec Ideal S1x3x1024 .f32)
  (wi : Vec Ideal S1024x6144 .bf16) (wp' : Vec Ideal S1024x256 .bf16) (wo : Vec Ideal S2048x1024 .bf16) (cu : Vec Ideal S8x32x128 .f32) (cc : Vec Ideal S8x8x128 .f32)

theorem er_2 : rest.sl.r_2 arg2 arg3 x g wi = projV x g wi 0 0 := ldProj arg2 arg3 x g wi 0 0 (by decide) (by decide) _ _ _
theorem er_3 : rest.sl.r_3 arg2 arg3 x g wi = projV x g wi 2048 0 := ldProj arg2 arg3 x g wi 0 2048 (by decide) (by decide) _ _ _
theorem er_4 : rest.sl.r_4 arg2 arg3 x g wi = projV x g wi 3072 0 := ldProj arg2 arg3 x g wi 0 3072 (by decide) (by decide) _ _ _
theorem er_6 : rest.sl.r_6 arg2 arg3 x g wi = projV x g wi 1024 0 := ldProj arg2 arg3 x g wi 0 1024 (by decide) (by decide) _ _ _
theorem er_7 : rest.sl.r_7 arg2 arg3 x g wi = projV x g wi 5120 0 := ldProj arg2 arg3 x g wi 0 5120 (by decide) (by decide) _ _ _
theorem er_8 : rest.sl.r_8 arg2 arg3 x g wi = projV x g wi 4096 0 := ldProj arg2 arg3 x g wi 0 4096 (by decide) (by decide) _ _ _
theorem er_44 : rest.sl.r_44 arg2 arg3 x g wi = projV x g wi 0 256 := ldProj arg2 arg3 x g wi 256 0 (by decide) (by decide) _ _ _
theorem er_45 : rest.sl.r_45 arg2 arg3 x g wi = projV x g wi 2048 256 := ldProj arg2 arg3 x g wi 256 2048 (by decide) (by decide) _ _ _
theorem er_46 : rest.sl.r_46 arg2 arg3 x g wi = projV x g wi 3072 256 := ldProj arg2 arg3 x g wi 256 3072 (by decide) (by decide) _ _ _
theorem er_47 : rest.sl.r_47 arg2 arg3 x g wi = projV x g wi 1024 256 := ldProj arg2 arg3 x g wi 256 1024 (by decide) (by decide) _ _ _
theorem er_48 : rest.sl.r_48 arg2 arg3 x g wi = projV x g wi 5120 256 := ldProj arg2 arg3 x g wi 256 5120 (by decide) (by decide) _ _ _
theorem er_49 : rest.sl.r_49 arg2 arg3 x g wi = projV x g wi 4096 256 := ldProj arg2 arg3 x g wi 256 4096 (by decide) (by decide) _ _ _
theorem er_89 : rest.sl.r_89 arg2 arg3 x g wi = projV x g wi 0 512 := ldProj arg2 arg3 x g wi 512 0 (by decide) (by decide) _ _ _
theorem er_90 : rest.sl.r_90 arg2 arg3 x g wi = projV x g wi 2048 512 := ldProj arg2 arg3 x g wi 512 2048 (by decide) (by decide) _ _ _
theorem er_91 : rest.sl.r_91 arg2 arg3 x g wi = projV x g wi 3072 512 := ldProj arg2 arg3 x g wi 512 3072 (by decide) (by decide) _ _ _
theorem er_92 : rest.sl.r_92 arg2 arg3 x g wi = projV x g wi 1024 512 := ldProj arg2 arg3 x g wi 512 1024 (by decide) (by decide) _ _ _
theorem er_93 : rest.sl.r_93 arg2 arg3 x g wi = projV x g wi 5120 512 := ldProj arg2 arg3 x g wi 512 5120 (by decide) (by decide) _ _ _
theorem er_94 : rest.sl.r_94 arg2 arg3 x g wi = projV x g wi 4096 512 := ldProj arg2 arg3 x g wi 512 4096 (by decide) (by decide) _ _ _
theorem er_133 : rest.sl.r_133 arg2 arg3 x g wi = projV x g wi 0 768 := ldProj arg2 arg3 x g wi 768 0 (by decide) (by decide) _ _ _
theorem er_134 : rest.sl.r_134 arg2 arg3 x g wi = projV x g wi 2048 768 := ldProj arg2 arg3 x g wi 768 2048 (by decide) (by decide) _ _ _
theorem er_135 : rest.sl.r_135 arg2 arg3 x g wi = projV x g wi 3072 768 := ldProj arg2 arg3 x g wi 768 3072 (by decide) (by decide) _ _ _
theorem er_136 : rest.sl.r_136 arg2 arg3 x g wi = projV x g wi 1024 768 := ldProj arg2 arg3 x g wi 768 1024 (by decide) (by decide) _ _ _
theorem er_137 : rest.sl.r_137 arg2 arg3 x g wi = projV x g wi 5120 768 := ldProj arg2 arg3 x g wi 768 5120 (by decide) (by decide) _ _ _
theorem er_138 : rest.sl.r_138 arg2 arg3 x g wi = projV x g wi 4096 768 := ldProj arg2 arg3 x g wi 768 4096 (by decide) (by decide) _ _ _
theorem er_97 : rest.sl.r_97 arg2 arg3 x g wi = extractStridedSlice S256x128 ![0, 0] (projV x g wi 0 512) slices_S256x1024_o0_0_S256x128 := by
  rw [← er_89 arg2 arg3 x g wi]; rfl

/-! Stores. -/

theorem gHU_2 : Good 32 (tU x g wi cu) 1 (rest.sl.HU_2 arg2 arg3 x g wi cu) := .cons 0 0 (by decide) (startU) rfl _ _ (storeU 0 0 0 rfl (by decide) rfl (er_2 arg2 arg3 x g wi) slices_S256x1024_o0_0_S256x128)
theorem gHU_3 : Good 32 (tU x g wi cu) 2 (rest.sl.HU_3 arg2 arg3 x g wi cu) := .cons 0 1 (by decide) (gHU_2 arg2 arg3 x g wi cu) rfl _ _ (storeU 1 128 0 rfl (by decide) rfl (er_2 arg2 arg3 x g wi) slices_S256x1024_o0_128_S256x128)
theorem gHU_4 : Good 32 (tU x g wi cu) 3 (rest.sl.HU_4 arg2 arg3 x g wi cu) := .cons 0 2 (by decide) (gHU_3 arg2 arg3 x g wi cu) rfl _ _ (storeU 2 256 0 rfl (by decide) rfl (er_2 arg2 arg3 x g wi) slices_S256x1024_o0_256_S256x128)
theorem gHU_5 : Good 32 (tU x g wi cu) 4 (rest.sl.HU_5 arg2 arg3 x g wi cu) := .cons 0 3 (by decide) (gHU_4 arg2 arg3 x g wi cu) rfl _ _ (storeU 3 384 0 rfl (by decide) rfl (er_2 arg2 arg3 x g wi) slices_S256x1024_o0_384_S256x128)
theorem gHU_6 : Good 32 (tU x g wi cu) 5 (rest.sl.HU_6 arg2 arg3 x g wi cu) := .cons 0 4 (by decide) (gHU_5 arg2 arg3 x g wi cu) rfl _ _ (storeU 4 512 0 rfl (by decide) rfl (er_2 arg2 arg3 x g wi) slices_S256x1024_o0_512_S256x128)
theorem gHU_7 : Good 32 (tU x g wi cu) 6 (rest.sl.HU_7 arg2 arg3 x g wi cu) := .cons 0 5 (by decide) (gHU_6 arg2 arg3 x g wi cu) rfl _ _ (storeU 5 640 0 rfl (by decide) rfl (er_2 arg2 arg3 x g wi) slices_S256x1024_o0_640_S256x128)
theorem gHU_8 : Good 32 (tU x g wi cu) 7 (rest.sl.HU_8 arg2 arg3 x g wi cu) := .cons 0 6 (by decide) (gHU_7 arg2 arg3 x g wi cu) rfl _ _ (storeU 6 768 0 rfl (by decide) rfl (er_2 arg2 arg3 x g wi) slices_S256x1024_o0_768_S256x128)
theorem gHU_9 : Good 32 (tU x g wi cu) 8 (rest.sl.HU_9 arg2 arg3 x g wi cu) := .cons 0 7 (by decide) (gHU_8 arg2 arg3 x g wi cu) rfl _ _ (storeU 7 896 0 rfl (by decide) rfl (er_2 arg2 arg3 x g wi) slices_S256x1024_o0_896_S256x128)
theorem gHU_10 : Good 32 (tU x g wi cu) 9 (rest.sl.HU_10 arg2 arg3 x g wi cu) := .cons 1 0 (by decide) (gHU_9 arg2 arg3 x g wi cu) rfl _ _ (storeU 0 0 1 rfl (by decide) rfl (er_44 arg2 arg3 x g wi) slices_S256x1024_o0_0_S256x128)
theorem gHU_11 : Good 32 (tU x g wi cu) 10 (rest.sl.HU_11 arg2 arg3 x g wi cu) := .cons 1 1 (by decide) (gHU_10 arg2 arg3 x g wi cu) rfl _ _ (storeU 1 128 1 rfl (by decide) rfl (er_44 arg2 arg3 x g wi) slices_S256x1024_o0_128_S256x128)
theorem gHU_12 : Good 32 (tU x g wi cu) 11 (rest.sl.HU_12 arg2 arg3 x g wi cu) := .cons 1 2 (by decide) (gHU_11 arg2 arg3 x g wi cu) rfl _ _ (storeU 2 256 1 rfl (by decide) rfl (er_44 arg2 arg3 x g wi) slices_S256x1024_o0_256_S256x128)
theorem gHU_13 : Good 32 (tU x g wi cu) 12 (rest.sl.HU_13 arg2 arg3 x g wi cu) := .cons 1 3 (by decide) (gHU_12 arg2 arg3 x g wi cu) rfl _ _ (storeU 3 384 1 rfl (by decide) rfl (er_44 arg2 arg3 x g wi) slices_S256x1024_o0_384_S256x128)
theorem gHU_14 : Good 32 (tU x g wi cu) 13 (rest.sl.HU_14 arg2 arg3 x g wi cu) := .cons 1 4 (by decide) (gHU_13 arg2 arg3 x g wi cu) rfl _ _ (storeU 4 512 1 rfl (by decide) rfl (er_44 arg2 arg3 x g wi) slices_S256x1024_o0_512_S256x128)
theorem gHU_15 : Good 32 (tU x g wi cu) 14 (rest.sl.HU_15 arg2 arg3 x g wi cu) := .cons 1 5 (by decide) (gHU_14 arg2 arg3 x g wi cu) rfl _ _ (storeU 5 640 1 rfl (by decide) rfl (er_44 arg2 arg3 x g wi) slices_S256x1024_o0_640_S256x128)
theorem gHU_16 : Good 32 (tU x g wi cu) 15 (rest.sl.HU_16 arg2 arg3 x g wi cu) := .cons 1 6 (by decide) (gHU_15 arg2 arg3 x g wi cu) rfl _ _ (storeU 6 768 1 rfl (by decide) rfl (er_44 arg2 arg3 x g wi) slices_S256x1024_o0_768_S256x128)
theorem gHU_17 : Good 32 (tU x g wi cu) 16 (rest.sl.HU_17 arg2 arg3 x g wi cu) := .cons 1 7 (by decide) (gHU_16 arg2 arg3 x g wi cu) rfl _ _ (storeU 7 896 1 rfl (by decide) rfl (er_44 arg2 arg3 x g wi) slices_S256x1024_o0_896_S256x128)
theorem gHU_18 : Good 32 (tU x g wi cu) 17 (rest.sl.HU_18 arg2 arg3 x g wi cu) := .cons 2 0 (by decide) (gHU_17 arg2 arg3 x g wi cu) rfl _ _ (storeU 0 0 2 rfl (by decide) rfl (er_89 arg2 arg3 x g wi) slices_S256x1024_o0_0_S256x128)
theorem gHU_19 : Good 32 (tU x g wi cu) 18 (rest.sl.HU_19 arg2 arg3 x g wi cu) := .cons 2 1 (by decide) (gHU_18 arg2 arg3 x g wi cu) rfl _ _ (storeU 1 128 2 rfl (by decide) rfl (er_89 arg2 arg3 x g wi) slices_S256x1024_o0_128_S256x128)
theorem gHU_20 : Good 32 (tU x g wi cu) 19 (rest.sl.HU_20 arg2 arg3 x g wi cu) := .cons 2 2 (by decide) (gHU_19 arg2 arg3 x g wi cu) rfl _ _ (storeU 2 256 2 rfl (by decide) rfl (er_89 arg2 arg3 x g wi) slices_S256x1024_o0_256_S256x128)
theorem gHU_21 : Good 32 (tU x g wi cu) 20 (rest.sl.HU_21 arg2 arg3 x g wi cu) := .cons 2 3 (by decide) (gHU_20 arg2 arg3 x g wi cu) rfl _ _ (storeU 3 384 2 rfl (by decide) rfl (er_89 arg2 arg3 x g wi) slices_S256x1024_o0_384_S256x128)
theorem gHU_22 : Good 32 (tU x g wi cu) 21 (rest.sl.HU_22 arg2 arg3 x g wi cu) := .cons 2 4 (by decide) (gHU_21 arg2 arg3 x g wi cu) rfl _ _ (storeU 4 512 2 rfl (by decide) rfl (er_89 arg2 arg3 x g wi) slices_S256x1024_o0_512_S256x128)
theorem gHU_23 : Good 32 (tU x g wi cu) 22 (rest.sl.HU_23 arg2 arg3 x g wi cu) := .cons 2 5 (by decide) (gHU_22 arg2 arg3 x g wi cu) rfl _ _ (storeU 5 640 2 rfl (by decide) rfl (er_89 arg2 arg3 x g wi) slices_S256x1024_o0_640_S256x128)
theorem gHU_24 : Good 32 (tU x g wi cu) 23 (rest.sl.HU_24 arg2 arg3 x g wi cu) := .cons 2 6 (by decide) (gHU_23 arg2 arg3 x g wi cu) rfl _ _ (storeU 6 768 2 rfl (by decide) rfl (er_89 arg2 arg3 x g wi) slices_S256x1024_o0_768_S256x128)
theorem gHU_25 : Good 32 (tU x g wi cu) 24 (rest.sl.HU_25 arg2 arg3 x g wi cu) := .cons 2 7 (by decide) (gHU_24 arg2 arg3 x g wi cu) rfl _ _ (storeU 7 896 2 rfl (by decide) rfl (er_89 arg2 arg3 x g wi) slices_S256x1024_o0_896_S256x128)
theorem gHU_26 : Good 32 (tU x g wi cu) 25 (rest.sl.HU_26 arg2 arg3 x g wi cu) := .cons 3 0 (by decide) (gHU_25 arg2 arg3 x g wi cu) rfl _ _ (storeU 0 0 3 rfl (by decide) rfl (er_133 arg2 arg3 x g wi) slices_S256x1024_o0_0_S256x128)
theorem gHU_27 : Good 32 (tU x g wi cu) 26 (rest.sl.HU_27 arg2 arg3 x g wi cu) := .cons 3 1 (by decide) (gHU_26 arg2 arg3 x g wi cu) rfl _ _ (storeU 1 128 3 rfl (by decide) rfl (er_133 arg2 arg3 x g wi) slices_S256x1024_o0_128_S256x128)
theorem gHU_28 : Good 32 (tU x g wi cu) 27 (rest.sl.HU_28 arg2 arg3 x g wi cu) := .cons 3 2 (by decide) (gHU_27 arg2 arg3 x g wi cu) rfl _ _ (storeU 2 256 3 rfl (by decide) rfl (er_133 arg2 arg3 x g wi) slices_S256x1024_o0_256_S256x128)
theorem gHU_29 : Good 32 (tU x g wi cu) 28 (rest.sl.HU_29 arg2 arg3 x g wi cu) := .cons 3 3 (by decide) (gHU_28 arg2 arg3 x g wi cu) rfl _ _ (storeU 3 384 3 rfl (by decide) rfl (er_133 arg2 arg3 x g wi) slices_S256x1024_o0_384_S256x128)
theorem gHU_30 : Good 32 (tU x g wi cu) 29 (rest.sl.HU_30 arg2 arg3 x g wi cu) := .cons 3 4 (by decide) (gHU_29 arg2 arg3 x g wi cu) rfl _ _ (storeU 4 512 3 rfl (by decide) rfl (er_133 arg2 arg3 x g wi) slices_S256x1024_o0_512_S256x128)
theorem gHU_31 : Good 32 (tU x g wi cu) 30 (rest.sl.HU_31 arg2 arg3 x g wi cu) := .cons 3 5 (by decide) (gHU_30 arg2 arg3 x g wi cu) rfl _ _ (storeU 5 640 3 rfl (by decide) rfl (er_133 arg2 arg3 x g wi) slices_S256x1024_o0_640_S256x128)
theorem gHU_32 : Good 32 (tU x g wi cu) 31 (rest.sl.HU_32 arg2 arg3 x g wi cu) := .cons 3 6 (by decide) (gHU_31 arg2 arg3 x g wi cu) rfl _ _ (storeU 6 768 3 rfl (by decide) rfl (er_133 arg2 arg3 x g wi) slices_S256x1024_o0_768_S256x128)
theorem gHU_33 : Good 32 (tU x g wi cu) 32 (rest.sl.HU_33 arg2 arg3 x g wi cu) := .cons 3 7 (by decide) (gHU_32 arg2 arg3 x g wi cu) rfl _ _ (storeU 7 896 3 rfl (by decide) rfl (er_133 arg2 arg3 x g wi) slices_S256x1024_o0_896_S256x128)

theorem gHC_2 : Good 8 (tC x g wi cc) 1 (rest.sl.HC_2 arg2 arg3 x g wi cc) := .cons 0 0 (by decide) (startC) rfl _ _ (storeC 0 0 0 rfl (by decide) rfl (er_3 arg2 arg3 x g wi) (er_4 arg2 arg3 x g wi) slices_S256x1024_o0_0_S256x128)
theorem gHC_3 : Good 8 (tC x g wi cc) 2 (rest.sl.HC_3 arg2 arg3 x g wi cc) := .cons 0 1 (by decide) (gHC_2 arg2 arg3 x g wi cc) rfl _ _ (storeC 1 128 0 rfl (by decide) rfl (er_3 arg2 arg3 x g wi) (er_4 arg2 arg3 x g wi) slices_S256x1024_o0_128_S256x128)
theorem gHC_4 : Good 8 (tC x g wi cc) 3 (rest.sl.HC_4 arg2 arg3 x g wi cc) := .cons 0 2 (by decide) (gHC_3 arg2 arg3 x g wi cc) rfl _ _ (storeC 2 256 0 rfl (by decide) rfl (er_3 arg2 arg3 x g wi) (er_4 arg2 arg3 x g wi) slices_S256x1024_o0_256_S256x128)
theorem gHC_5 : Good 8 (tC x g wi cc) 4 (rest.sl.HC_5 arg2 arg3 x g wi cc) := .cons 0 3 (by decide) (gHC_4 arg2 arg3 x g wi cc) rfl _ _ (storeC 3 384 0 rfl (by decide) rfl (er_3 arg2 arg3 x g wi) (er_4 arg2 arg3 x g wi) slices_S256x1024_o0_384_S256x128)
theorem gHC_6 : Good 8 (tC x g wi cc) 5 (rest.sl.HC_6 arg2 arg3 x g wi cc) := .cons 0 4 (by decide) (gHC_5 arg2 arg3 x g wi cc) rfl _ _ (storeC 4 512 0 rfl (by decide) rfl (er_3 arg2 arg3 x g wi) (er_4 arg2 arg3 x g wi) slices_S256x1024_o0_512_S256x128)
theorem gHC_7 : Good 8 (tC x g wi cc) 6 (rest.sl.HC_7 arg2 arg3 x g wi cc) := .cons 0 5 (by decide) (gHC_6 arg2 arg3 x g wi cc) rfl _ _ (storeC 5 640 0 rfl (by decide) rfl (er_3 arg2 arg3 x g wi) (er_4 arg2 arg3 x g wi) slices_S256x1024_o0_640_S256x128)
theorem gHC_8 : Good 8 (tC x g wi cc) 7 (rest.sl.HC_8 arg2 arg3 x g wi cc) := .cons 0 6 (by decide) (gHC_7 arg2 arg3 x g wi cc) rfl _ _ (storeC 6 768 0 rfl (by decide) rfl (er_3 arg2 arg3 x g wi) (er_4 arg2 arg3 x g wi) slices_S256x1024_o0_768_S256x128)
theorem gHC_9 : Good 8 (tC x g wi cc) 8 (rest.sl.HC_9 arg2 arg3 x g wi cc) := .cons 0 7 (by decide) (gHC_8 arg2 arg3 x g wi cc) rfl _ _ (storeC 7 896 0 rfl (by decide) rfl (er_3 arg2 arg3 x g wi) (er_4 arg2 arg3 x g wi) slices_S256x1024_o0_896_S256x128)
theorem gHC_10 : Good 8 (tC x g wi cc) 9 (rest.sl.HC_10 arg2 arg3 x g wi cc) := .cons 1 0 (by decide) (gHC_9 arg2 arg3 x g wi cc) rfl _ _ (storeC 0 0 1 rfl (by decide) rfl (er_45 arg2 arg3 x g wi) (er_46 arg2 arg3 x g wi) slices_S256x1024_o0_0_S256x128)
theorem gHC_11 : Good 8 (tC x g wi cc) 10 (rest.sl.HC_11 arg2 arg3 x g wi cc) := .cons 1 1 (by decide) (gHC_10 arg2 arg3 x g wi cc) rfl _ _ (storeC 1 128 1 rfl (by decide) rfl (er_45 arg2 arg3 x g wi) (er_46 arg2 arg3 x g wi) slices_S256x1024_o0_128_S256x128)
theorem gHC_12 : Good 8 (tC x g wi cc) 11 (rest.sl.HC_12 arg2 arg3 x g wi cc) := .cons 1 2 (by decide) (gHC_11 arg2 arg3 x g wi cc) rfl _ _ (storeC 2 256 1 rfl (by decide) rfl (er_45 arg2 arg3 x g wi) (er_46 arg2 arg3 x g wi) slices_S256x1024_o0_256_S256x128)
theorem gHC_13 : Good 8 (tC x g wi cc) 12 (rest.sl.HC_13 arg2 arg3 x g wi cc) := .cons 1 3 (by decide) (gHC_12 arg2 arg3 x g wi cc) rfl _ _ (storeC 3 384 1 rfl (by decide) rfl (er_45 arg2 arg3 x g wi) (er_46 arg2 arg3 x g wi) slices_S256x1024_o0_384_S256x128)
theorem gHC_14 : Good 8 (tC x g wi cc) 13 (rest.sl.HC_14 arg2 arg3 x g wi cc) := .cons 1 4 (by decide) (gHC_13 arg2 arg3 x g wi cc) rfl _ _ (storeC 4 512 1 rfl (by decide) rfl (er_45 arg2 arg3 x g wi) (er_46 arg2 arg3 x g wi) slices_S256x1024_o0_512_S256x128)
theorem gHC_15 : Good 8 (tC x g wi cc) 14 (rest.sl.HC_15 arg2 arg3 x g wi cc) := .cons 1 5 (by decide) (gHC_14 arg2 arg3 x g wi cc) rfl _ _ (storeC 5 640 1 rfl (by decide) rfl (er_45 arg2 arg3 x g wi) (er_46 arg2 arg3 x g wi) slices_S256x1024_o0_640_S256x128)
theorem gHC_16 : Good 8 (tC x g wi cc) 15 (rest.sl.HC_16 arg2 arg3 x g wi cc) := .cons 1 6 (by decide) (gHC_15 arg2 arg3 x g wi cc) rfl _ _ (storeC 6 768 1 rfl (by decide) rfl (er_45 arg2 arg3 x g wi) (er_46 arg2 arg3 x g wi) slices_S256x1024_o0_768_S256x128)
theorem gHC_17 : Good 8 (tC x g wi cc) 16 (rest.sl.HC_17 arg2 arg3 x g wi cc) := .cons 1 7 (by decide) (gHC_16 arg2 arg3 x g wi cc) rfl _ _ (storeC 7 896 1 rfl (by decide) rfl (er_45 arg2 arg3 x g wi) (er_46 arg2 arg3 x g wi) slices_S256x1024_o0_896_S256x128)
theorem gHC_18 : Good 8 (tC x g wi cc) 17 (rest.sl.HC_18 arg2 arg3 x g wi cc) := .cons 2 0 (by decide) (gHC_17 arg2 arg3 x g wi cc) rfl _ _ (storeC 0 0 2 rfl (by decide) rfl (er_90 arg2 arg3 x g wi) (er_91 arg2 arg3 x g wi) slices_S256x1024_o0_0_S256x128)
theorem gHC_19 : Good 8 (tC x g wi cc) 18 (rest.sl.HC_19 arg2 arg3 x g wi cc) := .cons 2 1 (by decide) (gHC_18 arg2 arg3 x g wi cc) rfl _ _ (storeC 1 128 2 rfl (by decide) rfl (er_90 arg2 arg3 x g wi) (er_91 arg2 arg3 x g wi) slices_S256x1024_o0_128_S256x128)
theorem gHC_20 : Good 8 (tC x g wi cc) 19 (rest.sl.HC_20 arg2 arg3 x g wi cc) := .cons 2 2 (by decide) (gHC_19 arg2 arg3 x g wi cc) rfl _ _ (storeC 2 256 2 rfl (by decide) rfl (er_90 arg2 arg3 x g wi) (er_91 arg2 arg3 x g wi) slices_S256x1024_o0_256_S256x128)
theorem gHC_21 : Good 8 (tC x g wi cc) 20 (rest.sl.HC_21 arg2 arg3 x g wi cc) := .cons 2 3 (by decide) (gHC_20 arg2 arg3 x g wi cc) rfl _ _ (storeC 3 384 2 rfl (by decide) rfl (er_90 arg2 arg3 x g wi) (er_91 arg2 arg3 x g wi) slices_S256x1024_o0_384_S256x128)
theorem gHC_22 : Good 8 (tC x g wi cc) 21 (rest.sl.HC_22 arg2 arg3 x g wi cc) := .cons 2 4 (by decide) (gHC_21 arg2 arg3 x g wi cc) rfl _ _ (storeC 4 512 2 rfl (by decide) rfl (er_90 arg2 arg3 x g wi) (er_91 arg2 arg3 x g wi) slices_S256x1024_o0_512_S256x128)
theorem gHC_23 : Good 8 (tC x g wi cc) 22 (rest.sl.HC_23 arg2 arg3 x g wi cc) := .cons 2 5 (by decide) (gHC_22 arg2 arg3 x g wi cc) rfl _ _ (storeC 5 640 2 rfl (by decide) rfl (er_90 arg2 arg3 x g wi) (er_91 arg2 arg3 x g wi) slices_S256x1024_o0_640_S256x128)
theorem gHC_24 : Good 8 (tC x g wi cc) 23 (rest.sl.HC_24 arg2 arg3 x g wi cc) := .cons 2 6 (by decide) (gHC_23 arg2 arg3 x g wi cc) rfl _ _ (storeC 6 768 2 rfl (by decide) rfl (er_90 arg2 arg3 x g wi) (er_91 arg2 arg3 x g wi) slices_S256x1024_o0_768_S256x128)
theorem gHC_25 : Good 8 (tC x g wi cc) 24 (rest.sl.HC_25 arg2 arg3 x g wi cc) := .cons 2 7 (by decide) (gHC_24 arg2 arg3 x g wi cc) rfl _ _ (storeC 7 896 2 rfl (by decide) rfl (er_90 arg2 arg3 x g wi) (er_91 arg2 arg3 x g wi) slices_S256x1024_o0_896_S256x128)
theorem gHC_26 : Good 8 (tC x g wi cc) 25 (rest.sl.HC_26 arg2 arg3 x g wi cc) := .cons 3 0 (by decide) (gHC_25 arg2 arg3 x g wi cc) rfl _ _ (storeC 0 0 3 rfl (by decide) rfl (er_134 arg2 arg3 x g wi) (er_135 arg2 arg3 x g wi) slices_S256x1024_o0_0_S256x128)
theorem gHC_27 : Good 8 (tC x g wi cc) 26 (rest.sl.HC_27 arg2 arg3 x g wi cc) := .cons 3 1 (by decide) (gHC_26 arg2 arg3 x g wi cc) rfl _ _ (storeC 1 128 3 rfl (by decide) rfl (er_134 arg2 arg3 x g wi) (er_135 arg2 arg3 x g wi) slices_S256x1024_o0_128_S256x128)
theorem gHC_28 : Good 8 (tC x g wi cc) 27 (rest.sl.HC_28 arg2 arg3 x g wi cc) := .cons 3 2 (by decide) (gHC_27 arg2 arg3 x g wi cc) rfl _ _ (storeC 2 256 3 rfl (by decide) rfl (er_134 arg2 arg3 x g wi) (er_135 arg2 arg3 x g wi) slices_S256x1024_o0_256_S256x128)
theorem gHC_29 : Good 8 (tC x g wi cc) 28 (rest.sl.HC_29 arg2 arg3 x g wi cc) := .cons 3 3 (by decide) (gHC_28 arg2 arg3 x g wi cc) rfl _ _ (storeC 3 384 3 rfl (by decide) rfl (er_134 arg2 arg3 x g wi) (er_135 arg2 arg3 x g wi) slices_S256x1024_o0_384_S256x128)
theorem gHC_30 : Good 8 (tC x g wi cc) 29 (rest.sl.HC_30 arg2 arg3 x g wi cc) := .cons 3 4 (by decide) (gHC_29 arg2 arg3 x g wi cc) rfl _ _ (storeC 4 512 3 rfl (by decide) rfl (er_134 arg2 arg3 x g wi) (er_135 arg2 arg3 x g wi) slices_S256x1024_o0_512_S256x128)
theorem gHC_31 : Good 8 (tC x g wi cc) 30 (rest.sl.HC_31 arg2 arg3 x g wi cc) := .cons 3 5 (by decide) (gHC_30 arg2 arg3 x g wi cc) rfl _ _ (storeC 5 640 3 rfl (by decide) rfl (er_134 arg2 arg3 x g wi) (er_135 arg2 arg3 x g wi) slices_S256x1024_o0_640_S256x128)
theorem gHC_32 : Good 8 (tC x g wi cc) 31 (rest.sl.HC_32 arg2 arg3 x g wi cc) := .cons 3 6 (by decide) (gHC_31 arg2 arg3 x g wi cc) rfl _ _ (storeC 6 768 3 rfl (by decide) rfl (er_134 arg2 arg3 x g wi) (er_135 arg2 arg3 x g wi) slices_S256x1024_o0_768_S256x128)
theorem gHC_33 : Good 8 (tC x g wi cc) 32 (rest.sl.HC_33 arg2 arg3 x g wi cc) := .cons 3 7 (by decide) (gHC_32 arg2 arg3 x g wi cc) rfl _ _ (storeC 7 896 3 rfl (by decide) rfl (er_134 arg2 arg3 x g wi) (er_135 arg2 arg3 x g wi) slices_S256x1024_o0_896_S256x128)

/-! Loads. -/

theorem ev52 : rest.sl.v52 arg2 arg3 x g wi cu = ua (tU x g wi cu) 0 0 := (gHU_2 arg2 arg3 x g wi cu).load mU.view 280 0 8 _ (by decide)
theorem ev54 : rest.sl.v54 arg2 arg3 x g wi cu = ub (tU x g wi cu) 0 0 := (gHU_2 arg2 arg3 x g wi cu).load mU.view 280 0 7 _ (by decide)
theorem ev64 : rest.sl.v64 arg2 arg3 x g wi cu = ua (tU x g wi cu) 1 0 := (gHU_3 arg2 arg3 x g wi cu).load mU.view 280 1 8 _ (by decide)
theorem ev66 : rest.sl.v66 arg2 arg3 x g wi cu = ub (tU x g wi cu) 1 0 := (gHU_3 arg2 arg3 x g wi cu).load mU.view 280 1 7 _ (by decide)
theorem ev74 : rest.sl.v74 wp' = part2 (n0 := 1024) (n1 := 256) wp' 256 256 0 0 := ld_weight mWp.view wp' 0 0 _ _ (by decide) (by decide)
theorem ev87 : rest.sl.v87 arg2 arg3 x g wi cu = ua (tU x g wi cu) 2 0 := (gHU_4 arg2 arg3 x g wi cu).load mU.view 280 2 8 _ (by decide)
theorem ev89 : rest.sl.v89 arg2 arg3 x g wi cu = ub (tU x g wi cu) 2 0 := (gHU_4 arg2 arg3 x g wi cu).load mU.view 280 2 7 _ (by decide)
theorem ev96 : rest.sl.v96 arg2 arg3 x g wi cu = uc (tU x g wi cu) 2 0 := keptS2 0 2 0 (ev87 arg2 arg3 x g wi cu) (ev89 arg2 arg3 x g wi cu) _ _ _
theorem ev106 : rest.sl.v106 arg2 arg3 x g wi cu = ua (tU x g wi cu) 3 0 := (gHU_5 arg2 arg3 x g wi cu).load mU.view 280 3 8 _ (by decide)
theorem ev108 : rest.sl.v108 arg2 arg3 x g wi cu = ub (tU x g wi cu) 3 0 := (gHU_5 arg2 arg3 x g wi cu).load mU.view 280 3 7 _ (by decide)
theorem ev115 : rest.sl.v115 arg2 arg3 x g wi cu = uc (tU x g wi cu) 3 0 := keptS2 1 3 0 (ev106 arg2 arg3 x g wi cu) (ev108 arg2 arg3 x g wi cu) _ _ _
theorem ev123 : rest.sl.v123 wp' = part2 (n0 := 1024) (n1 := 256) wp' 256 256 256 0 := ld_weight mWp.view wp' 256 0 _ _ (by decide) (by decide)
theorem ev136 : rest.sl.v136 arg2 arg3 x g wi cu = ua (tU x g wi cu) 4 0 := (gHU_6 arg2 arg3 x g wi cu).load mU.view 280 4 8 _ (by decide)
theorem ev138 : rest.sl.v138 arg2 arg3 x g wi cu = ub (tU x g wi cu) 4 0 := (gHU_6 arg2 arg3 x g wi cu).load mU.view 280 4 7 _ (by decide)
theorem ev145 : rest.sl.v145 arg2 arg3 x g wi cu = uc (tU x g wi cu) 4 0 := keptS2 2 4 0 (ev136 arg2 arg3 x g wi cu) (ev138 arg2 arg3 x g wi cu) _ _ _
theorem ev152 : rest.sl.v152 arg2 arg3 x g wi cu = ud (tU x g wi cu) 4 0 := keptS4 0 4 0 (ev136 arg2 arg3 x g wi cu) (ev138 arg2 arg3 x g wi cu) (ev145 arg2 arg3 x g wi cu) _ _ _
theorem ev162 : rest.sl.v162 arg2 arg3 x g wi cu = ua (tU x g wi cu) 5 0 := (gHU_7 arg2 arg3 x g wi cu).load mU.view 280 5 8 _ (by decide)
theorem ev164 : rest.sl.v164 arg2 arg3 x g wi cu = ub (tU x g wi cu) 5 0 := (gHU_7 arg2 arg3 x g wi cu).load mU.view 280 5 7 _ (by decide)
theorem ev171 : rest.sl.v171 arg2 arg3 x g wi cu = uc (tU x g wi cu) 5 0 := keptS2 3 5 0 (ev162 arg2 arg3 x g wi cu) (ev164 arg2 arg3 x g wi cu) _ _ _
theorem ev178 : rest.sl.v178 arg2 arg3 x g wi cu = ud (tU x g wi cu) 5 0 := keptS4 1 5 0 (ev162 arg2 arg3 x g wi cu) (ev164 arg2 arg3 x g wi cu) (ev171 arg2 arg3 x g wi cu) _ _ _
theorem ev186 : rest.sl.v186 wp' = part2 (n0 := 1024) (n1 := 256) wp' 256 256 512 0 := ld_weight mWp.view wp' 512 0 _ _ (by decide) (by decide)
theorem ev199 : rest.sl.v199 arg2 arg3 x g wi cu = ua (tU x g wi cu) 6 0 := (gHU_8 arg2 arg3 x g wi cu).load mU.view 280 6 8 _ (by decide)
theorem ev201 : rest.sl.v201 arg2 arg3 x g wi cu = ub (tU x g wi cu) 6 0 := (gHU_8 arg2 arg3 x g wi cu).load mU.view 280 6 7 _ (by decide)
theorem ev208 : rest.sl.v208 arg2 arg3 x g wi cu = uc (tU x g wi cu) 6 0 := keptS2 4 6 0 (ev199 arg2 arg3 x g wi cu) (ev201 arg2 arg3 x g wi cu) _ _ _
theorem ev215 : rest.sl.v215 arg2 arg3 x g wi cu = ud (tU x g wi cu) 6 0 := keptS4 2 6 0 (ev199 arg2 arg3 x g wi cu) (ev201 arg2 arg3 x g wi cu) (ev208 arg2 arg3 x g wi cu) _ _ _
theorem ev227 : rest.sl.v227 arg2 arg3 x g wi cu = ua (tU x g wi cu) 7 0 := (gHU_9 arg2 arg3 x g wi cu).load mU.view 280 7 8 _ (by decide)
theorem ev229 : rest.sl.v229 arg2 arg3 x g wi cu = ub (tU x g wi cu) 7 0 := (gHU_9 arg2 arg3 x g wi cu).load mU.view 280 7 7 _ (by decide)
theorem ev236 : rest.sl.v236 arg2 arg3 x g wi cu = uc (tU x g wi cu) 7 0 := keptS2 5 7 0 (ev227 arg2 arg3 x g wi cu) (ev229 arg2 arg3 x g wi cu) _ _ _
theorem ev243 : rest.sl.v243 arg2 arg3 x g wi cu = ud (tU x g wi cu) 7 0 := keptS4 3 7 0 (ev227 arg2 arg3 x g wi cu) (ev229 arg2 arg3 x g wi cu) (ev236 arg2 arg3 x g wi cu) _ _ _
theorem ev253 : rest.sl.v253 wp' = part2 (n0 := 1024) (n1 := 256) wp' 256 256 768 0 := ld_weight mWp.view wp' 768 0 _ _ (by decide) (by decide)
theorem ev272 : rest.sl.v272 arg2 arg3 x g wi cc = blk (tC x g wi cc) 256 0 (0 + 7) := (gHC_2 arg2 arg3 x g wi cc).load mC.view 256 0 7 _ (by decide)
theorem ev278 : rest.sl.v278 arg2 arg3 x g wi cc = blk (tC x g wi cc) 256 0 (0 + 6) := (gHC_2 arg2 arg3 x g wi cc).load mC.view 256 0 6 _ (by decide)
theorem ev292 : rest.sl.v292 arg2 arg3 x g wi cc = blk (tC x g wi cc) 256 1 (0 + 7) := (gHC_3 arg2 arg3 x g wi cc).load mC.view 256 1 7 _ (by decide)
theorem ev298 : rest.sl.v298 arg2 arg3 x g wi cc = blk (tC x g wi cc) 256 1 (0 + 6) := (gHC_3 arg2 arg3 x g wi cc).load mC.view 256 1 6 _ (by decide)
theorem ev312 : rest.sl.v312 arg2 arg3 x g wi cc = blk (tC x g wi cc) 256 2 (0 + 7) := (gHC_4 arg2 arg3 x g wi cc).load mC.view 256 2 7 _ (by decide)
theorem ev318 : rest.sl.v318 arg2 arg3 x g wi cc = blk (tC x g wi cc) 256 2 (0 + 6) := (gHC_4 arg2 arg3 x g wi cc).load mC.view 256 2 6 _ (by decide)
theorem ev332 : rest.sl.v332 arg2 arg3 x g wi cc = blk (tC x g wi cc) 256 3 (0 + 7) := (gHC_5 arg2 arg3 x g wi cc).load mC.view 256 3 7 _ (by decide)
theorem ev338 : rest.sl.v338 arg2 arg3 x g wi cc = blk (tC x g wi cc) 256 3 (0 + 6) := (gHC_5 arg2 arg3 x g wi cc).load mC.view 256 3 6 _ (by decide)
theorem ev352 : rest.sl.v352 arg2 arg3 x g wi cc = blk (tC x g wi cc) 256 4 (0 + 7) := (gHC_6 arg2 arg3 x g wi cc).load mC.view 256 4 7 _ (by decide)
theorem ev358 : rest.sl.v358 arg2 arg3 x g wi cc = blk (tC x g wi cc) 256 4 (0 + 6) := (gHC_6 arg2 arg3 x g wi cc).load mC.view 256 4 6 _ (by decide)
theorem ev372 : rest.sl.v372 arg2 arg3 x g wi cc = blk (tC x g wi cc) 256 5 (0 + 7) := (gHC_7 arg2 arg3 x g wi cc).load mC.view 256 5 7 _ (by decide)
theorem ev378 : rest.sl.v378 arg2 arg3 x g wi cc = blk (tC x g wi cc) 256 5 (0 + 6) := (gHC_7 arg2 arg3 x g wi cc).load mC.view 256 5 6 _ (by decide)
theorem ev392 : rest.sl.v392 arg2 arg3 x g wi cc = blk (tC x g wi cc) 256 6 (0 + 7) := (gHC_8 arg2 arg3 x g wi cc).load mC.view 256 6 7 _ (by decide)
theorem ev398 : rest.sl.v398 arg2 arg3 x g wi cc = blk (tC x g wi cc) 256 6 (0 + 6) := (gHC_8 arg2 arg3 x g wi cc).load mC.view 256 6 6 _ (by decide)
theorem ev412 : rest.sl.v412 arg2 arg3 x g wi cc = blk (tC x g wi cc) 256 7 (0 + 7) := (gHC_9 arg2 arg3 x g wi cc).load mC.view 256 7 7 _ (by decide)
theorem ev418 : rest.sl.v418 arg2 arg3 x g wi cc = blk (tC x g wi cc) 256 7 (0 + 6) := (gHC_9 arg2 arg3 x g wi cc).load mC.view 256 7 6 _ (by decide)
theorem ev433 : rest.sl.v433 wo = part2 (n0 := 2048) (n1 := 1024) wo 1024 1024 1024 0 := ld_weight mWo.view wo 1024 0 _ _ (by decide) (by decide)
theorem ev435 : rest.sl.v435 wo = part2 (n0 := 2048) (n1 := 1024) wo 1024 1024 0 0 := ld_weight mWo.view wo 0 0 _ _ (by decide) (by decide)
theorem ev486 : rest.sl.v486 arg2 arg3 x g wi cu = ua (tU x g wi cu) 0 256 := (gHU_10 arg2 arg3 x g wi cu).load mU.view 280 0 264 _ (by decide)
theorem ev488 : rest.sl.v488 arg2 arg3 x g wi cu = ub (tU x g wi cu) 0 256 := (gHU_10 arg2 arg3 x g wi cu).load mU.view 280 0 263 _ (by decide)
theorem ev498 : rest.sl.v498 arg2 arg3 x g wi cu = ua (tU x g wi cu) 1 256 := (gHU_11 arg2 arg3 x g wi cu).load mU.view 280 1 264 _ (by decide)
theorem ev500 : rest.sl.v500 arg2 arg3 x g wi cu = ub (tU x g wi cu) 1 256 := (gHU_11 arg2 arg3 x g wi cu).load mU.view 280 1 263 _ (by decide)
theorem ev521 : rest.sl.v521 arg2 arg3 x g wi cu = ua (tU x g wi cu) 2 256 := (gHU_12 arg2 arg3 x g wi cu).load mU.view 280 2 264 _ (by decide)
theorem ev523 : rest.sl.v523 arg2 arg3 x g wi cu = ub (tU x g wi cu) 2 256 := (gHU_12 arg2 arg3 x g wi cu).load mU.view 280 2 263 _ (by decide)
theorem ev530 : rest.sl.v530 arg2 arg3 x g wi cu = uc (tU x g wi cu) 2 256 := keptS2 6 2 256 (ev521 arg2 arg3 x g wi cu) (ev523 arg2 arg3 x g wi cu) _ _ _
theorem ev540 : rest.sl.v540 arg2 arg3 x g wi cu = ua (tU x g wi cu) 3 256 := (gHU_13 arg2 arg3 x g wi cu).load mU.view 280 3 264 _ (by decide)
theorem ev542 : rest.sl.v542 arg2 arg3 x g wi cu = ub (tU x g wi cu) 3 256 := (gHU_13 arg2 arg3 x g wi cu).load mU.view 280 3 263 _ (by decide)
theorem ev549 : rest.sl.v549 arg2 arg3 x g wi cu = uc (tU x g wi cu) 3 256 := keptS2 7 3 256 (ev540 arg2 arg3 x g wi cu) (ev542 arg2 arg3 x g wi cu) _ _ _
theorem ev570 : rest.sl.v570 arg2 arg3 x g wi cu = ua (tU x g wi cu) 4 256 := (gHU_14 arg2 arg3 x g wi cu).load mU.view 280 4 264 _ (by decide)
theorem ev572 : rest.sl.v572 arg2 arg3 x g wi cu = ub (tU x g wi cu) 4 256 := (gHU_14 arg2 arg3 x g wi cu).load mU.view 280 4 263 _ (by decide)
theorem ev579 : rest.sl.v579 arg2 arg3 x g wi cu = uc (tU x g wi cu) 4 256 := keptS2 8 4 256 (ev570 arg2 arg3 x g wi cu) (ev572 arg2 arg3 x g wi cu) _ _ _
theorem ev586 : rest.sl.v586 arg2 arg3 x g wi cu = ud (tU x g wi cu) 4 256 := keptS4 4 4 256 (ev570 arg2 arg3 x g wi cu) (ev572 arg2 arg3 x g wi cu) (ev579 arg2 arg3 x g wi cu) _ _ _
theorem ev596 : rest.sl.v596 arg2 arg3 x g wi cu = ua (tU x g wi cu) 5 256 := (gHU_15 arg2 arg3 x g wi cu).load mU.view 280 5 264 _ (by decide)
theorem ev598 : rest.sl.v598 arg2 arg3 x g wi cu = ub (tU x g wi cu) 5 256 := (gHU_15 arg2 arg3 x g wi cu).load mU.view 280 5 263 _ (by decide)
theorem ev605 : rest.sl.v605 arg2 arg3 x g wi cu = uc (tU x g wi cu) 5 256 := keptS2 9 5 256 (ev596 arg2 arg3 x g wi cu) (ev598 arg2 arg3 x g wi cu) _ _ _
theorem ev612 : rest.sl.v612 arg2 arg3 x g wi cu = ud (tU x g wi cu) 5 256 := keptS4 5 5 256 (ev596 arg2 arg3 x g wi cu) (ev598 arg2 arg3 x g wi cu) (ev605 arg2 arg3 x g wi cu) _ _ _
theorem ev633 : rest.sl.v633 arg2 arg3 x g wi cu = ua (tU x g wi cu) 6 256 := (gHU_16 arg2 arg3 x g wi cu).load mU.view 280 6 264 _ (by decide)
theorem ev635 : rest.sl.v635 arg2 arg3 x g wi cu = ub (tU x g wi cu) 6 256 := (gHU_16 arg2 arg3 x g wi cu).load mU.view 280 6 263 _ (by decide)
theorem ev642 : rest.sl.v642 arg2 arg3 x g wi cu = uc (tU x g wi cu) 6 256 := keptS2 10 6 256 (ev633 arg2 arg3 x g wi cu) (ev635 arg2 arg3 x g wi cu) _ _ _
theorem ev649 : rest.sl.v649 arg2 arg3 x g wi cu = ud (tU x g wi cu) 6 256 := keptS4 6 6 256 (ev633 arg2 arg3 x g wi cu) (ev635 arg2 arg3 x g wi cu) (ev642 arg2 arg3 x g wi cu) _ _ _
theorem ev661 : rest.sl.v661 arg2 arg3 x g wi cu = ua (tU x g wi cu) 7 256 := (gHU_17 arg2 arg3 x g wi cu).load mU.view 280 7 264 _ (by decide)
theorem ev663 : rest.sl.v663 arg2 arg3 x g wi cu = ub (tU x g wi cu) 7 256 := (gHU_17 arg2 arg3 x g wi cu).load mU.view 280 7 263 _ (by decide)
theorem ev670 : rest.sl.v670 arg2 arg3 x g wi cu = uc (tU x g wi cu) 7 256 := keptS2 11 7 256 (ev661 arg2 arg3 x g wi cu) (ev663 arg2 arg3 x g wi cu) _ _ _
theorem ev677 : rest.sl.v677 arg2 arg3 x g wi cu = ud (tU x g wi cu) 7 256 := keptS4 7 7 256 (ev661 arg2 arg3 x g wi cu) (ev663 arg2 arg3 x g wi cu) (ev670 arg2 arg3 x g wi cu) _ _ _
theorem ev706 : rest.sl.v706 arg2 arg3 x g wi cc = blk (tC x g wi cc) 256 0 (256 + 7) := (gHC_10 arg2 arg3 x g wi cc).load mC.view 256 0 263 _ (by decide)
theorem ev712 : rest.sl.v712 arg2 arg3 x g wi cc = blk (tC x g wi cc) 256 0 (256 + 6) := (gHC_10 arg2 arg3 x g wi cc).load mC.view 256 0 262 _ (by decide)
theorem ev726 : rest.sl.v726 arg2 arg3 x g wi cc = blk (tC x g wi cc) 256 1 (256 + 7) := (gHC_11 arg2 arg3 x g wi cc).load mC.view 256 1 263 _ (by decide)
theorem ev732 : rest.sl.v732 arg2 arg3 x g wi cc = blk (tC x g wi cc) 256 1 (256 + 6) := (gHC_11 arg2 arg3 x g wi cc).load mC.view 256 1 262 _ (by decide)
theorem ev746 : rest.sl.v746 arg2 arg3 x g wi cc = blk (tC x g wi cc) 256 2 (256 + 7) := (gHC_12 arg2 arg3 x g wi cc).load mC.view 256 2 263 _ (by decide)
theorem ev752 : rest.sl.v752 arg2 arg3 x g wi cc = blk (tC x g wi cc) 256 2 (256 + 6) := (gHC_12 arg2 arg3 x g wi cc).load mC.view 256 2 262 _ (by decide)
theorem ev766 : rest.sl.v766 arg2 arg3 x g wi cc = blk (tC x g wi cc) 256 3 (256 + 7) := (gHC_13 arg2 arg3 x g wi cc).load mC.view 256 3 263 _ (by decide)
theorem ev772 : rest.sl.v772 arg2 arg3 x g wi cc = blk (tC x g wi cc) 256 3 (256 + 6) := (gHC_13 arg2 arg3 x g wi cc).load mC.view 256 3 262 _ (by decide)
theorem ev786 : rest.sl.v786 arg2 arg3 x g wi cc = blk (tC x g wi cc) 256 4 (256 + 7) := (gHC_14 arg2 arg3 x g wi cc).load mC.view 256 4 263 _ (by decide)
theorem ev792 : rest.sl.v792 arg2 arg3 x g wi cc = blk (tC x g wi cc) 256 4 (256 + 6) := (gHC_14 arg2 arg3 x g wi cc).load mC.view 256 4 262 _ (by decide)
theorem ev806 : rest.sl.v806 arg2 arg3 x g wi cc = blk (tC x g wi cc) 256 5 (256 + 7) := (gHC_15 arg2 arg3 x g wi cc).load mC.view 256 5 263 _ (by decide)
theorem ev812 : rest.sl.v812 arg2 arg3 x g wi cc = blk (tC x g wi cc) 256 5 (256 + 6) := (gHC_15 arg2 arg3 x g wi cc).load mC.view 256 5 262 _ (by decide)
theorem ev826 : rest.sl.v826 arg2 arg3 x g wi cc = blk (tC x g wi cc) 256 6 (256 + 7) := (gHC_16 arg2 arg3 x g wi cc).load mC.view 256 6 263 _ (by decide)
theorem ev832 : rest.sl.v832 arg2 arg3 x g wi cc = blk (tC x g wi cc) 256 6 (256 + 6) := (gHC_16 arg2 arg3 x g wi cc).load mC.view 256 6 262 _ (by decide)
theorem ev846 : rest.sl.v846 arg2 arg3 x g wi cc = blk (tC x g wi cc) 256 7 (256 + 7) := (gHC_17 arg2 arg3 x g wi cc).load mC.view 256 7 263 _ (by decide)
theorem ev852 : rest.sl.v852 arg2 arg3 x g wi cc = blk (tC x g wi cc) 256 7 (256 + 6) := (gHC_17 arg2 arg3 x g wi cc).load mC.view 256 7 262 _ (by decide)
theorem ev920 : rest.sl.v920 arg2 arg3 x g wi cu = ua (tU x g wi cu) 0 512 := (gHU_18 arg2 arg3 x g wi cu).load mU.view 280 0 520 _ (by decide)
theorem ev922 : rest.sl.v922 arg2 arg3 x g wi cu = ub (tU x g wi cu) 0 512 := (gHU_18 arg2 arg3 x g wi cu).load mU.view 280 0 519 _ (by decide)
theorem ev932 : rest.sl.v932 arg2 arg3 x g wi cu = ua (tU x g wi cu) 1 512 := (gHU_19 arg2 arg3 x g wi cu).load mU.view 280 1 520 _ (by decide)
theorem ev934 : rest.sl.v934 arg2 arg3 x g wi cu = ub (tU x g wi cu) 1 512 := (gHU_19 arg2 arg3 x g wi cu).load mU.view 280 1 519 _ (by decide)
theorem ev955 : rest.sl.v955 arg2 arg3 x g wi cu = ua (tU x g wi cu) 2 512 := (gHU_20 arg2 arg3 x g wi cu).load mU.view 280 2 520 _ (by decide)
theorem ev957 : rest.sl.v957 arg2 arg3 x g wi cu = ub (tU x g wi cu) 2 512 := (gHU_20 arg2 arg3 x g wi cu).load mU.view 280 2 519 _ (by decide)
theorem ev964 : rest.sl.v964 arg2 arg3 x g wi cu = uc (tU x g wi cu) 2 512 := keptS2 12 2 512 (ev955 arg2 arg3 x g wi cu) (ev957 arg2 arg3 x g wi cu) _ _ _
theorem ev974 : rest.sl.v974 arg2 arg3 x g wi cu = ua (tU x g wi cu) 3 512 := (gHU_21 arg2 arg3 x g wi cu).load mU.view 280 3 520 _ (by decide)
theorem ev976 : rest.sl.v976 arg2 arg3 x g wi cu = ub (tU x g wi cu) 3 512 := (gHU_21 arg2 arg3 x g wi cu).load mU.view 280 3 519 _ (by decide)
theorem ev983 : rest.sl.v983 arg2 arg3 x g wi cu = uc (tU x g wi cu) 3 512 := keptS2 13 3 512 (ev974 arg2 arg3 x g wi cu) (ev976 arg2 arg3 x g wi cu) _ _ _
theorem ev1004 : rest.sl.v1004 arg2 arg3 x g wi cu = ua (tU x g wi cu) 4 512 := (gHU_22 arg2 arg3 x g wi cu).load mU.view 280 4 520 _ (by decide)
theorem ev1006 : rest.sl.v1006 arg2 arg3 x g wi cu = ub (tU x g wi cu) 4 512 := (gHU_22 arg2 arg3 x g wi cu).load mU.view 280 4 519 _ (by decide)
theorem ev1013 : rest.sl.v1013 arg2 arg3 x g wi cu = uc (tU x g wi cu) 4 512 := keptS2 14 4 512 (ev1004 arg2 arg3 x g wi cu) (ev1006 arg2 arg3 x g wi cu) _ _ _
theorem ev1020 : rest.sl.v1020 arg2 arg3 x g wi cu = ud (tU x g wi cu) 4 512 := keptS4 8 4 512 (ev1004 arg2 arg3 x g wi cu) (ev1006 arg2 arg3 x g wi cu) (ev1013 arg2 arg3 x g wi cu) _ _ _
theorem ev1030 : rest.sl.v1030 arg2 arg3 x g wi cu = ua (tU x g wi cu) 5 512 := (gHU_23 arg2 arg3 x g wi cu).load mU.view 280 5 520 _ (by decide)
theorem ev1032 : rest.sl.v1032 arg2 arg3 x g wi cu = ub (tU x g wi cu) 5 512 := (gHU_23 arg2 arg3 x g wi cu).load mU.view 280 5 519 _ (by decide)
theorem ev1039 : rest.sl.v1039 arg2 arg3 x g wi cu = uc (tU x g wi cu) 5 512 := keptS2 15 5 512 (ev1030 arg2 arg3 x g wi cu) (ev1032 arg2 arg3 x g wi cu) _ _ _
theorem ev1046 : rest.sl.v1046 arg2 arg3 x g wi cu = ud (tU x g wi cu) 5 512 := keptS4 9 5 512 (ev1030 arg2 arg3 x g wi cu) (ev1032 arg2 arg3 x g wi cu) (ev1039 arg2 arg3 x g wi cu) _ _ _
theorem ev1067 : rest.sl.v1067 arg2 arg3 x g wi cu = ua (tU x g wi cu) 6 512 := (gHU_24 arg2 arg3 x g wi cu).load mU.view 280 6 520 _ (by decide)
theorem ev1069 : rest.sl.v1069 arg2 arg3 x g wi cu = ub (tU x g wi cu) 6 512 := (gHU_24 arg2 arg3 x g wi cu).load mU.view 280 6 519 _ (by decide)
theorem ev1076 : rest.sl.v1076 arg2 arg3 x g wi cu = uc (tU x g wi cu) 6 512 := keptS2 16 6 512 (ev1067 arg2 arg3 x g wi cu) (ev1069 arg2 arg3 x g wi cu) _ _ _
theorem ev1083 : rest.sl.v1083 arg2 arg3 x g wi cu = ud (tU x g wi cu) 6 512 := keptS4 10 6 512 (ev1067 arg2 arg3 x g wi cu) (ev1069 arg2 arg3 x g wi cu) (ev1076 arg2 arg3 x g wi cu) _ _ _
theorem ev1095 : rest.sl.v1095 arg2 arg3 x g wi cu = ua (tU x g wi cu) 7 512 := (gHU_25 arg2 arg3 x g wi cu).load mU.view 280 7 520 _ (by decide)
theorem ev1097 : rest.sl.v1097 arg2 arg3 x g wi cu = ub (tU x g wi cu) 7 512 := (gHU_25 arg2 arg3 x g wi cu).load mU.view 280 7 519 _ (by decide)
theorem ev1104 : rest.sl.v1104 arg2 arg3 x g wi cu = uc (tU x g wi cu) 7 512 := keptS2 17 7 512 (ev1095 arg2 arg3 x g wi cu) (ev1097 arg2 arg3 x g wi cu) _ _ _
theorem ev1111 : rest.sl.v1111 arg2 arg3 x g wi cu = ud (tU x g wi cu) 7 512 := keptS4 11 7 512 (ev1095 arg2 arg3 x g wi cu) (ev1097 arg2 arg3 x g wi cu) (ev1104 arg2 arg3 x g wi cu) _ _ _
theorem ev1140 : rest.sl.v1140 arg2 arg3 x g wi cc = blk (tC x g wi cc) 256 0 (512 + 7) := (gHC_18 arg2 arg3 x g wi cc).load mC.view 256 0 519 _ (by decide)
theorem ev1146 : rest.sl.v1146 arg2 arg3 x g wi cc = blk (tC x g wi cc) 256 0 (512 + 6) := (gHC_18 arg2 arg3 x g wi cc).load mC.view 256 0 518 _ (by decide)
theorem ev1160 : rest.sl.v1160 arg2 arg3 x g wi cc = blk (tC x g wi cc) 256 1 (512 + 7) := (gHC_19 arg2 arg3 x g wi cc).load mC.view 256 1 519 _ (by decide)
theorem ev1166 : rest.sl.v1166 arg2 arg3 x g wi cc = blk (tC x g wi cc) 256 1 (512 + 6) := (gHC_19 arg2 arg3 x g wi cc).load mC.view 256 1 518 _ (by decide)
theorem ev1180 : rest.sl.v1180 arg2 arg3 x g wi cc = blk (tC x g wi cc) 256 2 (512 + 7) := (gHC_20 arg2 arg3 x g wi cc).load mC.view 256 2 519 _ (by decide)
theorem ev1186 : rest.sl.v1186 arg2 arg3 x g wi cc = blk (tC x g wi cc) 256 2 (512 + 6) := (gHC_20 arg2 arg3 x g wi cc).load mC.view 256 2 518 _ (by decide)
theorem ev1200 : rest.sl.v1200 arg2 arg3 x g wi cc = blk (tC x g wi cc) 256 3 (512 + 7) := (gHC_21 arg2 arg3 x g wi cc).load mC.view 256 3 519 _ (by decide)
theorem ev1206 : rest.sl.v1206 arg2 arg3 x g wi cc = blk (tC x g wi cc) 256 3 (512 + 6) := (gHC_21 arg2 arg3 x g wi cc).load mC.view 256 3 518 _ (by decide)
theorem ev1220 : rest.sl.v1220 arg2 arg3 x g wi cc = blk (tC x g wi cc) 256 4 (512 + 7) := (gHC_22 arg2 arg3 x g wi cc).load mC.view 256 4 519 _ (by decide)
theorem ev1226 : rest.sl.v1226 arg2 arg3 x g wi cc = blk (tC x g wi cc) 256 4 (512 + 6) := (gHC_22 arg2 arg3 x g wi cc).load mC.view 256 4 518 _ (by decide)
theorem ev1240 : rest.sl.v1240 arg2 arg3 x g wi cc = blk (tC x g wi cc) 256 5 (512 + 7) := (gHC_23 arg2 arg3 x g wi cc).load mC.view 256 5 519 _ (by decide)
theorem ev1246 : rest.sl.v1246 arg2 arg3 x g wi cc = blk (tC x g wi cc) 256 5 (512 + 6) := (gHC_23 arg2 arg3 x g wi cc).load mC.view 256 5 518 _ (by decide)
theorem ev1260 : rest.sl.v1260 arg2 arg3 x g wi cc = blk (tC x g wi cc) 256 6 (512 + 7) := (gHC_24 arg2 arg3 x g wi cc).load mC.view 256 6 519 _ (by decide)
theorem ev1266 : rest.sl.v1266 arg2 arg3 x g wi cc = blk (tC x g wi cc) 256 6 (512 + 6) := (gHC_24 arg2 arg3 x g wi cc).load mC.view 256 6 518 _ (by decide)
theorem ev1280 : rest.sl.v1280 arg2 arg3 x g wi cc = blk (tC x g wi cc) 256 7 (512 + 7) := (gHC_25 arg2 arg3 x g wi cc).load mC.view 256 7 519 _ (by decide)
theorem ev1286 : rest.sl.v1286 arg2 arg3 x g wi cc = blk (tC x g wi cc) 256 7 (512 + 6) := (gHC_25 arg2 arg3 x g wi cc).load mC.view 256 7 518 _ (by decide)
theorem ev1354 : rest.sl.v1354 arg2 arg3 x g wi cu = ua (tU x g wi cu) 0 768 := (gHU_26 arg2 arg3 x g wi cu).load mU.view 280 0 776 _ (by decide)
theorem ev1356 : rest.sl.v1356 arg2 arg3 x g wi cu = ub (tU x g wi cu) 0 768 := (gHU_26 arg2 arg3 x g wi cu).load mU.view 280 0 775 _ (by decide)
theorem ev1366 : rest.sl.v1366 arg2 arg3 x g wi cu = ua (tU x g wi cu) 1 768 := (gHU_27 arg2 arg3 x g wi cu).load mU.view 280 1 776 _ (by decide)
theorem ev1368 : rest.sl.v1368 arg2 arg3 x g wi cu = ub (tU x g wi cu) 1 768 := (gHU_27 arg2 arg3 x g wi cu).load mU.view 280 1 775 _ (by decide)
theorem ev1389 : rest.sl.v1389 arg2 arg3 x g wi cu = ua (tU x g wi cu) 2 768 := (gHU_28 arg2 arg3 x g wi cu).load mU.view 280 2 776 _ (by decide)
theorem ev1391 : rest.sl.v1391 arg2 arg3 x g wi cu = ub (tU x g wi cu) 2 768 := (gHU_28 arg2 arg3 x g wi cu).load mU.view 280 2 775 _ (by decide)
theorem ev1398 : rest.sl.v1398 arg2 arg3 x g wi cu = uc (tU x g wi cu) 2 768 := keptS2 18 2 768 (ev1389 arg2 arg3 x g wi cu) (ev1391 arg2 arg3 x g wi cu) _ _ _
theorem ev1408 : rest.sl.v1408 arg2 arg3 x g wi cu = ua (tU x g wi cu) 3 768 := (gHU_29 arg2 arg3 x g wi cu).load mU.view 280 3 776 _ (by decide)
theorem ev1410 : rest.sl.v1410 arg2 arg3 x g wi cu = ub (tU x g wi cu) 3 768 := (gHU_29 arg2 arg3 x g wi cu).load mU.view 280 3 775 _ (by decide)
theorem ev1417 : rest.sl.v1417 arg2 arg3 x g wi cu = uc (tU x g wi cu) 3 768 := keptS2 19 3 768 (ev1408 arg2 arg3 x g wi cu) (ev1410 arg2 arg3 x g wi cu) _ _ _
theorem ev1438 : rest.sl.v1438 arg2 arg3 x g wi cu = ua (tU x g wi cu) 4 768 := (gHU_30 arg2 arg3 x g wi cu).load mU.view 280 4 776 _ (by decide)
theorem ev1440 : rest.sl.v1440 arg2 arg3 x g wi cu = ub (tU x g wi cu) 4 768 := (gHU_30 arg2 arg3 x g wi cu).load mU.view 280 4 775 _ (by decide)
theorem ev1447 : rest.sl.v1447 arg2 arg3 x g wi cu = uc (tU x g wi cu) 4 768 := keptS2 20 4 768 (ev1438 arg2 arg3 x g wi cu) (ev1440 arg2 arg3 x g wi cu) _ _ _
theorem ev1454 : rest.sl.v1454 arg2 arg3 x g wi cu = ud (tU x g wi cu) 4 768 := keptS4 12 4 768 (ev1438 arg2 arg3 x g wi cu) (ev1440 arg2 arg3 x g wi cu) (ev1447 arg2 arg3 x g wi cu) _ _ _
theorem ev1464 : rest.sl.v1464 arg2 arg3 x g wi cu = ua (tU x g wi cu) 5 768 := (gHU_31 arg2 arg3 x g wi cu).load mU.view 280 5 776 _ (by decide)
theorem ev1466 : rest.sl.v1466 arg2 arg3 x g wi cu = ub (tU x g wi cu) 5 768 := (gHU_31 arg2 arg3 x g wi cu).load mU.view 280 5 775 _ (by decide)
theorem ev1473 : rest.sl.v1473 arg2 arg3 x g wi cu = uc (tU x g wi cu) 5 768 := keptS2 21 5 768 (ev1464 arg2 arg3 x g wi cu) (ev1466 arg2 arg3 x g wi cu) _ _ _
theorem ev1480 : rest.sl.v1480 arg2 arg3 x g wi cu = ud (tU x g wi cu) 5 768 := keptS4 13 5 768 (ev1464 arg2 arg3 x g wi cu) (ev1466 arg2 arg3 x g wi cu) (ev1473 arg2 arg3 x g wi cu) _ _ _
theorem ev1501 : rest.sl.v1501 arg2 arg3 x g wi cu = ua (tU x g wi cu) 6 768 := (gHU_32 arg2 arg3 x g wi cu).load mU.view 280 6 776 _ (by decide)
theorem ev1503 : rest.sl.v1503 arg2 arg3 x g wi cu = ub (tU x g wi cu) 6 768 := (gHU_32 arg2 arg3 x g wi cu).load mU.view 280 6 775 _ (by decide)
theorem ev1510 : rest.sl.v1510 arg2 arg3 x g wi cu = uc (tU x g wi cu) 6 768 := keptS2 22 6 768 (ev1501 arg2 arg3 x g wi cu) (ev1503 arg2 arg3 x g wi cu) _ _ _
theorem ev1517 : rest.sl.v1517 arg2 arg3 x g wi cu = ud (tU x g wi cu) 6 768 := keptS4 14 6 768 (ev1501 arg2 arg3 x g wi cu) (ev1503 arg2 arg3 x g wi cu) (ev1510 arg2 arg3 x g wi cu) _ _ _
theorem ev1529 : rest.sl.v1529 arg2 arg3 x g wi cu = ua (tU x g wi cu) 7 768 := (gHU_33 arg2 arg3 x g wi cu).load mU.view 280 7 776 _ (by decide)
theorem ev1531 : rest.sl.v1531 arg2 arg3 x g wi cu = ub (tU x g wi cu) 7 768 := (gHU_33 arg2 arg3 x g wi cu).load mU.view 280 7 775 _ (by decide)
theorem ev1538 : rest.sl.v1538 arg2 arg3 x g wi cu = uc (tU x g wi cu) 7 768 := keptS2 23 7 768 (ev1529 arg2 arg3 x g wi cu) (ev1531 arg2 arg3 x g wi cu) _ _ _
theorem ev1545 : rest.sl.v1545 arg2 arg3 x g wi cu = ud (tU x g wi cu) 7 768 := keptS4 15 7 768 (ev1529 arg2 arg3 x g wi cu) (ev1531 arg2 arg3 x g wi cu) (ev1538 arg2 arg3 x g wi cu) _ _ _
theorem ev1574 : rest.sl.v1574 arg2 arg3 x g wi cc = blk (tC x g wi cc) 256 0 (768 + 7) := (gHC_26 arg2 arg3 x g wi cc).load mC.view 256 0 775 _ (by decide)
theorem ev1580 : rest.sl.v1580 arg2 arg3 x g wi cc = blk (tC x g wi cc) 256 0 (768 + 6) := (gHC_26 arg2 arg3 x g wi cc).load mC.view 256 0 774 _ (by decide)
theorem ev1594 : rest.sl.v1594 arg2 arg3 x g wi cc = blk (tC x g wi cc) 256 1 (768 + 7) := (gHC_27 arg2 arg3 x g wi cc).load mC.view 256 1 775 _ (by decide)
theorem ev1600 : rest.sl.v1600 arg2 arg3 x g wi cc = blk (tC x g wi cc) 256 1 (768 + 6) := (gHC_27 arg2 arg3 x g wi cc).load mC.view 256 1 774 _ (by decide)
theorem ev1614 : rest.sl.v1614 arg2 arg3 x g wi cc = blk (tC x g wi cc) 256 2 (768 + 7) := (gHC_28 arg2 arg3 x g wi cc).load mC.view 256 2 775 _ (by decide)
theorem ev1620 : rest.sl.v1620 arg2 arg3 x g wi cc = blk (tC x g wi cc) 256 2 (768 + 6) := (gHC_28 arg2 arg3 x g wi cc).load mC.view 256 2 774 _ (by decide)
theorem ev1634 : rest.sl.v1634 arg2 arg3 x g wi cc = blk (tC x g wi cc) 256 3 (768 + 7) := (gHC_29 arg2 arg3 x g wi cc).load mC.view 256 3 775 _ (by decide)
theorem ev1640 : rest.sl.v1640 arg2 arg3 x g wi cc = blk (tC x g wi cc) 256 3 (768 + 6) := (gHC_29 arg2 arg3 x g wi cc).load mC.view 256 3 774 _ (by decide)
theorem ev1654 : rest.sl.v1654 arg2 arg3 x g wi cc = blk (tC x g wi cc) 256 4 (768 + 7) := (gHC_30 arg2 arg3 x g wi cc).load mC.view 256 4 775 _ (by decide)
theorem ev1660 : rest.sl.v1660 arg2 arg3 x g wi cc = blk (tC x g wi cc) 256 4 (768 + 6) := (gHC_30 arg2 arg3 x g wi cc).load mC.view 256 4 774 _ (by decide)
theorem ev1674 : rest.sl.v1674 arg2 arg3 x g wi cc = blk (tC x g wi cc) 256 5 (768 + 7) := (gHC_31 arg2 arg3 x g wi cc).load mC.view 256 5 775 _ (by decide)
theorem ev1680 : rest.sl.v1680 arg2 arg3 x g wi cc = blk (tC x g wi cc) 256 5 (768 + 6) := (gHC_31 arg2 arg3 x g wi cc).load mC.view 256 5 774 _ (by decide)
theorem ev1694 : rest.sl.v1694 arg2 arg3 x g wi cc = blk (tC x g wi cc) 256 6 (768 + 7) := (gHC_32 arg2 arg3 x g wi cc).load mC.view 256 6 775 _ (by decide)
theorem ev1700 : rest.sl.v1700 arg2 arg3 x g wi cc = blk (tC x g wi cc) 256 6 (768 + 6) := (gHC_32 arg2 arg3 x g wi cc).load mC.view 256 6 774 _ (by decide)
theorem ev1714 : rest.sl.v1714 arg2 arg3 x g wi cc = blk (tC x g wi cc) 256 7 (768 + 7) := (gHC_33 arg2 arg3 x g wi cc).load mC.view 256 7 775 _ (by decide)
theorem ev1720 : rest.sl.v1720 arg2 arg3 x g wi cc = blk (tC x g wi cc) 256 7 (768 + 6) := (gHC_33 arg2 arg3 x g wi cc).load mC.view 256 7 774 _ (by decide)

end Cert.KernelIdeal.Even
-- ==== Proof.Ideal.Tile.lean ====
/- Each chunk's rows of the result, as the one chunk computation at its rows; and the rows the tile leaves to the next. -/
module

public import proofs.«01_k».proof.Proof.Ideal.Loads

@[expose] public section

set_option maxRecDepth 16384

noncomputable section

namespace Cert.KernelIdeal.Even

open Cert.KernelIdeal Cert.KernelIdeal.Gen
open Idealize.ShloMosaic Idealize.ShloMosaic.TcCoe Idealize.SL.Sem

variable (i : grid0.Coords) (arg2 : Memref sig .tc .vmem S1x1024x1024 .f32) (arg3 : Memref sig .tc .vmem S2x1024 .f32)
  (arg6 : Memref sig .tc .vmem S1x1024 .f32) (arg7 : Memref sig .tc .vmem S1x3x1024 .f32)
  (x : Vec Ideal S1x1024x1024 .f32) (g : Vec Ideal S2x1024 .f32) (ps : Vec Ideal S1x1024 .f32) (cw : Vec Ideal S1x3x1024 .f32)
  (wi : Vec Ideal S1024x6144 .bf16) (wp' : Vec Ideal S1024x256 .bf16) (wo : Vec Ideal S2048x1024 .bf16) (cu : Vec Ideal S8x32x128 .f32) (cc : Vec Ideal S8x8x128 .f32)

theorem out0 : k0_pay124 (rest.sl.r arg2 x) (rest.sl.r_6 arg2 arg3 x g wi) (rest.sl.r_7 arg2 arg3 x g wi) (rest.sl.r_8 arg2 arg3 x g wi) (rest.sl.r_28 i arg2 arg3 arg6 x g ps wi wp' cu) (rest.sl.r_41 arg2 arg3 arg7 x g cw wi cc) (rest.sl.v433 wo) (rest.sl.v435 wo)
    = chunkV (tU x g wi cu) (tC x g wi cc) x g ps cw wi wp' wo (BitVec.ofNat 32 (i 1).val) 0#32 0 := by
  simp only [rest.sl.r, rest.sl.r_9, rest.sl.r_10, rest.sl.r_11, rest.sl.r_12, rest.sl.r_13, rest.sl.r_14, rest.sl.r_15, rest.sl.r_16, rest.sl.r_17, rest.sl.r_18, rest.sl.r_19, rest.sl.r_20, rest.sl.r_21, rest.sl.r_22, rest.sl.r_23, rest.sl.r_24, rest.sl.r_25, rest.sl.r_26, rest.sl.r_27, rest.sl.r_28, rest.sl.r_29, rest.sl.r_30, rest.sl.r_32, rest.sl.r_33, rest.sl.r_35, rest.sl.r_36, rest.sl.r_38, rest.sl.r_39, rest.sl.r_41,
    ldPs, ldCw, ldX, er_2, er_3, er_4, er_6, er_7, er_8, ev52, ev54, ev64, ev66, ev74, ev87, ev89, ev96, ev106, ev108, ev115, ev123, ev136, ev138, ev145, ev152, ev162, ev164, ev171, ev178, ev186, ev199, ev201, ev208, ev215, ev227, ev229, ev236, ev243, ev253, ev272, ev278, ev292, ev298, ev312, ev318, ev332, ev338, ev352, ev358, ev372, ev378, ev392, ev398, ev412, ev418, ev433, ev435]
  rfl

theorem out1 : k0_pay208 (rest.sl.r_42 arg2 x) (rest.sl.r_47 arg2 arg3 x g wi) (rest.sl.r_48 arg2 arg3 x g wi) (rest.sl.r_49 arg2 arg3 x g wi) (rest.sl.r_68 i arg2 arg3 arg6 x g ps wi wp' cu) (rest.sl.r_70 arg7 cw) (rest.sl.r_71 arg2 arg3 arg7 x g cw wi cc) (rest.sl.r_74 arg2 arg3 arg7 x g cw wi cc) (rest.sl.r_75 arg2 arg3 arg7 x g cw wi cc) (rest.sl.r_78 arg2 arg3 arg7 x g cw wi cc) (rest.sl.r_79 arg2 arg3 arg7 x g cw wi cc) (rest.sl.r_82 arg2 arg3 arg7 x g cw wi cc) (rest.sl.r_83 arg2 arg3 arg7 x g cw wi cc) (rest.sl.r_84 arg2 arg3 arg7 x g cw wi) (rest.sl.r_85 arg2 arg3 arg7 x g cw wi cc) (rest.sl.v852 arg2 arg3 x g wi cc) (rest.sl.v433 wo) (rest.sl.v435 wo)
    = chunkV (tU x g wi cu) (tC x g wi cc) x g ps cw wi wp' wo (BitVec.ofNat 32 (i 1).val) 256#32 256 := by
  simp only [rest.sl.r_42, rest.sl.r_50, rest.sl.r_51, rest.sl.r_52, rest.sl.r_53, rest.sl.r_54, rest.sl.r_55, rest.sl.r_56, rest.sl.r_57, rest.sl.r_58, rest.sl.r_59, rest.sl.r_60, rest.sl.r_61, rest.sl.r_62, rest.sl.r_63, rest.sl.r_64, rest.sl.r_65, rest.sl.r_66, rest.sl.r_67, rest.sl.r_68, rest.sl.r_69, rest.sl.r_70, rest.sl.r_71, rest.sl.r_72, rest.sl.r_73, rest.sl.r_74, rest.sl.r_75, rest.sl.r_76, rest.sl.r_77, rest.sl.r_78, rest.sl.r_79, rest.sl.r_80, rest.sl.r_81, rest.sl.r_82, rest.sl.r_83, rest.sl.r_84, rest.sl.r_85,
    ldPs, ldCw, ldX, ev74, er_44, er_45, er_46, er_47, er_48, er_49, ev123, ev186, ev253, ev433, ev435, ev486, ev488, ev498, ev500, ev521, ev523, ev530, ev540, ev542, ev549, ev570, ev572, ev579, ev586, ev596, ev598, ev605, ev612, ev633, ev635, ev642, ev649, ev661, ev663, ev670, ev677, ev706, ev712, ev726, ev732, ev746, ev752, ev766, ev772, ev786, ev792, ev806, ev812, ev826, ev832, ev846, ev852]
  rfl

theorem out2 : k0_pay291 (rest.sl.r_86 arg2 x) (rest.sl.r_92 arg2 arg3 x g wi) (rest.sl.r_93 arg2 arg3 x g wi) (rest.sl.r_94 arg2 arg3 x g wi) (rest.sl.r_117 i arg2 arg3 arg6 x g ps wi wp' cu) (rest.sl.r_118 arg2 arg3 x g wi) (rest.sl.r_119 arg7 cw) (rest.sl.r_120 arg2 arg3 arg7 x g cw wi cc) (rest.sl.r_122 arg2 arg3 arg7 x g cw wi cc) (rest.sl.r_123 arg2 arg3 arg7 x g cw wi cc) (rest.sl.r_125 arg2 arg3 arg7 x g cw wi cc) (rest.sl.r_126 arg2 arg3 arg7 x g cw wi cc) (rest.sl.r_128 arg2 arg3 arg7 x g cw wi cc) (rest.sl.r_129 arg2 arg3 arg7 x g cw wi cc) (rest.sl.r_130 arg7 cw) (rest.sl.v1280 arg2 arg3 x g wi cc) (rest.sl.v1286 arg2 arg3 x g wi cc) (rest.sl.v433 wo) (rest.sl.v435 wo)
    = chunkV (tU x g wi cu) (tC x g wi cc) x g ps cw wi wp' wo (BitVec.ofNat 32 (i 1).val) 512#32 512 := by
  simp only [rest.sl.r_86, rest.sl.r_95, rest.sl.r_96, rest.sl.r_98, rest.sl.r_99, rest.sl.r_100, rest.sl.r_101, rest.sl.r_102, rest.sl.r_103, rest.sl.r_104, rest.sl.r_105, rest.sl.r_106, rest.sl.r_107, rest.sl.r_108, rest.sl.r_109, rest.sl.r_110, rest.sl.r_111, rest.sl.r_112, rest.sl.r_113, rest.sl.r_114, rest.sl.r_115, rest.sl.r_116, rest.sl.r_117, rest.sl.r_118, rest.sl.r_119, rest.sl.r_120, rest.sl.r_121, rest.sl.r_122, rest.sl.r_123, rest.sl.r_124, rest.sl.r_125, rest.sl.r_126, rest.sl.r_127, rest.sl.r_128, rest.sl.r_129, rest.sl.r_130,
    ldPs, ldCw, ldX, ev74, er_89, er_90, er_91, er_92, er_93, er_94, er_97, ev123, ev186, ev253, ev433, ev435, ev920, ev922, ev932, ev934, ev955, ev957, ev964, ev974, ev976, ev983, ev1004, ev1006, ev1013, ev1020, ev1030, ev1032, ev1039, ev1046, ev1067, ev1069, ev1076, ev1083, ev1095, ev1097, ev1104, ev1111, ev1140, ev1146, ev1160, ev1166, ev1180, ev1186, ev1200, ev1206, ev1220, ev1226, ev1240, ev1246, ev1260, ev1266, ev1280, ev1286]
  rfl

theorem out3 : rest.sl.r_184 i arg2 arg3 arg6 arg7 x g ps cw wi wp' wo cu cc
    = chunkV (tU x g wi cu) (tC x g wi cc) x g ps cw wi wp' wo (BitVec.ofNat 32 (i 1).val) 768#32 768 := by
  simp only [rest.sl.r_131, rest.sl.r_139, rest.sl.r_140, rest.sl.r_141, rest.sl.r_142, rest.sl.r_143, rest.sl.r_144, rest.sl.r_145, rest.sl.r_146, rest.sl.r_147, rest.sl.r_148, rest.sl.r_149, rest.sl.r_150, rest.sl.r_151, rest.sl.r_152, rest.sl.r_153, rest.sl.r_155, rest.sl.r_156, rest.sl.r_157, rest.sl.r_158, rest.sl.r_159, rest.sl.r_160, rest.sl.r_161, rest.sl.r_162, rest.sl.r_163, rest.sl.r_164, rest.sl.r_165, rest.sl.r_166, rest.sl.r_167, rest.sl.r_168, rest.sl.r_169, rest.sl.r_170, rest.sl.r_171, rest.sl.r_172, rest.sl.r_173, rest.sl.r_174, rest.sl.r_175, rest.sl.r_176, rest.sl.r_177, rest.sl.r_178, rest.sl.r_179, rest.sl.r_180, rest.sl.r_181, rest.sl.r_182, rest.sl.r_183, rest.sl.r_184,
    ldPs, ldCw, ldX, ev74, ev123, ev186, ev253, ev433, ev435, er_133, er_134, er_135, er_136, er_137, er_138, ev1354, ev1356, ev1366, ev1368, ev1389, ev1391, ev1398, ev1408, ev1410, ev1417, ev1438, ev1440, ev1447, ev1454, ev1464, ev1466, ev1473, ev1480, ev1501, ev1503, ev1510, ev1517, ev1529, ev1531, ev1538, ev1545, ev1574, ev1580, ev1594, ev1600, ev1614, ev1620, ev1634, ev1640, ev1654, ev1660, ev1674, ev1680, ev1694, ev1700, ev1714, ev1720]
  rfl

end Cert.KernelIdeal.Even
-- ==== Proof.Ideal.Value.lean ====
/- What a point of the grid leaves: its block of the result, entry by entry, and the rows it hands to the next. -/
module

public import proofs.«01_k».proof.Proof.Ideal.Tile
public import proofs.«01_k».proof.Proof.Ideal.Body

@[expose] public section

set_option maxRecDepth 16384

noncomputable section

namespace Cert.KernelIdeal.Even

open Cert.KernelIdeal Cert.KernelIdeal.Gen
open Idealize.ShloMosaic Idealize.ShloMosaic.TcCoe Idealize.SL.Sem

/-- The eight slabs of a full row buffer, read from row `o` on. -/
theorem Good.load8 {K : ℕ} {B : ℕ → ℕ → ℕ → EReal} {L : List (View.Piece (Elt Ideal) ⟨3, ![8, K + 1024, 128]⟩ .f32)} (hL : Good K B 32 L)
    (v : View sig .tc .vmem ⟨3, ![8, K + 1024, 128]⟩ .f32) (n o : ℕ)
    (h : ∀ b, (![0, o, 0] : Fin 3 → ℕ) b + (![8, n, 128] : Fin 3 → ℕ) b ≤ (⟨3, ![8, K + 1024, 128]⟩ : Shape).size b) (y : (⟨3, ![8, n, 128]⟩ : Shape).Idx) :
    v.readCov L (Rect.unit (s := ⟨3, ![8, K + 1024, 128]⟩) ![0, o, 0] ![8, n, 128] h).toLoadRect y = B (y 0).val (o + (y 1).val) (y 2).val := by
  have h0 : (y 0).val < 8 := (y 0).isLt
  have h1 : (y 1).val < n := (y 1).isLt
  have hb : o + n ≤ K + 1024 := h 1
  refine (View.read_writes_apply_of_pieces v v.junk (fun z : (⟨3, ![8, K + 1024, 128]⟩ : Shape).Idx => B (z 0).val (z 1).val (z 2).val) _ hL.agree _ (hL.full _ ?_)).trans ?_
  · show o + 1 * (y 1).val < K ∨ 8 * ((o + 1 * (y 1).val - K) / 256) + (0 + 1 * (y 0).val) < 32
    omega
  · show B (0 + 1 * (y 0).val) (o + 1 * (y 1).val) (0 + 1 * (y 2).val) = _
    simp only [Nat.zero_add, Nat.one_mul]

variable (m : (ℓ : Loc nD τ sig) → Buf (Elt Ideal) ℓ) (c : Dev nD) (t : Fin cfg0.N)

/-- The rows before and of point `t`'s tile: of the first projected part, and of the product of the second's. -/
def bU : ℕ → ℕ → ℕ → EReal := tU (xB m c t) (gB m c t) (winI (Gen.V m c main_v0)) (carry m c t.val).1
def bC : ℕ → ℕ → ℕ → EReal := tC (xB m c t) (gB m c t) (winI (Gen.V m c main_v0)) (carry m c t.val).2

/-- An entry of what point `t` stores. -/
def rowAt (y : S1x1024x1024.Idx) : EReal :=
  rowF (bU m c t) (bC m c t) (xB m c t) (gB m c t) (psB m c t) (cwB m c t) (winI (Gen.V m c main_v0)) (winP (Gen.V m c main_v4)) (winO (Gen.V m c main_v3))
    (grid0.coords t 1).val (y 1).val (y 2).val

/-- A chunk's rows, stored at its place, are the block's entries there. -/
theorem chunk_at (o : ℕ) (ho : o + 256 ≤ 1024) (ht : (grid0.coords t 1).val < 8)
    (h : ∀ b, (![0, o, 0] : Fin 3 → ℕ) b + S1x256x1024.size b ≤ S1x1024x1024.size b)
    (w : Vec Ideal S1x256x1024 .f32)
    (hw : w = chunkV (bU m c t) (bC m c t) (xB m c t) (gB m c t) (psB m c t) (cwB m c t) (winI (Gen.V m c main_v0)) (winP (Gen.V m c main_v4)) (winO (Gen.V m c main_v3))
      (BitVec.ofNat 32 (grid0.coords t 1).val) (BitVec.ofNat 32 o) o) (z : S1x256x1024.Idx) :
    w z = rowAt m c t ((Rect.unit (s := S1x1024x1024) ![0, o, 0] S1x256x1024.size h).emb z) := by
  subst hw
  refine (chunkV_at _ _ _ _ _ _ _ _ _ _ o ht ho z).trans ?_
  unfold rowAt
  exact congrArg₂ (rowF _ _ _ _ _ _ _ _ _ _) (show o + (z 1).val = o + 1 * (z 1).val by omega) (show (z 2).val = 0 + 1 * (z 2).val by omega)

theorem coords_lt : ∀ t : Fin grid0.N, (grid0.coords t 1).val < 8 := fun t => (grid0.coords t 1).isLt

theorem outAt_at (y : S1x1024x1024.Idx) : outAt m c t y = rowAt m c t y := by
  unfold outAt
  refine View.canon_apply_of_pieces (rowAt m c t) _ ?_ y (cover4 m c t _ _ y)
  have e : (runAt m c t).1.1 = ⟨Rect.unit ![0, 768, 0] S1x256x1024.size inb_S1x1024x1024_S1x256x1024_0_768_0, rest.sl.r_184 (grid0.coords t) (st0_0 t) (st0_1 t) (st0_2 t) (st0_3 t)
      (xB m c t) (gB m c t) (psB m c t) (cwB m c t) (winI (Gen.V m c main_v0)) (winP (Gen.V m c main_v4)) (winO (Gen.V m c main_v3)) (carry m c t.val).1 (carry m c t.val).2⟩
      :: rest.sl.H9_3 (grid0.coords t) (st0_0 t) (st0_1 t) (st0_2 t) (st0_3 t)
      (xB m c t) (gB m c t) (psB m c t) (cwB m c t) (winI (Gen.V m c main_v0)) (winP (Gen.V m c main_v4)) (winO (Gen.V m c main_v3)) (carry m c t.val).1 (carry m c t.val).2 := by
    unfold runAt restAt rest
    rfl
  rw [e]
  unfold rest.sl.H9_3 rest.sl.H9_2 rest.sl.H9_1
  intro p hp
  simp only [List.mem_cons, List.not_mem_nil, or_false] at hp
  rcases hp with rfl | rfl | rfl | rfl
  · exact chunk_at m c t 768 (by decide) (coords_lt t) inb_S1x1024x1024_S1x256x1024_0_768_0 _ (out3 ..)
  · exact chunk_at m c t 512 (by decide) (coords_lt t) inb_S1x1024x1024_S1x256x1024_0_512_0 _ (out2 ..)
  · exact chunk_at m c t 256 (by decide) (coords_lt t) inb_S1x1024x1024_S1x256x1024_0_256_0 _ (out1 ..)
  · exact chunk_at m c t 0 (by decide) (coords_lt t) inb_S1x1024x1024_S1x256x1024_0_0_0 _ (out0 ..)

/-- The rows handed on are the tile's last. -/
theorem leavesU (y : S8x32x128.Idx) : (leaves m c t (carry m c t.val).1 (carry m c t.val).2).1 y = bU m c t (y 0).val (1024 + (y 1).val) (y 2).val := by
  have e : ∃ L, (restAt m c t (carry m c t.val).1 (carry m c t.val).2).1.2.1 = ⟨rU, rest.sl.r_185 (st0_0 t) (st0_1 t)
      (xB m c t) (gB m c t) (winI (Gen.V m c main_v0)) (carry m c t.val).1⟩ :: L := by
    unfold restAt rest
    exact ⟨_, rfl⟩
  obtain ⟨L, e⟩ := e
  unfold leaves
  dsimp only
  rw [e, readAt_writes_head]
  unfold rest.sl.r_185
  refine (congrFun (show k0_pay383 (F := Ideal) _ = _ from shapeCast_self ..) y).trans ?_
  exact (gHU_33 (st0_0 t) (st0_1 t) _ _ _ _).load8 mU.view 32 1024 _ y

theorem leavesC (y : S8x8x128.Idx) : (leaves m c t (carry m c t.val).1 (carry m c t.val).2).2 y = bC m c t (y 0).val (1024 + (y 1).val) (y 2).val := by
  have e : ∃ L, (restAt m c t (carry m c t.val).1 (carry m c t.val).2).1.2.2 = ⟨rC, k0_pay1 (rest.sl.v1748 (st0_0 t) (st0_1 t)
      (xB m c t) (gB m c t) (winI (Gen.V m c main_v0)) (carry m c t.val).2)⟩ :: L := by
    unfold restAt rest
    exact ⟨_, rfl⟩
  obtain ⟨L, e⟩ := e
  unfold leaves
  dsimp only
  rw [e, readAt_writes_head]
  refine (congrFun (show k0_pay1 (F := Ideal) _ = _ from shapeCast_self ..) y).trans ?_
  exact (gHC_33 (st0_0 t) (st0_1 t) _ _ _ _).load8 mC.view 8 1024 _ y

end Cert.KernelIdeal.Even

end
-- ==== Proof.Ideal.Spec.lean ====
/- The layer's even part, row by row of a sequence and column by column, as functions of row and column numbers. -/
module

public import proofs.«01_k».proof.Proof.Ideal.Chunk

@[expose] public section

set_option maxRecDepth 16384

noncomputable section

namespace Cert.KernelIdeal.Even

open Idealize.ShloMosaic Idealize.ShloMosaic.TcCoe Idealize.SL.Sem

def at4 {n0 n1 n2 n3 : ℕ} (v : (⟨4, ![n0, n1, n2, n3]⟩ : Shape).Idx → EReal) (a b c d : ℕ) : EReal :=
  if h : a < n0 ∧ b < n1 ∧ c < n2 ∧ d < n3 then v (ix4 ⟨a, h.1⟩ ⟨b, h.2.1⟩ ⟨c, h.2.2.1⟩ ⟨d, h.2.2.2⟩) else 0
theorem at4_ix {n0 n1 n2 n3 : ℕ} (v : (⟨4, ![n0, n1, n2, n3]⟩ : Shape).Idx → EReal) (a b c d : ℕ) (ha : a < n0) (hb : b < n1) (hc : c < n2) (hd : d < n3) :
    at4 v a b c d = v (ix4 ⟨a, ha⟩ ⟨b, hb⟩ ⟨c, hc⟩ ⟨d, hd⟩) := dif_pos ⟨ha, hb, hc, hd⟩
theorem at4_fin {n0 n1 n2 n3 : ℕ} (v : (⟨4, ![n0, n1, n2, n3]⟩ : Shape).Idx → EReal) (a : Fin n0) (b : Fin n1) (c : Fin n2) (d : Fin n3) :
    at4 v a b c d = v (ix4 a b c d) := dif_pos ⟨a.isLt, b.isLt, c.isLt, d.isLt⟩

section
variable (X : (⟨3, ![4, 8192, 1024]⟩ : Shape).Idx → EReal) (G : (⟨2, ![2, 1024]⟩ : Shape).Idx → EReal) (W : (⟨3, ![1, 1024, 6144]⟩ : Shape).Idx → EReal)
  (WP : (⟨4, ![1, 4, 256, 256]⟩ : Shape).Idx → EReal) (PS : (⟨2, ![1, 1024]⟩ : Shape).Idx → EReal) (CW : (⟨3, ![1, 3, 1024]⟩ : Shape).Idx → EReal)
  (WO : (⟨3, ![1, 2048, 1024]⟩ : Shape).Idx → EReal)

/-- Row `s` of sequence `b`, normalised; and projected, column `o + k`. -/
def nrmS (b s q : ℕ) : EReal := at3 X b s q * rms (at3 X b s) * at2 G 0 q
def prS (b o s k : ℕ) : EReal := ∑ q : Fin 1024, nrmS X G b s q * at3 W 0 q (o + k)

/-- The pools' rows and the convolution's, each after rows of zeros. -/
def uS (b n k : ℕ) : EReal := if n < 32 then 0 else prS X G W b 0 (n - 32) k
def cS (b n k : ℕ) : EReal := if n < 8 then 0 else prS X G W b 2048 (n - 8) k * prS X G W b 3072 (n - 8) k
/-- Rows as slabs of 128 columns. -/
def slab (f : ℕ → ℕ → EReal) (j r l : ℕ) : EReal := f r (128 * j + l)

/-- A pooled entry: the mean of the last rows, less the row itself; the mixed pools; the short convolution. -/
def poolS (b s k : ℕ) : EReal := winS (slab (uS X G W b)) (32 + s) k * inv (2 ^ (k / 256 + 1)) s - prS X G W b 0 s k
def mixS (b s k : ℕ) : EReal := (∑ q : Fin 256, poolS X G W b s (256 * (k / 256) + q) * at4 WP 0 (k / 256) q (k % 256)) * at2 PS 0 k
def convS (b s k : ℕ) : EReal :=
  at3 CW 0 2 k * (prS X G W b 2048 s k * prS X G W b 3072 s k) + at3 CW 0 1 k * cS X G W b (s + 7) k + at3 CW 0 0 k * cS X G W b (s + 6) k

/-- An entry of the result. -/
def outS (b s n : ℕ) : EReal :=
  at3 X b s n + (∑ k : Fin 1024, prS X G W b 1024 s k * convS X G W CW b s k * silu (prS X G W b 5120 s k) * at3 WO 0 (1024 + k) n
    + ∑ k : Fin 1024, mixS X G W WP PS b s k * silu (prS X G W b 4096 s k) * at3 WO 0 k n)
end

/-! ## Tiles of a sequence -/

section
variable {X : (⟨3, ![4, 8192, 1024]⟩ : Shape).Idx → EReal} {G : (⟨2, ![2, 1024]⟩ : Shape).Idx → EReal} {W : (⟨3, ![1, 1024, 6144]⟩ : Shape).Idx → EReal}
  {WP : (⟨4, ![1, 4, 256, 256]⟩ : Shape).Idx → EReal} {PS : (⟨2, ![1, 1024]⟩ : Shape).Idx → EReal} {CW : (⟨3, ![1, 3, 1024]⟩ : Shape).Idx → EReal}
  {WO : (⟨3, ![1, 2048, 1024]⟩ : Shape).Idx → EReal}
  {x : Vec Ideal S1x1024x1024 .f32} {g : Vec Ideal S2x1024 .f32} {ps : Vec Ideal S1x1024 .f32} {cw : Vec Ideal S1x3x1024 .f32}
  {wi : Vec Ideal S1024x6144 .bf16} {wp : Vec Ideal S1024x256 .bf16} {wo : Vec Ideal S2048x1024 .bf16} {b t : ℕ}

theorem prj_seq (hx : ∀ r k, r < 1024 → k < 1024 → at3 x 0 r k = at3 X b (t * 1024 + r) k) (hg : ∀ k, k < 1024 → at2 g 0 k = at2 G 0 k)
    (hw : ∀ q k, q < 1024 → k < 6144 → at2 wi q k = at3 W 0 q k) (o r k : ℕ) (hr : r < 1024) (hk : o + k < 6144) : prj x g wi o r k = prS X G W b o (t * 1024 + r) k := by
  unfold prj prS
  refine Finset.sum_congr rfl fun q _ => ?_
  rw [hw q (o + k) q.isLt hk]
  unfold nrm nrmS
  rw [hx r q hr q.isLt, hg q q.isLt]
  have e : rms (at3 x 0 r) = rms (at3 X b (t * 1024 + r)) := by
    unfold rms
    rw [Finset.sum_congr rfl fun (q : Fin 1024) _ => by rw [hx r q hr q.isLt]]
  rw [e]

theorem winS_congr {B B' : ℕ → ℕ → ℕ → EReal} {p p' c : ℕ} (hp : 32 ≤ p) (hp' : 32 ≤ p')
    (h : ∀ i < 16, B (c / 128) (p - i) (c % 128) = B' (c / 128) (p' - i) (c % 128)) : winS B p c = winS B' p' c := by
  have h0 : B (c / 128) p (c % 128) = B' (c / 128) p' (c % 128) := h 0 (by decide)
  unfold winS s16 s8 s4 s2
  simp only [Nat.sub_sub, Nat.reduceAdd, h0, h 1 (by decide), h 2 (by decide), h 3 (by decide), h 4 (by decide), h 5 (by decide), h 6 (by decide), h 7 (by decide), h 8 (by decide),
    h 9 (by decide), h 10 (by decide), h 11 (by decide), h 12 (by decide), h 13 (by decide), h 14 (by decide), h 15 (by decide)]

/-- A tile's row is the sequence's. -/
theorem row_seq {B D : ℕ → ℕ → ℕ → EReal} (hx : ∀ r k, r < 1024 → k < 1024 → at3 x 0 r k = at3 X b (t * 1024 + r) k) (hg : ∀ k, k < 1024 → at2 g 0 k = at2 G 0 k)
    (hw : ∀ q k, q < 1024 → k < 6144 → at2 wi q k = at3 W 0 q k) (hps : ∀ k, k < 1024 → at2 ps 0 k = at2 PS 0 k) (hcw : ∀ i k, i < 3 → k < 1024 → at3 cw 0 i k = at3 CW 0 i k)
    (hwp : ∀ h q k, h < 4 → q < 256 → k < 256 → at2 wp (256 * h + q) k = at4 WP 0 h q k) (hwo : ∀ q k, q < 2048 → k < 1024 → at2 wo q k = at3 WO 0 q k)
    (hB : ∀ j r l, j < 8 → r < 1056 → l < 128 → B j r l = uS X G W b (t * 1024 + r) (128 * j + l))
    (hD : ∀ j r l, j < 8 → r < 1032 → l < 128 → D j r l = cS X G W b (t * 1024 + r) (128 * j + l)) (r n : ℕ) (hr : r < 1024) (hn : n < 1024) :
    rowF B D x g ps cw wi wp wo t r n = outS X G W WP PS CW WO b (t * 1024 + r) n := by
  unfold rowF outS
  have hpr := prj_seq hx hg hw
  rw [hx r n hr hn]
  refine congrArg₂ (· + ·) rfl (congrArg₂ (· + ·) (Finset.sum_congr rfl fun k _ => ?_) (Finset.sum_congr rfl fun k _ => ?_))
  · have hk := k.isLt
    rw [hpr 1024 r k hr (by omega), hpr 5120 r k hr (by omega), hwo _ n (by omega) hn]
    unfold convF convS
    rw [hpr 2048 r k hr (by omega), hpr 3072 r k hr (by omega), hcw 0 k (by decide) hk, hcw 1 k (by decide) hk, hcw 2 k (by decide) hk, hD _ _ _ (by omega) (by omega) (by omega), hD _ _ _ (by omega) (by omega) (by omega),
      show 128 * (k.val / 128) + k.val % 128 = k.val from Nat.div_add_mod _ _, ← Nat.add_assoc, ← Nat.add_assoc]
  · have hk := k.isLt
    rw [hpr 4096 r k hr (by omega), hwo _ n (by omega) hn]
    unfold mixF mixS
    rw [hps k hk]
    refine congrArg (fun z => z * at2 PS 0 k * silu (prS X G W b 4096 (t * 1024 + r) k) * at3 WO 0 k n) (Finset.sum_congr rfl fun q _ => ?_)
    have hq := q.isLt
    rw [hwp _ _ _ (by omega) hq (Nat.mod_lt _ (by decide))]
    refine congrArg (· * _) ?_
    unfold poolF poolS
    rw [hpr 0 r _ hr (by omega)]
    refine congrArg (fun z => z * _ - _) (winS_congr (by omega) (by omega) fun i hi => ?_)
    rw [hB _ _ _ (by omega) (by omega) (Nat.mod_lt _ (by decide))]
    unfold slab
    rw [show t * 1024 + (32 + r - i) = 32 + (t * 1024 + r) - i by omega]

end

end Cert.KernelIdeal.Even

end
-- ==== Proof.Ideal.Seq.lean ====
/- The points of a sequence one after the other: each point's tile is the sequence's, and so is the result. -/
module

public import proofs.«01_k».proof.Proof.Ideal.Value
public import proofs.«01_k».proof.Proof.Ideal.Spec
public import proofs.«01_k».proof.Proof.Ideal.Run
public import Idealize.ShloMosaic.Lib.Pipeline.ValueKit
public import Idealize.ShloMosaic.Lib.Claim

@[expose] public section

set_option maxRecDepth 16384

noncomputable section

namespace Cert.KernelIdeal.Even

open Cert.KernelIdeal Cert.KernelIdeal.Gen
open Idealize.ShloMosaic Idealize.ShloMosaic.TcCoe Idealize.SL.Sem

/-- The blocks the windows show at a point, and the point's place in its sequence. -/
theorem idx : ∀ t : Fin cfg0.N, win0_0.index t = ![t.val / 8, t.val % 8, 0] ∧ win0_1.index t = ![0, 0] ∧ win0_2.index t = ![0, 0] ∧ win0_3.index t = ![0, 0, 0]
    ∧ win0_4.index t = ![t.val / 8, t.val % 8, 0] ∧ (grid0.coords t 1).val = t.val % 8 :=
  (by decide +kernel : ∀ t : Fin grid0.N, _)

variable (m : (ℓ : Loc nD τ sig) → Buf (Elt Ideal) ℓ) (c : Dev nD) (t : Fin cfg0.N)

/-- The arguments. -/
abbrev aX : FVec Ideal S4x8192x1024 .f32 := m ((c : Thread nD τ).loc main_arg0)
abbrev aG : FVec Ideal S2x1024 .f32 := m ((c : Thread nD τ).loc main_arg1)
abbrev aW : FVec Ideal S1x1024x6144 .f32 := m ((c : Thread nD τ).loc main_arg2)
abbrev aWP : FVec Ideal S1x4x256x256 .f32 := m ((c : Thread nD τ).loc main_arg3)
abbrev aPS : FVec Ideal S1x1024 .f32 := m ((c : Thread nD τ).loc main_arg4)
abbrev aCW : FVec Ideal S1x3x1024 .f32 := m ((c : Thread nD τ).loc main_arg5)
abbrev aWO : FVec Ideal S1x2048x1024 .f32 := m ((c : Thread nD τ).loc main_arg6)

theorem t_lt : t.val < 32 := t.isLt.trans_eq N_0

/-! ## What a point reads -/

theorem hx (r k : ℕ) (hr : r < 1024) (hk : k < 1024) : at3 (xB m c t) 0 r k = at3 (aX m c) (t.val / 8) (t.val % 8 * 1024 + r) k := by
  have ht := t_lt t
  rw [at3_ix (xB m c t) 0 r k (by decide) hr hk, at3_ix (aX m c) _ _ k (by omega) (by omega) hk]
  blk_ext [iblk, V, idx t]
theorem hg (k : ℕ) (hk : k < 1024) : at2 (gB m c t) 0 k = at2 (aG m c) 0 k := by
  rw [at2_ix (gB m c t) 0 k (by decide) hk, at2_ix (aG m c) 0 k (by decide) hk]
  blk_ext [iblk, V, idx t]
theorem hcw (i k : ℕ) (hi : i < 3) (hk : k < 1024) : at3 (cwB m c t) 0 i k = at3 (aCW m c) 0 i k := by
  rw [at3_ix (cwB m c t) 0 i k (by decide) hi hk, at3_ix (aCW m c) 0 i k (by decide) hi hk]
  blk_ext [iblk, V, idx t]
theorem V5 (k : Fin 1024) : (show FVec Ideal S1x1024 .f32 from Gen.V m c main_v5) (ix2 0 k) = aPS m c (ix2 0 k) := by
  entry_read
  pointwise
theorem hps (k : ℕ) (hk : k < 1024) : at2 (psB m c t) 0 k = at2 (aPS m c) 0 k := by
  rw [at2_ix (psB m c t) 0 k (by decide) hk, at2_ix (aPS m c) 0 k (by decide) hk]
  refine Eq.trans ?_ (V5 m c ⟨k, hk⟩)
  blk_ext [iblk, idx t]
theorem V0 (q : Fin 1024) (k : Fin 6144) : (show FVec Ideal S1024x6144 .f32 from Gen.V m c main_v0) (ix2 q k) = aW m c (ix3 0 q k) := by
  entry_read
  pointwise
theorem hw (q k : ℕ) (hq : q < 1024) (hk : k < 6144) : at2 (winI (Gen.V m c main_v0)) q k = at3 (aW m c) 0 q k := by
  rw [at2_ix _ q k hq hk, at3_ix (aW m c) 0 q k (by decide) hq hk]
  exact V0 m c ⟨q, hq⟩ ⟨k, hk⟩
theorem V4 (h : Fin 4) (q k : Fin 256) : (show FVec Ideal S1024x256 .f32 from Gen.V m c main_v4) (ix2 ⟨256 * h + q, by omega⟩ k) = aWP m c (ix4 0 h q k) := by
  entry_read
  pointwise
theorem hwp (h q k : ℕ) (hh : h < 4) (hq : q < 256) (hk : k < 256) : at2 (winP (Gen.V m c main_v4)) (256 * h + q) k = at4 (aWP m c) 0 h q k := by
  rw [at2_ix _ (256 * h + q) k (by omega) hk, at4_ix (aWP m c) 0 h q k (by decide) hh hq hk]
  exact V4 m c ⟨h, hh⟩ ⟨q, hq⟩ ⟨k, hk⟩
theorem V3 (q : Fin 2048) (k : Fin 1024) : (show FVec Ideal S2048x1024 .f32 from Gen.V m c main_v3) (ix2 q k) = aWO m c (ix3 0 q k) := by
  entry_read
  pointwise
theorem hwo (q k : ℕ) (hq : q < 2048) (hk : k < 1024) : at2 (winO (Gen.V m c main_v3)) q k = at3 (aWO m c) 0 q k := by
  rw [at2_ix _ q k hq hk, at3_ix (aWO m c) 0 q k (by decide) hq hk]
  exact V3 m c ⟨q, hq⟩ ⟨k, hk⟩

/-! ## The rows handed on -/

theorem zero43 (y : S8x32x128.Idx) : k0_pay43 (F := Ideal) y = (0 : EReal) := by
  pointwise [k0_pay43]
theorem zero44 (y : S8x8x128.Idx) : k0_pay44 (F := Ideal) y = (0 : EReal) := by
  pointwise [k0_pay44]

/-- The rows before a point's tile, and the tile's, are the sequence's, given that those before are. -/
theorem bU_seq (h : ∀ y : S8x32x128.Idx, (carry m c t.val).1 y = uS (aX m c) (aG m c) (aW m c) (t.val / 8) (t.val % 8 * 1024 + (y 1).val) (128 * (y 0).val + (y 2).val))
    (j r l : ℕ) (hj : j < 8) (hr : r < 1056) (hl : l < 128) : bU m c t j r l = uS (aX m c) (aG m c) (aW m c) (t.val / 8) (t.val % 8 * 1024 + r) (128 * j + l) := by
  unfold bU tU buf
  by_cases h' : r < 32
  · rw [if_pos h', at3_ix _ j r l hj h' hl]
    exact h _
  · rw [if_neg h', prj_seq (hx m c t) (hg m c t) (hw m c) 0 (r - 32) (128 * j + l) (by omega) (by omega)]
    unfold uS
    rw [if_neg (by omega), show t.val % 8 * 1024 + r - 32 = t.val % 8 * 1024 + (r - 32) by omega]
theorem bC_seq (h : ∀ y : S8x8x128.Idx, (carry m c t.val).2 y = cS (aX m c) (aG m c) (aW m c) (t.val / 8) (t.val % 8 * 1024 + (y 1).val) (128 * (y 0).val + (y 2).val))
    (j r l : ℕ) (hj : j < 8) (hr : r < 1032) (hl : l < 128) : bC m c t j r l = cS (aX m c) (aG m c) (aW m c) (t.val / 8) (t.val % 8 * 1024 + r) (128 * j + l) := by
  unfold bC tC buf
  by_cases h' : r < 8
  · rw [if_pos h', at3_ix _ j r l hj h' hl]
    exact h _
  · rw [if_neg h']
    dsimp only
    rw [prj_seq (hx m c t) (hg m c t) (hw m c) 2048 (r - 8) (128 * j + l) (by omega) (by omega), prj_seq (hx m c t) (hg m c t) (hw m c) 3072 (r - 8) (128 * j + l) (by omega) (by omega)]
    unfold cS
    rw [if_neg (by omega), show t.val % 8 * 1024 + r - 8 = t.val % 8 * 1024 + (r - 8) by omega]

/-- What a point is left is the sequence's rows before its tile: zeros at the start, then what the point before hands on. -/
theorem carry_seq (b : ℕ) (hb : b < 4) : ∀ k < 8,
    (∀ y : S8x32x128.Idx, (carry m c (8 * b + k)).1 y = uS (aX m c) (aG m c) (aW m c) b (k * 1024 + (y 1).val) (128 * (y 0).val + (y 2).val))
    ∧ (∀ y : S8x8x128.Idx, (carry m c (8 * b + k)).2 y = cS (aX m c) (aG m c) (aW m c) b (k * 1024 + (y 1).val) (128 * (y 0).val + (y 2).val)) := by
  intro k
  induction k with
  | zero =>
    intro _
    rw [carry_start m c _ (by omega)]
    refine ⟨fun y => ?_, fun y => ?_⟩
    · have h1 : (y 1).val < 32 := (y 1).isLt
      unfold uS
      exact (zero43 y).trans (if_pos (by omega)).symm
    · have h1 : (y 1).val < 8 := (y 1).isLt
      unfold cS
      exact (zero44 y).trans (if_pos (by omega)).symm
  | succ k ih =>
    intro hk
    obtain ⟨hu, hc⟩ := ih (by omega)
    have hn : 8 * b + k < cfg0.N := lt_of_lt_of_eq (by omega) N_0.symm
    have e := carry_succ m c ⟨8 * b + k, hn⟩ (by show (8 * b + k + 1) % 8 ≠ 0; omega)
    have e8 : (8 * b + k) / 8 = b := by omega
    have e9 : (8 * b + k) % 8 = k := by omega
    rw [show 8 * b + (k + 1) = (⟨8 * b + k, hn⟩ : Fin cfg0.N).val + 1 from rfl, e]
    refine ⟨fun y => ?_, fun y => ?_⟩
    · have h1 : (y 1).val < 32 := (y 1).isLt
      rw [leavesU, bU_seq m c ⟨8 * b + k, hn⟩ (by rw [e8, e9]; exact hu) _ _ _ (y 0).isLt (by omega) (y 2).isLt, e8, e9, show k * 1024 + (1024 + (y 1).val) = (k + 1) * 1024 + (y 1).val by omega]
    · have h1 : (y 1).val < 8 := (y 1).isLt
      rw [leavesC, bC_seq m c ⟨8 * b + k, hn⟩ (by rw [e8, e9]; exact hc) _ _ _ (y 0).isLt (by omega) (y 2).isLt, e8, e9, show k * 1024 + (1024 + (y 1).val) = (k + 1) * 1024 + (y 1).val by omega]

/-! ## The result -/

/-- The result's entries. -/
def res (i : S4x8192x1024.Idx) : EReal := outS (aX m c) (aG m c) (aW m c) (aWP m c) (aPS m c) (aCW m c) (aWO m c) (i 0).val (i 1).val (i 2).val

theorem point (y : S1x1024x1024.Idx) :
    outAt m c t y = outS (aX m c) (aG m c) (aW m c) (aWP m c) (aPS m c) (aCW m c) (aWO m c) (t.val / 8) (t.val % 8 * 1024 + (y 1).val) (y 2).val := by
  have ht := t_lt t
  have hc := carry_seq m c (t.val / 8) (by omega) (t.val % 8) (by omega)
  rw [show 8 * (t.val / 8) + t.val % 8 = t.val from Nat.div_add_mod _ _] at hc
  rw [outAt_at]
  unfold rowAt
  rw [(idx t).2.2.2.2.2]
  exact row_seq (hx m c t) (hg m c t) (hw m c) (hps m c t) (hcw m c t) (hwp m c) (hwo m c) (bU_seq m c t hc.1) (bC_seq m c t hc.2) _ _ (y 1).isLt (y 2).isLt

theorem final : (dats m 0 c).arrAt 4 cfg0.N = res m c := by
  refine (dats m 0 c).arrAt_eq_of_covers 4 _ (by decide +kernel) fun t hf y => ?_
  blk_simp
  rw [after0_4]
  refine (point m c t y).trans ?_
  have h0 : (y 0).val < 1 := (y 0).isLt
  unfold res
  blk_simp [idx t]

end Cert.KernelIdeal.Even

end
-- ==== Proof.Finite.lean ====
/- What the precondition says: the entries it names are real numbers. -/
module

public import proofs.«01_k».proof.Proof.Ideal.Seq
public import proofs.«01_k».proof.Defs
public import proofs.«01_k».proof.Proof.Gen.Pre_finite

@[expose] public section

set_option maxRecDepth 16384

noncomputable section

namespace Cert.KernelIdeal.Even

open Cert.KernelIdeal Cert.KernelIdeal.Gen
open Idealize.ShloMosaic Idealize.ShloMosaic.TcCoe Idealize.SL.Sem

theorem ofBits_inf : Ideal.ofBits .f32 0x7F800000#32 = (⊤ : EReal) := by
  simp [Ideal.ofBits, Ideal.ieee]

/-- An entry below infinity in absolute value is real. -/
theorem real_of_lt (x : EReal) (h : Ideal.cmp .olt (max x (-x)) (Ideal.ofBits .f32 0x7F800000#32) = 1#1) : ∃ r : ℝ, x = r := by
  rw [ofBits_inf] at h
  have h' : max x (-x) < ⊤ := by
    by_contra hn
    rw [show Ideal.cmp .olt (max x (-x)) ⊤ = BitVec.ofBool (decide (max x (-x) < ⊤)) from rfl, decide_eq_false hn] at h
    exact absurd h (by decide)
  induction x with
  | bot => simp at h'
  | coe r => exact ⟨r, rfl⟩
  | top => simp at h'

variable (m : (ℓ : Loc nD τ sig) → Buf (Elt Ideal) ℓ) (c : Dev nD)

theorem real_x (h : Cert.Pre_KernelIdeal_finite m) (b s q : ℕ) : ∃ r : ℝ, at3 (aX m c) b s q = r := by
  unfold at3
  by_cases hh : b < 4 ∧ s < 8192 ∧ q < 1024
  · rw [dif_pos hh]
    exact real_of_lt _ (congrFun (h c).1 (ix3 ⟨b, hh.1⟩ ⟨s, hh.2.1⟩ ⟨q, hh.2.2⟩))
  · rw [dif_neg hh]; exact ⟨0, rfl⟩
theorem real_g (h : Cert.Pre_KernelIdeal_finite m) (q : ℕ) : ∃ r : ℝ, at2 (aG m c) 0 q = r := by
  unfold at2
  by_cases hh : 0 < 2 ∧ q < 1024
  · rw [dif_pos hh]
    have h1 := congrFun (h c).2.1 (ix2 (0 : Fin 1) ⟨q, hh.2⟩)
    refine real_of_lt _ (Eq.trans ?_ h1)
    unfold Cert.Pre_finite.fn
    pointwise
    rfl
  · rw [dif_neg hh]; exact ⟨0, rfl⟩
theorem real_w (h : Cert.Pre_KernelIdeal_finite m) (q k : ℕ) (hk : k < 1024) : ∃ r : ℝ, at3 (aW m c) 0 q k = r := by
  unfold at3
  by_cases hh : 0 < 1 ∧ q < 1024 ∧ k < 6144
  · rw [dif_pos hh]
    have h1 := congrFun (h c).2.2 (ix3 (0 : Fin 1) ⟨q, hh.2.1⟩ ⟨k, hk⟩)
    refine real_of_lt _ (Eq.trans ?_ h1)
    unfold Cert.Pre_finite.fn
    pointwise
    rfl
  · rw [dif_neg hh]; exact ⟨0, rfl⟩

end Cert.KernelIdeal.Even

end
-- ==== Proof.Reference.lean ====
/- What the reference computes, step by step, and each step at an index. -/
module

public import proofs.«01_k».proof.Proof.Gen.ReferenceIdeal.Run
public import proofs.«01_k».proof.Proof.Ideal.Spec

@[expose] public section

set_option maxRecDepth 16384

noncomputable section

namespace Cert.ReferenceIdeal.Even

open Cert.ReferenceIdeal Cert.ReferenceIdeal.Gen
open Idealize.ShloMosaic Idealize.ShloMosaic.TcCoe Idealize.SL.Sem
open Cert.KernelIdeal.Even (at2 at3 at4 at2_ix at3_ix at4_ix at2_fin at3_fin at4_fin rms eps silu nrmS prS)

variable (A0 : FVec Ideal S4x8192x1024 .f32) (A1 : FVec Ideal S2x1024 .f32) (A2 : FVec Ideal S1x1024x6144 .f32) (A3 : FVec Ideal S1x4x256x256 .f32)
  (A4 : FVec Ideal S1x1024 .f32) (A5 : FVec Ideal S1x3x1024 .f32) (A6 : FVec Ideal S1x2048x1024 .f32)

/-- The rows, normalised, and projected. -/
def projR : FVec Ideal S4x8192x6144 .f32 := (Host.dotGeneral dot_S4x8192x1024_S1024x6144_S4x8192x6144_2_0_01_1_n_n none (mulf (mulf A0 (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf A0 A0) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x3727C5AC#32)))))) (broadcastInDim S4x8192x1024 ![0, 1, 2] bcast_S1x1x1024_S4x8192x1024_0_1_2 (broadcastInDim S1x1x1024 ![2] bcast_S1024_S1x1x1024_2 (shapeCast _ (extractStridedSlice S1x1024 ![0, 0] A1 slices_S2x1024_S1x1024_0_0) shapeCasts_S1x1024_S1024)))) (shapeCast _ A2 shapeCasts_S1x1024x6144_S1024x6144))
/-- The pools' rows in four groups, and their running sums. -/
def grpR (p : FVec Ideal S4x8192x6144 .f32) : FVec Ideal S4x8192x4x256 .f32 := (shapeCast _ (extractStridedSlice S4x8192x1024 ![0, 0, 0] p slices_S4x8192x6144_S4x8192x1024_0_0_0) shapeCasts_S4x8192x1024_S4x8192x4x256)
def cumR (u : FVec Ideal S4x8192x4x256 .f32) : FVec Ideal S4x8192x4x256 .f32 := (Host.reduceWindowAdd ![1, 8192, 1, 1] ![1, 1, 1, 1] ![0, 8191, 0, 0] ![0, 0, 0, 0] u (broadcastInDim S_ ![] bcast_S_S_ (constant S_ .f32 0x00000000#32)) reduceWindows_S4x8192x4x256_S4x8192x4x256_w1s1p0_0_w8192s1p8191_0_w1s1p0_0_w1s1p0_0 h_S_)
/-- A group's pool. -/
def poolR0 (u c : FVec Ideal S4x8192x4x256 .f32) : FVec Ideal S4x8192x1x256 .f32 := (broadcastInDim S4x8192x1x256 ![0, 1, 3] bcast_S4x8192x256_S4x8192x1x256_0_1_3 (subf (Host.divf (subf (shapeCast _ (extractStridedSlice S4x8192x1x256 ![0, 0, 0, 0] c slices_S4x8192x4x256_S4x8192x1x256_0_0_0_0) shapeCasts_S4x8192x1x256_S4x8192x256) (extractStridedSlice S4x8192x256 ![0, 0, 0] (pad S4x8194x256 ![0, 2, 0] ![0, 0, 0] ![0, 0, 0] (shapeCast _ (extractStridedSlice S4x8192x1x256 ![0, 0, 0, 0] c slices_S4x8192x4x256_S4x8192x1x256_0_0_0_0) shapeCasts_S4x8192x1x256_S4x8192x256) (sitofp .f32 (constantI S_ 32 0#32)) pads_S4x8192x256_S4x8194x256_000_200_000 h_S_) slices_S4x8194x256_S4x8192x256_0_0_0)) (broadcastInDim S4x8192x256 ![0, 1, 2] bcast_S1x8192x1_S4x8192x256_0_1_2 (broadcastInDim S1x8192x1 ![1] bcast_S8192_S1x8192x1_1 (sitofp .f32 (minsi (addi (iotaInDim S8192 32 0) (broadcastInDim S8192 ![] bcast_S_S8192 (constantI S_ 32 1#32))) (broadcastInDim S8192 ![] bcast_S_S8192 (constantI S_ 32 2#32))))))) (shapeCast _ (extractStridedSlice S4x8192x1x256 ![0, 0, 0, 0] u slices_S4x8192x4x256_S4x8192x1x256_0_0_0_0) shapeCasts_S4x8192x1x256_S4x8192x256)))
def poolR1 (u c : FVec Ideal S4x8192x4x256 .f32) : FVec Ideal S4x8192x1x256 .f32 := (broadcastInDim S4x8192x1x256 ![0, 1, 3] bcast_S4x8192x256_S4x8192x1x256_0_1_3 (subf (Host.divf (subf (shapeCast _ (extractStridedSlice S4x8192x1x256 ![0, 0, 1, 0] c slices_S4x8192x4x256_S4x8192x1x256_0_0_1_0) shapeCasts_S4x8192x1x256_S4x8192x256) (extractStridedSlice S4x8192x256 ![0, 0, 0] (pad S4x8196x256 ![0, 4, 0] ![0, 0, 0] ![0, 0, 0] (shapeCast _ (extractStridedSlice S4x8192x1x256 ![0, 0, 1, 0] c slices_S4x8192x4x256_S4x8192x1x256_0_0_1_0) shapeCasts_S4x8192x1x256_S4x8192x256) (sitofp .f32 (constantI S_ 32 0#32)) pads_S4x8192x256_S4x8196x256_000_400_000 h_S_) slices_S4x8196x256_S4x8192x256_0_0_0)) (broadcastInDim S4x8192x256 ![0, 1, 2] bcast_S1x8192x1_S4x8192x256_0_1_2 (broadcastInDim S1x8192x1 ![1] bcast_S8192_S1x8192x1_1 (sitofp .f32 (minsi (addi (iotaInDim S8192 32 0) (broadcastInDim S8192 ![] bcast_S_S8192 (constantI S_ 32 1#32))) (broadcastInDim S8192 ![] bcast_S_S8192 (constantI S_ 32 4#32))))))) (shapeCast _ (extractStridedSlice S4x8192x1x256 ![0, 0, 1, 0] u slices_S4x8192x4x256_S4x8192x1x256_0_0_1_0) shapeCasts_S4x8192x1x256_S4x8192x256)))
def poolR2 (u c : FVec Ideal S4x8192x4x256 .f32) : FVec Ideal S4x8192x1x256 .f32 := (broadcastInDim S4x8192x1x256 ![0, 1, 3] bcast_S4x8192x256_S4x8192x1x256_0_1_3 (subf (Host.divf (subf (shapeCast _ (extractStridedSlice S4x8192x1x256 ![0, 0, 2, 0] c slices_S4x8192x4x256_S4x8192x1x256_0_0_2_0) shapeCasts_S4x8192x1x256_S4x8192x256) (extractStridedSlice S4x8192x256 ![0, 0, 0] (pad S4x8200x256 ![0, 8, 0] ![0, 0, 0] ![0, 0, 0] (shapeCast _ (extractStridedSlice S4x8192x1x256 ![0, 0, 2, 0] c slices_S4x8192x4x256_S4x8192x1x256_0_0_2_0) shapeCasts_S4x8192x1x256_S4x8192x256) (sitofp .f32 (constantI S_ 32 0#32)) pads_S4x8192x256_S4x8200x256_000_800_000 h_S_) slices_S4x8200x256_S4x8192x256_0_0_0)) (broadcastInDim S4x8192x256 ![0, 1, 2] bcast_S1x8192x1_S4x8192x256_0_1_2 (broadcastInDim S1x8192x1 ![1] bcast_S8192_S1x8192x1_1 (sitofp .f32 (minsi (addi (iotaInDim S8192 32 0) (broadcastInDim S8192 ![] bcast_S_S8192 (constantI S_ 32 1#32))) (broadcastInDim S8192 ![] bcast_S_S8192 (constantI S_ 32 8#32))))))) (shapeCast _ (extractStridedSlice S4x8192x1x256 ![0, 0, 2, 0] u slices_S4x8192x4x256_S4x8192x1x256_0_0_2_0) shapeCasts_S4x8192x1x256_S4x8192x256)))
def poolR3 (u c : FVec Ideal S4x8192x4x256 .f32) : FVec Ideal S4x8192x1x256 .f32 := (broadcastInDim S4x8192x1x256 ![0, 1, 3] bcast_S4x8192x256_S4x8192x1x256_0_1_3 (subf (Host.divf (subf (shapeCast _ (extractStridedSlice S4x8192x1x256 ![0, 0, 3, 0] c slices_S4x8192x4x256_S4x8192x1x256_0_0_3_0) shapeCasts_S4x8192x1x256_S4x8192x256) (extractStridedSlice S4x8192x256 ![0, 0, 0] (pad S4x8208x256 ![0, 16, 0] ![0, 0, 0] ![0, 0, 0] (shapeCast _ (extractStridedSlice S4x8192x1x256 ![0, 0, 3, 0] c slices_S4x8192x4x256_S4x8192x1x256_0_0_3_0) shapeCasts_S4x8192x1x256_S4x8192x256) (sitofp .f32 (constantI S_ 32 0#32)) pads_S4x8192x256_S4x8208x256_000_1600_000 h_S_) slices_S4x8208x256_S4x8192x256_0_0_0)) (broadcastInDim S4x8192x256 ![0, 1, 2] bcast_S1x8192x1_S4x8192x256_0_1_2 (broadcastInDim S1x8192x1 ![1] bcast_S8192_S1x8192x1_1 (sitofp .f32 (minsi (addi (iotaInDim S8192 32 0) (broadcastInDim S8192 ![] bcast_S_S8192 (constantI S_ 32 1#32))) (broadcastInDim S8192 ![] bcast_S_S8192 (constantI S_ 32 16#32))))))) (shapeCast _ (extractStridedSlice S4x8192x1x256 ![0, 0, 3, 0] u slices_S4x8192x4x256_S4x8192x1x256_0_0_3_0) shapeCasts_S4x8192x1x256_S4x8192x256)))
/-- The four pools side by side, and mixed. -/
def catR (a b c d : FVec Ideal S4x8192x1x256 .f32) : FVec Ideal S4x8192x4x256 .f32 := concatenate S4x8192x4x256 2 [⟨S4x8192x1x256, a⟩, ⟨S4x8192x1x256, b⟩, ⟨S4x8192x1x256, c⟩, ⟨S4x8192x1x256, d⟩] concatenates_S4x8192x1x256_S4x8192x1x256_S4x8192x1x256_S4x8192x1x256_S4x8192x4x256_d2
def mixR (q : FVec Ideal S4x8192x4x256 .f32) : FVec Ideal S4x8192x1024 .f32 := (mulf (shapeCast _ (transpose S4x8192x4x256 [2, 3, 0, 1] (Host.dotGeneral dot_S4x256x256_S4x8192x4x256_S4x256x4x8192_1_3_2_01_0_2 none (shapeCast _ A3 shapeCasts_S1x4x256x256_S4x256x256) q) transposes_S4x256x4x8192_S4x8192x4x256_2_3_0_1) shapeCasts_S4x8192x4x256_S4x8192x1024) (broadcastInDim S4x8192x1024 ![0, 1, 2] bcast_S1x1x1024_S4x8192x1024_0_1_2 (broadcastInDim S1x1x1024 ![2] bcast_S1024_S1x1x1024_2 (shapeCast _ A4 shapeCasts_S1x1024_S1024))))
/-- The short convolution, gated. -/
def prodR (p : FVec Ideal S4x8192x6144 .f32) : FVec Ideal S4x8192x1024 .f32 := (mulf (extractStridedSlice S4x8192x1024 ![0, 0, 2048] p slices_S4x8192x6144_S4x8192x1024_0_0_2048) (extractStridedSlice S4x8192x1024 ![0, 0, 3072] p slices_S4x8192x6144_S4x8192x1024_0_0_3072))
def convR (p : FVec Ideal S4x8192x6144 .f32) : FVec Ideal S4x8192x1024 .f32 := (mulf (extractStridedSlice S4x8192x1024 ![0, 0, 1024] p slices_S4x8192x6144_S4x8192x1024_0_0_1024) (addf (addf (mulf (broadcastInDim S4x8192x1024 ![0, 1, 2] bcast_S1x1x1024_S4x8192x1024_0_1_2 (broadcastInDim S1x1x1024 ![2] bcast_S1024_S1x1x1024_2 (shapeCast _ (extractStridedSlice S1x1024 ![2, 0] (shapeCast _ A5 shapeCasts_S1x3x1024_S3x1024) slices_S3x1024_S1x1024_2_0) shapeCasts_S1x1024_S1024))) (prodR p)) (mulf (broadcastInDim S4x8192x1024 ![0, 1, 2] bcast_S1x1x1024_S4x8192x1024_0_1_2 (broadcastInDim S1x1x1024 ![2] bcast_S1024_S1x1x1024_2 (shapeCast _ (extractStridedSlice S1x1024 ![1, 0] (shapeCast _ A5 shapeCasts_S1x3x1024_S3x1024) slices_S3x1024_S1x1024_1_0) shapeCasts_S1x1024_S1024))) (extractStridedSlice S4x8192x1024 ![0, 0, 0] (pad S4x8193x1024 ![0, 1, 0] ![0, 0, 0] ![0, 0, 0] (prodR p) (sitofp .f32 (constantI S_ 32 0#32)) pads_S4x8192x1024_S4x8193x1024_000_100_000 h_S_) slices_S4x8193x1024_S4x8192x1024_0_0_0))) (mulf (broadcastInDim S4x8192x1024 ![0, 1, 2] bcast_S1x1x1024_S4x8192x1024_0_1_2 (broadcastInDim S1x1x1024 ![2] bcast_S1024_S1x1x1024_2 (shapeCast _ (extractStridedSlice S1x1024 ![0, 0] (shapeCast _ A5 shapeCasts_S1x3x1024_S3x1024) slices_S3x1024_S1x1024_0_0) shapeCasts_S1x1024_S1024))) (extractStridedSlice S4x8192x1024 ![0, 0, 0] (pad S4x8194x1024 ![0, 2, 0] ![0, 0, 0] ![0, 0, 0] (prodR p) (sitofp .f32 (constantI S_ 32 0#32)) pads_S4x8192x1024_S4x8194x1024_000_200_000 h_S_) slices_S4x8194x1024_S4x8192x1024_0_0_0))))
/-- The result. -/
def outR (p : FVec Ideal S4x8192x6144 .f32) (a v : FVec Ideal S4x8192x1024 .f32) : FVec Ideal S4x8192x1024 .f32 := addf A0 (Host.dotGeneral dot_S4x8192x2048_S2048x1024_S4x8192x1024_2_0_01_1_n_n none (mulf (concatenate S4x8192x2048 2 [⟨S4x8192x1024, a⟩, ⟨S4x8192x1024, v⟩] concatenates_S4x8192x1024_S4x8192x1024_S4x8192x2048_d2) (mulf (extractStridedSlice S4x8192x2048 ![0, 0, 4096] p slices_S4x8192x6144_S4x8192x2048_0_0_4096) (Host.divf (broadcastInDim S4x8192x2048 ![] bcast_S_S4x8192x2048 (constant S_ .f32 0x3F800000#32)) (addf (broadcastInDim S4x8192x2048 ![] bcast_S_S4x8192x2048 (constant S_ .f32 0x3F800000#32)) (Host.exp (Host.negf (extractStridedSlice S4x8192x2048 ![0, 0, 4096] p slices_S4x8192x6144_S4x8192x2048_0_0_4096))))))) (shapeCast _ A6 shapeCasts_S1x2048x1024_S2048x1024))
def allR : FVec Ideal S4x8192x1024 .f32 :=
  outR A0 A6 (projR A0 A1 A2)
    (mixR A3 A4 (catR (poolR0 (grpR (projR A0 A1 A2)) (cumR (grpR (projR A0 A1 A2)))) (poolR1 (grpR (projR A0 A1 A2)) (cumR (grpR (projR A0 A1 A2))))
      (poolR2 (grpR (projR A0 A1 A2)) (cumR (grpR (projR A0 A1 A2)))) (poolR3 (grpR (projR A0 A1 A2)) (cumR (grpR (projR A0 A1 A2))))))
    (convR A5 (projR A0 A1 A2))

/-- The reference's result is these steps. -/
theorem res_eq (m : (ℓ : Loc nD τ sig) → Buf (Elt Ideal) ℓ) (c : Dev nD) :
    Value.res_main_v131 m c = allR (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) := by
  unfold Value.res_main_v131
  rfl

end Cert.ReferenceIdeal.Even

end
-- ==== Proof.Ideal.Window.lean ====
/- Sums of the last rows as differences of running sums, where the rows are real numbers; and that the rows are. -/
module

public import proofs.«01_k».proof.Proof.Ideal.Spec

@[expose] public section

set_option maxRecDepth 16384

noncomputable section

namespace Cert.KernelIdeal.Even

open Idealize.ShloMosaic Idealize.ShloMosaic.TcCoe Idealize.SL.Sem

/-! ## Windows -/

/-- The doubled sums are sums of so many rows. -/
theorem winS_sum (B : ℕ → ℕ → ℕ → EReal) (p c : ℕ) (hc : c < 1024) : winS B p c = ∑ i ∈ Finset.range (2 ^ (c / 256 + 1)), B (c / 128) (p - i) (c % 128) := by
  have h : c / 256 = 0 ∨ c / 256 = 1 ∨ c / 256 = 2 ∨ c / 256 = 3 := by omega
  unfold winS
  rcases h with h | h | h | h
  · rw [if_pos (by omega), h]
    simp only [s2, Finset.sum_range_succ, Finset.range_zero, Finset.sum_empty, Nat.reduceAdd, Nat.reducePow, zero_add, Nat.sub_zero, Nat.sub_sub]
  · rw [if_neg (by omega), if_pos (by omega), h]
    simp only [s4, s2, Finset.sum_range_succ, Finset.range_zero, Finset.sum_empty, Nat.reduceAdd, Nat.reducePow, zero_add, Nat.sub_zero, Nat.sub_sub]
    ac_rfl
  · rw [if_neg (by omega), if_neg (by omega), if_pos (by omega), h]
    simp only [s8, s4, s2, Finset.sum_range_succ, Finset.range_zero, Finset.sum_empty, Nat.reduceAdd, Nat.reducePow, zero_add, Nat.sub_zero, Nat.sub_sub]
    ac_rfl
  · rw [if_neg (by omega), if_neg (by omega), if_neg (by omega), h]
    simp only [s16, s8, s4, s2, Finset.sum_range_succ, Finset.range_zero, Finset.sum_empty, Nat.reduceAdd, Nat.reducePow, zero_add, Nat.sub_zero, Nat.sub_sub]
    ac_rfl

/-- The last `w` rows up to row `s`: a difference of sums from the start. -/
theorem last_rows (f : ℕ → ℝ) (s w : ℕ) :
    (∑ i ∈ Finset.range (s + 1), f i) - (if w ≤ s then ∑ i ∈ Finset.range (s - w + 1), f i else 0) = ∑ i ∈ Finset.range w, if i ≤ s then f (s - i) else 0 := by
  induction w with
  | zero => simp
  | succ w ih =>
    rw [Finset.sum_range_succ (fun i => if i ≤ s then f (s - i) else 0), ← ih]
    by_cases h : w ≤ s
    · rw [if_pos h, if_pos h, Finset.sum_range_succ _ (s - w)]
      by_cases h' : w + 1 ≤ s
      · rw [if_pos h', show s - (w + 1) + 1 = s - w by omega]; ring
      · rw [if_neg h', show s - w = 0 by omega]; simp
    · rw [if_neg h, if_neg h, if_neg (by omega)]; ring

theorem coe_sum {ι : Type} (S : Finset ι) (f : ι → ℝ) : ∑ i ∈ S, (f i : EReal) = ((∑ i ∈ S, f i : ℝ) : EReal) := by
  classical
  induction S using Finset.induction_on with
  | empty => simp
  | insert a S h ih => rw [Finset.sum_insert h, Finset.sum_insert h, ih, EReal.coe_add]

theorem last_rows_coe (f : ℕ → EReal) (hf : ∀ i, ∃ r : ℝ, f i = r) (s w : ℕ) :
    (∑ i ∈ Finset.range (s + 1), f i) - (if w ≤ s then ∑ i ∈ Finset.range (s - w + 1), f i else 0) = ∑ i ∈ Finset.range w, if i ≤ s then f (s - i) else 0 := by
  choose F hF using hf
  have e : ∀ n, ∑ i ∈ Finset.range n, f i = ((∑ i ∈ Finset.range n, F i : ℝ) : EReal) := fun n => by
    rw [← coe_sum]; exact Finset.sum_congr rfl fun i _ => hF i
  have e1 : (if w ≤ s then ∑ i ∈ Finset.range (s - w + 1), f i else 0) = ((if w ≤ s then ∑ i ∈ Finset.range (s - w + 1), F i else 0 : ℝ) : EReal) := by
    by_cases h : w ≤ s
    · rw [if_pos h, if_pos h, e]
    · rw [if_neg h, if_neg h]; rfl
  rw [e1, e, ← EReal.coe_sub, last_rows, ← coe_sum]
  refine Finset.sum_congr rfl fun i _ => ?_
  by_cases h : i ≤ s
  · rw [if_pos h, if_pos h, hF]
  · rw [if_neg h, if_neg h]; rfl

/-! ## The rows are real -/

theorem real_mul {a b : EReal} (ha : ∃ r : ℝ, a = r) (hb : ∃ r : ℝ, b = r) : ∃ r : ℝ, a * b = r := by
  obtain ⟨r, rfl⟩ := ha
  obtain ⟨s, rfl⟩ := hb
  exact ⟨r * s, (EReal.coe_mul r s).symm⟩
theorem real_sum {n : ℕ} (f : Fin n → EReal) (hf : ∀ i, ∃ r : ℝ, f i = r) : ∃ r : ℝ, ∑ i, f i = r := by
  choose F hF using hf
  exact ⟨∑ i, F i, by rw [← coe_sum]; exact Finset.sum_congr rfl fun i _ => hF i⟩

theorem ofBits_1024 : Ideal.ofBits .f32 0x44800000#32 = ((1024 : ℝ) : EReal) := by
  simp [Ideal.ofBits, Ideal.ieee, -EReal.coe_mul]; norm_num
theorem eps_pos : ∃ e : ℝ, 0 < e ∧ eps = e := by
  refine ⟨(2 ^ 23 + 2606508 : ℕ) * 2 ^ (-40 : ℤ), by positivity, ?_⟩
  simp [eps, Ideal.ofBits, Ideal.ieee, -EReal.coe_mul]

theorem rms_real (X : ℕ → EReal) (hX : ∀ q < 1024, ∃ r : ℝ, X q = r) : ∃ r : ℝ, rms X = r := by
  have h : ∀ q : Fin 1024, ∃ r : ℝ, X q = r := fun q => hX q q.isLt
  choose F hF using h
  obtain ⟨e, he, e'⟩ := eps_pos
  have h1 : ∑ q : Fin 1024, X q * X q = ((∑ q, F q * F q : ℝ) : EReal) := by
    rw [← coe_sum]
    exact Finset.sum_congr rfl fun q _ => by rw [hF q, EReal.coe_mul]
  have h2 : 0 ≤ ∑ q, F q * F q := Finset.sum_nonneg fun q _ => mul_self_nonneg _
  have h3 : 0 < (∑ q, F q * F q) * (1 / 1024) + e := by positivity
  unfold rms
  rw [h1, ofBits_1024, Ideal.div_coe (by norm_num), e', ← EReal.coe_mul, ← EReal.coe_add, Ideal.rsqrt_coe, if_neg h3.le.not_gt, if_neg h3.ne']
  exact ⟨_, rfl⟩

variable (X : (⟨3, ![4, 8192, 1024]⟩ : Shape).Idx → EReal) (G : (⟨2, ![2, 1024]⟩ : Shape).Idx → EReal) (W : (⟨3, ![1, 1024, 6144]⟩ : Shape).Idx → EReal)

theorem prS_real (hX : ∀ b s q, ∃ r : ℝ, at3 X b s q = r) (hG : ∀ q, ∃ r : ℝ, at2 G 0 q = r) (hW : ∀ q k, k < 1024 → ∃ r : ℝ, at3 W 0 q k = r) (b s k : ℕ) (hk : k < 1024) :
    ∃ r : ℝ, prS X G W b 0 s k = r := by
  unfold prS nrmS
  exact real_sum _ fun q => real_mul (real_mul (real_mul (hX b s q) (rms_real _ fun q _ => hX b s q)) (hG q)) (hW q _ (by omega))

/-- A pooled entry by running sums `c` of the rows. -/
theorem poolS_eq (hX : ∀ b s q, ∃ r : ℝ, at3 X b s q = r) (hG : ∀ q, ∃ r : ℝ, at2 G 0 q = r) (hW : ∀ q k, k < 1024 → ∃ r : ℝ, at3 W 0 q k = r) (b s k w : ℕ) (hk : k < 1024)
    (hw : w = 2 ^ (k / 256 + 1)) :
    Ideal.div ((∑ i ∈ Finset.range (s + 1), prS X G W b 0 i k) - (if w ≤ s then ∑ i ∈ Finset.range (s - w + 1), prS X G W b 0 i k else 0)) (((min (s + 1) w : ℕ) : ℝ) : EReal)
      - prS X G W b 0 s k = poolS X G W b s k := by
  unfold poolS
  refine congrArg (· - _) ?_
  rw [last_rows_coe _ (fun i => prS_real X G W hX hG hW b i k hk), winS_sum _ _ _ hk, ← hw]
  unfold inv
  have hc : ((min (s + 1) w : ℕ) : ℝ) ≠ 0 := by
    have : 0 < w := by rw [hw]; positivity
    exact Nat.cast_ne_zero.2 (by omega)
  rw [Ideal.div_coe hc, Ideal.div_coe hc, one_mul]
  refine congrArg (· * _) (Finset.sum_congr rfl fun i _ => ?_)
  unfold slab uS
  rw [show 128 * (k / 128) + k % 128 = k from Nat.div_add_mod _ _]
  by_cases h : i ≤ s
  · rw [if_pos h, if_neg (by omega), show 32 + s - i - 32 = s - i by omega]
  · rw [if_neg h, if_pos (by omega)]

end Cert.KernelIdeal.Even

end
-- ==== Proof.RefValue.lean ====
/- The reference's result, entry by entry. -/
module

public import proofs.«01_k».proof.Proof.Reference
public import proofs.«01_k».proof.Proof.Ideal.Window

@[expose] public section

set_option maxRecDepth 16384

noncomputable section

namespace Cert.ReferenceIdeal.Even

open Cert.ReferenceIdeal Cert.ReferenceIdeal.Gen
open Idealize.ShloMosaic Idealize.ShloMosaic.TcCoe Idealize.SL.Sem
open Cert.KernelIdeal.Even (at2 at3 at4 at2_ix at3_ix at4_ix at2_fin at3_fin at4_fin rms eps silu nrmS prS uS cS poolS mixS convS outS)

variable (A0 : FVec Ideal S4x8192x1024 .f32) (A1 : FVec Ideal S2x1024 .f32) (A2 : FVec Ideal S1x1024x6144 .f32) (A3 : FVec Ideal S1x4x256x256 .f32)
  (A4 : FVec Ideal S1x1024 .f32) (A5 : FVec Ideal S1x3x1024 .f32) (A6 : FVec Ideal S1x2048x1024 .f32)

theorem projR_at (b : Fin 4) (s : Fin 8192) (k : Fin 6144) : projR A0 A1 A2 (ix3 b s k) = prS A0 A1 A2 b 0 s k := by
  have e : prS A0 A1 A2 b 0 s k = ∑ q : Fin 1024, A0 (ix3 b s q) * Ideal.rsqrt (Ideal.div (∑ q : Fin 1024, A0 (ix3 b s q) * A0 (ix3 b s q)) (Ideal.ofBits .f32 0x44800000#32) + eps) * A1 (ix2 0 q) * A2 (ix3 0 q k) := by
    unfold prS nrmS rms
    refine Finset.sum_congr rfl fun q _ => ?_
    rw [Nat.zero_add]
    simp only [at3_fin]
    rw [at2_ix _ 0 q (by decide) q.isLt, at3_ix _ 0 q k (by decide) q.isLt k.isLt]
    rfl
  refine Eq.trans ?_ e.symm
  pointwise [projR]

/-- A column of the projected rows, by the part it lies in. -/
theorem projR_part (o : ℕ) (b : Fin 4) (s : Fin 8192) (k : ℕ) (j : Fin 6144) (hj : j.val = o + k) : projR A0 A1 A2 (ix3 b s j) = prS A0 A1 A2 b o s k := by
  refine (projR_at A0 A1 A2 b s j).trans ?_
  unfold prS
  exact Finset.sum_congr rfl fun q _ => congrArg (fun j => nrmS A0 A1 b s q * at3 A2 0 q j) ((Nat.zero_add _).trans hj)

theorem grpR_at (b : Fin 4) (s : Fin 8192) (g : Fin 4) (d : Fin 256) : grpR (projR A0 A1 A2) (ix4 b s g d) = prS A0 A1 A2 b 0 s (256 * g + d) := by
  have e : grpR (projR A0 A1 A2) (ix4 b s g d) = projR A0 A1 A2 (ix3 b s ⟨g * 256 + d, by omega⟩) := by
    pointwise [grpR]
  rw [e, projR_at, show ((⟨g * 256 + d, by omega⟩ : Fin 6144) : ℕ) = 256 * g + d from congrArg (· + _) (Nat.mul_comm _ _)]

/-! ## Running sums -/

theorem foldl_sum {ι : Type} (l : List ι) (f : ι → EReal) (v : EReal) : l.foldl (fun r n => r + f n) v = v + (l.map f).sum := by
  induction l generalizing v with
  | nil => simp
  | cons a l ih => rw [List.foldl_cons, ih, List.map_cons, List.sum_cons, add_assoc]

/-- The place of the `z`-th term of the window at an entry, before the padding is taken off. -/
def place {n0 N n2 n3 : ℕ} (b : Fin n0) (s : Fin N) (g : Fin n2) (d : Fin n3) (z : (⟨4, ![1, N, 1, 1]⟩ : Shape).Idx) (a : Fin 4) : ℕ :=
  ((ix4 b s g d : (⟨4, ![n0, N, n2, n3]⟩ : Shape).Idx) a).val * (![1, 1, 1, 1] : Fin 4 → ℕ) a + (z a).val
theorem dite_dec {P : Prop} (i j : Decidable P) (a : P → EReal) (b : ¬P → EReal) : @dite EReal P i a b = @dite EReal P j a b := by
  rw [Subsingleton.elim i j]
/-- A running sum down the second axis: the entries up to and including row `s`. -/
theorem runs {n0 N n2 n3 M : ℕ} (hN : N = M + 1) (u : FVec Ideal ⟨4, ![n0, N, n2, n3]⟩ .f32)
    (h : (⟨4, ![n0, N, n2, n3]⟩ : Shape).ReduceWindows ![1, N, 1, 1] ![1, 1, 1, 1] ![0, M, 0, 0] ![0, 0, 0, 0] ⟨4, ![n0, N, n2, n3]⟩)
    (b : Fin n0) (s : Fin N) (g : Fin n2) (d : Fin n3) :
    Ideal.hostReduceWindowAdd ![1, N, 1, 1] ![1, 1, 1, 1] ![0, M, 0, 0] ![0, 0, 0, 0] h u 0 (ix4 b s g d) = ∑ i ∈ Finset.range (s + 1), at4 u b i g d := by
  have hs := s.isLt
  have hb := b.isLt
  have hg := g.isLt
  have hd := d.isLt
  unfold Ideal.hostReduceWindowAdd Host.reduceWindow
  refine (foldl_sum _ _ _).trans ?_
  rw [zero_add, ← List.ofFn_eq_map, List.sum_ofFn]
  have e : ∀ F : (⟨4, ![1, N, 1, 1]⟩ : Shape).Idx → EReal, ∑ n, F ((⟨4, ![1, N, 1, 1]⟩ : Shape).rowMajor.symm n) = ∑ i : Fin N, F (ix4 0 i 0 0) := fun F => by
    rw [Equiv.sum_comp, sum_idx4]
    simp
  refine (Finset.sum_congr rfl fun n _ => dite_dec _ _ _ _).trans (Eq.trans (e fun z => if hin : ∀ a, (![0, M, 0, 0] : Fin 4 → ℕ) a ≤ place b s g d z a ∧ place b s g d z a - (![0, M, 0, 0] : Fin 4 → ℕ) a < (⟨4, ![n0, N, n2, n3]⟩ : Shape).size a then
      u (fun a => ⟨place b s g d z a - (![0, M, 0, 0] : Fin 4 → ℕ) a, (hin a).2⟩) else 0) ?_)
  have e1 : ∀ i : Fin N, (if hin : ∀ a, (![0, M, 0, 0] : Fin 4 → ℕ) a ≤ place b s g d (ix4 0 i 0 0) a
      ∧ place b s g d (ix4 0 i 0 0) a - (![0, M, 0, 0] : Fin 4 → ℕ) a < (⟨4, ![n0, N, n2, n3]⟩ : Shape).size a then
      u (fun a => ⟨place b s g d (ix4 0 i 0 0) a - (![0, M, 0, 0] : Fin 4 → ℕ) a, (hin a).2⟩) else 0)
      = (fun n : ℕ => if M ≤ s.val + n then at4 u b (s.val + n - M) g d else 0) i.val := fun i => by
    have hi := i.isLt
    have p0 : place b s g d (ix4 0 i 0 0) 0 = b.val * 1 + 0 := rfl
    have p1 : place b s g d (ix4 0 i 0 0) 1 = s.val * 1 + i.val := rfl
    have p2 : place b s g d (ix4 0 i 0 0) 2 = g.val * 1 + 0 := rfl
    have p3 : place b s g d (ix4 0 i 0 0) 3 = d.val * 1 + 0 := rfl
    by_cases h : M ≤ s.val + i.val
    · refine (dif_pos ?_).trans ((?_ : _ = at4 u b (s.val + i.val - M) g d).trans (if_pos h).symm)
      · intro a
        match a with
        | 0 => rw [p0]; exact ⟨Nat.zero_le _, show b.val * 1 + 0 - 0 < n0 by omega⟩
        | 1 => rw [p1]; exact ⟨show M ≤ s.val * 1 + i.val by omega, show s.val * 1 + i.val - M < N by omega⟩
        | 2 => rw [p2]; exact ⟨Nat.zero_le _, show g.val * 1 + 0 - 0 < n2 by omega⟩
        | 3 => rw [p3]; exact ⟨Nat.zero_le _, show d.val * 1 + 0 - 0 < n3 by omega⟩
      · rw [at4_ix u b _ g d hb (by omega) hg hd]
        refine congrArg u (funext fun a => Fin.ext ?_)
        match a with
        | 0 => exact (congrArg (· - 0) p0).trans (show b.val * 1 + 0 - 0 = b.val by omega)
        | 1 => exact (congrArg (· - M) p1).trans (show s.val * 1 + i.val - M = s.val + i.val - M by omega)
        | 2 => exact (congrArg (· - 0) p2).trans (show g.val * 1 + 0 - 0 = g.val by omega)
        | 3 => exact (congrArg (· - 0) p3).trans (show d.val * 1 + 0 - 0 = d.val by omega)
    · refine (dif_neg fun hin => h ?_).trans (if_neg h).symm
      have := (hin 1).1
      rw [p1] at this
      change M ≤ s.val * 1 + i.val at this
      omega
  refine (Finset.sum_congr rfl fun i _ => e1 i).trans ?_
  rw [Fin.sum_univ_eq_sum_range (fun n : ℕ => if M ≤ s.val + n then at4 u b (s.val + n - M) g d else 0) N,
    show Finset.range N = Finset.range ((M - s.val) + (s.val + 1)) from congrArg _ (by omega), Finset.sum_range_add]
  rw [Finset.sum_eq_zero fun n hn => if_neg (by have := Finset.mem_range.1 hn; omega), zero_add]
  refine Finset.sum_congr rfl fun n hn => ?_
  have := Finset.mem_range.1 hn
  rw [if_pos (by omega), show s.val + (M - s.val + n) - M = n by omega]

theorem cumR_at (u : FVec Ideal S4x8192x4x256 .f32) (b : Fin 4) (s : Fin 8192) (g : Fin 4) (d : Fin 256) :
    cumR u (ix4 b s g d) = ∑ i ∈ Finset.range (s + 1), at4 u b i g d := by
  have hv : (broadcastInDim S_ ![] bcast_S_S_ (constant (F := Ideal) S_ .f32 0x00000000#32)) (Shape.Idx.first h_S_) = (0 : EReal) := Ideal.ofBits_zero .f32
  unfold cumR Host.reduceWindowAdd
  rw [hv]
  exact runs (M := 8191) rfl u _ b s g d

/-- How many rows a window holds, as the reference counts them. -/
theorem cnt (s w : ℕ) (hs : s < 8192) (hw : w ≤ 16) :
    (FloatOps.sitofp (F := Ideal) .f32 (IntOp.minsi (IntOp.addi (BitVec.ofNat 32 s) 1#32) (BitVec.ofNat 32 w)) : EReal) = (((min (s + 1) w : ℕ) : ℝ) : EReal) := by
  have e : (IntOp.minsi (IntOp.addi (BitVec.ofNat 32 s) 1#32) (BitVec.ofNat 32 w)).toInt = ((min (s + 1) w : ℕ) : ℤ) := by
    have e1 : IntOp.addi (BitVec.ofNat 32 s) 1#32 = BitVec.ofNat 32 (s + 1) := by
      show BitVec.ofNat 32 s + BitVec.ofNat 32 1 = _
      rw [← BitVec.ofNat_add]
    rw [e1, SortNet.toInt_minsi, BitVec.toInt_eq_toNat_cond, BitVec.toInt_eq_toNat_cond, BitVec.toNat_ofNat, BitVec.toNat_ofNat,
      Nat.mod_eq_of_lt (by omega), Nat.mod_eq_of_lt (by omega)]
    rw [if_pos (by omega), if_pos (by omega), Nat.cast_min]
  show ((((IntOp.minsi _ _).toInt : ℤ) : ℝ) : EReal) = _
  rw [e]
  rfl

theorem zeroR : (FloatOps.sitofp (F := Ideal) .f32 0#32 : EReal) = 0 := by
  show ((((0#32 : BitVec 32).toInt : ℤ) : ℝ) : EReal) = 0
  simp

/-! ## The pools -/

/-- A pooled entry, by the rows and their running sums, as each group computes it. -/
def poolG (u c : FVec Ideal S4x8192x4x256 .f32) (w : ℕ) (b : Fin 4) (s : Fin 8192) (g : Fin 4) (d : Fin 256) : EReal :=
  Ideal.div (c (ix4 b s g d) - if h : w ≤ s.val ∧ s.val - w < 8192 then c (ix4 b ⟨s.val - w, h.2⟩ g d) else FloatOps.sitofp (F := Ideal) .f32 0#32)
    (FloatOps.sitofp (F := Ideal) .f32 (IntOp.minsi (IntOp.addi (BitVec.ofNat 32 s) 1#32) (BitVec.ofNat 32 w))) - u (ix4 b s g d)

theorem poolR0_at (u c : FVec Ideal S4x8192x4x256 .f32) (b : Fin 4) (s : Fin 8192) (d : Fin 256) : poolR0 u c (ix4 b s 0 d) = poolG u c 2 b s 0 d := by
  unfold poolG
  pointwise [poolR0]
theorem poolR1_at (u c : FVec Ideal S4x8192x4x256 .f32) (b : Fin 4) (s : Fin 8192) (d : Fin 256) : poolR1 u c (ix4 b s 0 d) = poolG u c 4 b s 1 d := by
  unfold poolG
  pointwise [poolR1]
theorem poolR2_at (u c : FVec Ideal S4x8192x4x256 .f32) (b : Fin 4) (s : Fin 8192) (d : Fin 256) : poolR2 u c (ix4 b s 0 d) = poolG u c 8 b s 2 d := by
  unfold poolG
  pointwise [poolR2]
theorem poolR3_at (u c : FVec Ideal S4x8192x4x256 .f32) (b : Fin 4) (s : Fin 8192) (d : Fin 256) : poolR3 u c (ix4 b s 0 d) = poolG u c 16 b s 3 d := by
  unfold poolG
  pointwise [poolR3]

theorem catR_at (x y z w : FVec Ideal S4x8192x1x256 .f32) (b : Fin 4) (s : Fin 8192) (g : Fin 4) (d : Fin 256) :
    catR x y z w (ix4 b s g d) = if g.val = 0 then x (ix4 b s 0 d) else if g.val = 1 then y (ix4 b s 0 d) else if g.val = 2 then z (ix4 b s 0 d) else w (ix4 b s 0 d) := by
  match g with
  | 0 => pointwise [catR]
  | 1 => pointwise [catR]
  | 2 => pointwise [catR]
  | 3 => pointwise [catR]

/-- The four pools side by side. -/
theorem pools_at (u c : FVec Ideal S4x8192x4x256 .f32) (b : Fin 4) (s : Fin 8192) (g : Fin 4) (d : Fin 256) :
    catR (poolR0 u c) (poolR1 u c) (poolR2 u c) (poolR3 u c) (ix4 b s g d) = poolG u c (2 ^ (g.val + 1)) b s g d := by
  rw [catR_at]
  match g with
  | 0 => exact (if_pos rfl).trans (poolR0_at u c b s d)
  | 1 => exact (if_neg (by decide)).trans ((if_pos rfl).trans (poolR1_at u c b s d))
  | 2 => exact (if_neg (by decide)).trans ((if_neg (by decide)).trans ((if_pos rfl).trans (poolR2_at u c b s d)))
  | 3 => exact (if_neg (by decide)).trans ((if_neg (by decide)).trans ((if_neg (by decide)).trans (poolR3_at u c b s d)))

/-! ## The mixed pools, the convolution and the result -/

theorem mixR_at (q : FVec Ideal S4x8192x4x256 .f32) (b : Fin 4) (s : Fin 8192) (k : Fin 1024) :
    mixR A3 A4 q (ix3 b s k) = (∑ x : Fin 256, A3 (ix4 0 ⟨k.val / 256, by omega⟩ x ⟨k.val % 256, by omega⟩) * q (ix4 b s ⟨k.val / 256, by omega⟩ x)) * A4 (ix2 0 k) := by
  pointwise [mixR]

theorem convR_at (p : FVec Ideal S4x8192x6144 .f32) (b : Fin 4) (s : Fin 8192) (k : Fin 1024) :
    convR A5 p (ix3 b s k) = p (ix3 b s ⟨1024 + k, by omega⟩) * ((A5 (ix3 0 2 k) * (p (ix3 b s ⟨2048 + k, by omega⟩) * p (ix3 b s ⟨3072 + k, by omega⟩))
      + A5 (ix3 0 1 k) * (if h : 1 ≤ s.val ∧ s.val - 1 < 8192 then p (ix3 b ⟨s.val - 1, h.2⟩ ⟨2048 + k, by omega⟩) * p (ix3 b ⟨s.val - 1, h.2⟩ ⟨3072 + k, by omega⟩)
          else FloatOps.sitofp (F := Ideal) .f32 0#32))
      + A5 (ix3 0 0 k) * (if h : 2 ≤ s.val ∧ s.val - 2 < 8192 then p (ix3 b ⟨s.val - 2, h.2⟩ ⟨2048 + k, by omega⟩) * p (ix3 b ⟨s.val - 2, h.2⟩ ⟨3072 + k, by omega⟩)
          else FloatOps.sitofp (F := Ideal) .f32 0#32)) := by
  pointwise [convR, prodR]

theorem outR_at (p : FVec Ideal S4x8192x6144 .f32) (a v : FVec Ideal S4x8192x1024 .f32) (b : Fin 4) (s : Fin 8192) (n : Fin 1024) :
    outR A0 A6 p a v (ix3 b s n) = A0 (ix3 b s n)
      + (∑ x : Fin 1024, a (ix3 b s x) * silu (p (ix3 b s ⟨4096 + x, by omega⟩)) * A6 (ix3 0 ⟨x, by omega⟩ n)
        + ∑ x : Fin 1024, v (ix3 b s x) * silu (p (ix3 b s ⟨4096 + (1024 + x), by omega⟩)) * A6 (ix3 0 ⟨1024 + x, by omega⟩ n)) := by
  unfold silu Ideal.logistic
  pointwise [outR]

/-! ## All together -/

/-- The product of two parts, some rows back. -/
theorem lag (d : ℕ) (hd : d ≤ 8) (b : Fin 4) (s : Fin 8192) (k : Fin 1024) :
    (if h : d ≤ s.val ∧ s.val - d < 8192 then projR A0 A1 A2 (ix3 b ⟨s.val - d, h.2⟩ ⟨2048 + k, by omega⟩) * projR A0 A1 A2 (ix3 b ⟨s.val - d, h.2⟩ ⟨3072 + k, by omega⟩)
      else FloatOps.sitofp (F := Ideal) .f32 0#32) = cS A0 A1 A2 b (s + (8 - d)) k := by
  have hs := s.isLt
  unfold cS
  by_cases h : d ≤ s.val
  · refine (dif_pos ⟨h, by omega⟩).trans (Eq.trans ?_ (if_neg (by omega)).symm)
    rw [projR_part A0 A1 A2 2048 b _ k _ rfl, projR_part A0 A1 A2 3072 b _ k _ rfl, show s.val + (8 - d) - 8 = s.val - d by omega]
  · refine (dif_neg fun h' => h h'.1).trans (Eq.trans ?_ (if_pos (by omega)).symm)
    exact zeroR

theorem conv_eq (b : Fin 4) (s : Fin 8192) (k : Fin 1024) : convR A5 (projR A0 A1 A2) (ix3 b s k) = prS A0 A1 A2 b 1024 s k * convS A0 A1 A2 A5 b s k := by
  rw [convR_at, lag A0 A1 A2 1 (by decide), lag A0 A1 A2 2 (by decide), projR_part A0 A1 A2 1024 b s k _ rfl, projR_part A0 A1 A2 2048 b s k _ rfl, projR_part A0 A1 A2 3072 b s k _ rfl]
  unfold convS
  rw [at3_ix A5 0 0 k (by decide) (by decide) k.isLt, at3_ix A5 0 1 k (by decide) (by decide) k.isLt, at3_ix A5 0 2 k (by decide) (by decide) k.isLt]
  rfl

section
variable {A0 A1 A2} (hX : ∀ b s q, ∃ r : ℝ, at3 A0 b s q = r) (hG : ∀ q, ∃ r : ℝ, at2 A1 0 q = r) (hW : ∀ q k, k < 1024 → ∃ r : ℝ, at3 A2 0 q k = r)
include hX hG hW

theorem pool_eq (b : Fin 4) (s : Fin 8192) (g : Fin 4) (d : Fin 256) :
    poolG (grpR (projR A0 A1 A2)) (cumR (grpR (projR A0 A1 A2))) (2 ^ (g.val + 1)) b s g d = poolS A0 A1 A2 b s (256 * g + d) := by
  have hs := s.isLt
  have hg := g.isLt
  have hd := d.isLt
  have e : ∀ n : ℕ, n ≤ 8192 → ∑ i ∈ Finset.range n, at4 (grpR (projR A0 A1 A2)) b i g d = ∑ i ∈ Finset.range n, prS A0 A1 A2 b 0 i (256 * g + d) := fun n hn =>
    Finset.sum_congr rfl fun i hi => by
      have := Finset.mem_range.1 hi
      rw [at4_ix _ b i g d b.isLt (by omega) hg hd]
      exact grpR_at A0 A1 A2 b ⟨i, by omega⟩ g d
  rw [← Cert.KernelIdeal.Even.poolS_eq A0 A1 A2 hX hG hW b s (256 * g + d) (2 ^ (g.val + 1)) (by omega) (by rw [show (256 * g.val + d.val) / 256 = g.val by omega])]
  unfold poolG
  rw [cnt _ _ hs (show 2 ^ (g.val + 1) ≤ 2 ^ 4 from Nat.pow_le_pow_right (by decide) (by omega)), grpR_at, cumR_at, e _ (by omega)]
  refine congrArg (fun z => Ideal.div (_ - z) _ - _) ?_
  by_cases h : 2 ^ (g.val + 1) ≤ s.val
  · refine (dif_pos ⟨h, Nat.lt_of_le_of_lt (Nat.sub_le _ _) hs⟩).trans (Eq.trans ?_ (if_pos h).symm)
    rw [cumR_at]
    exact e _ (Nat.succ_le_of_lt (Nat.lt_of_le_of_lt (Nat.sub_le _ _) hs))
  · exact (dif_neg fun h' => h h'.1).trans (zeroR.trans (if_neg h).symm)

theorem mix_eq (b : Fin 4) (s : Fin 8192) (k : Fin 1024) :
    mixR A3 A4 (catR (poolR0 (grpR (projR A0 A1 A2)) (cumR (grpR (projR A0 A1 A2)))) (poolR1 (grpR (projR A0 A1 A2)) (cumR (grpR (projR A0 A1 A2))))
      (poolR2 (grpR (projR A0 A1 A2)) (cumR (grpR (projR A0 A1 A2)))) (poolR3 (grpR (projR A0 A1 A2)) (cumR (grpR (projR A0 A1 A2))))) (ix3 b s k) = mixS A0 A1 A2 A3 A4 b s k := by
  rw [mixR_at]
  unfold mixS
  rw [at2_ix A4 0 k (by decide) k.isLt]
  refine congrArg (· * _) (Finset.sum_congr rfl fun q _ => ?_)
  rw [pools_at, at4_ix A3 0 (k / 256) q (k % 256) (by decide) (by omega) q.isLt (by omega), mul_comm]
  exact congrArg (· * _) (pool_eq hX hG hW b s ⟨k / 256, by omega⟩ q)

/-- The reference's result is the layer's even part. -/
theorem all_eq (b : Fin 4) (s : Fin 8192) (n : Fin 1024) : allR A0 A1 A2 A3 A4 A5 A6 (ix3 b s n) = outS A0 A1 A2 A3 A4 A5 A6 b s n := by
  unfold allR outS
  rw [outR_at, at3_fin, add_comm (Finset.sum _ _) (Finset.sum _ _)]
  refine congrArg (_ + ·) (congrArg₂ (· + ·) (Finset.sum_congr rfl fun k _ => ?_) (Finset.sum_congr rfl fun k _ => ?_))
  · rw [conv_eq, projR_part A0 A1 A2 5120 b s k _ (by show 4096 + (1024 + k.val) = 5120 + k.val; omega), at3_ix A6 0 (1024 + k) n (by decide) (by omega) n.isLt]
    rfl
  · rw [mix_eq A3 A4 hX hG hW, projR_part A0 A1 A2 4096 b s k _ rfl, at3_ix A6 0 k n (by decide) (by omega) n.isLt]
    rfl
end

end Cert.ReferenceIdeal.Even

end
-- ==== Proof.lean ====
/- The claims of the certificate, each from the module that proves it. -/
module

public import proofs.«01_k».proof.Defs
public import proofs.«01_k».proof.Proof.Run
public import proofs.«01_k».proof.Proof.Odd.Run
public import proofs.«01_k».proof.Proof.Odd.Ideal.Run
public import proofs.«01_k».proof.Proof.Ideal.Run
public import proofs.«01_k».proof.Proof.Ideal.Seq
public import proofs.«01_k».proof.Proof.Finite
public import proofs.«01_k».proof.Proof.RefValue
public import proofs.«01_k».proof.Proof.Gen.ReferenceIdeal.Run
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference leaves its arguments alone, and it has no semaphore to leave anywhere but at zero. -/
theorem reference_frame : Cert.quiescent_ReferenceIdeal := fun m g _ =>
  (θ_run Cert.ReferenceIdeal.defs _ _).mono (fun r h => ⟨fun c => (h c).2, sem_eq_zero_of_no_sems (by decide) _⟩) (Cert.ReferenceIdeal.Value.run m g)

/-- What the kernel leaves in its result is what the reference computes from the same arguments. -/
theorem values (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (h : Cert.Pre_KernelIdeal_finite m) (c : Dev Cert.KernelIdeal.nD)
    (h0 : m' ((c.tc : Thread Cert.ReferenceIdeal.nD Cert.ReferenceIdeal.τ).loc Cert.ReferenceIdeal.main_arg0) = Cert.KernelIdeal.Even.aX m c)
    (h1 : m' ((c.tc : Thread Cert.ReferenceIdeal.nD Cert.ReferenceIdeal.τ).loc Cert.ReferenceIdeal.main_arg1) = Cert.KernelIdeal.Even.aG m c)
    (h2 : m' ((c.tc : Thread Cert.ReferenceIdeal.nD Cert.ReferenceIdeal.τ).loc Cert.ReferenceIdeal.main_arg2) = Cert.KernelIdeal.Even.aW m c)
    (h3 : m' ((c.tc : Thread Cert.ReferenceIdeal.nD Cert.ReferenceIdeal.τ).loc Cert.ReferenceIdeal.main_arg3) = Cert.KernelIdeal.Even.aWP m c)
    (h4 : m' ((c.tc : Thread Cert.ReferenceIdeal.nD Cert.ReferenceIdeal.τ).loc Cert.ReferenceIdeal.main_arg4) = Cert.KernelIdeal.Even.aPS m c)
    (h5 : m' ((c.tc : Thread Cert.ReferenceIdeal.nD Cert.ReferenceIdeal.τ).loc Cert.ReferenceIdeal.main_arg5) = Cert.KernelIdeal.Even.aCW m c)
    (h6 : m' ((c.tc : Thread Cert.ReferenceIdeal.nD Cert.ReferenceIdeal.τ).loc Cert.ReferenceIdeal.main_arg6) = Cert.KernelIdeal.Even.aWO m c) :
    Cert.ReferenceIdeal.Value.res_main_v131 m' c = Cert.KernelIdeal.Even.res m c := by
  rw [Cert.ReferenceIdeal.Even.res_eq, h0, h1, h2, h3, h4, h5, h6]
  funext i
  rw [eq_ix3 i]
  exact Cert.ReferenceIdeal.Even.all_eq _ _ _ _ (Cert.KernelIdeal.Even.real_x m c h) (Cert.KernelIdeal.Even.real_g m c h) (Cert.KernelIdeal.Even.real_w m c h) (i 0) (i 1) (i 2)

theorem algebraic : Cert.algebraic_KernelIdeal_ReferenceIdeal_pre_finite := by
  intro m g m' g' hp hm
  refine ⟨fun c => Cert.KernelIdeal.Even.res m c, ?_, ?_⟩
  · refine (θ_run Cert.KernelIdeal.defs _ _).mono (fun r h c => ⟨((h.1.1 c).1 4).trans (Cert.KernelIdeal.Even.final m c), h.2.1 c⟩)
      (θ_run_and (Cert.KernelIdeal.Even.run_main m g) (Cert.KernelIdeal.Even.frame m g))
  · refine (θ_run Cert.ReferenceIdeal.defs _ _).mono (fun r h c => ⟨(h c).1.trans (values m m' hp c (hm c).1 (hm c).2.1 (hm c).2.2.1 (hm c).2.2.2.1 (hm c).2.2.2.2.1 (hm c).2.2.2.2.2.1 (hm c).2.2.2.2.2.2), (h c).2⟩)
      (Cert.ReferenceIdeal.Value.run m' g')

theorem claim : Cert.Claim := ⟨Cert.Kernel.Gen.facts, Cert.KernelIdeal.Gen.facts, Cert.ReferenceIdeal.Gen.facts, Cert.Kernel2.Gen.facts, Cert.Kernel2Ideal.Gen.facts, Cert.Pre_finite.Gen.facts,
  fun m g _ => Cert.Kernel.Even.frame m g, fun m g _ => Cert.KernelIdeal.Even.frame m g, fun m g _ => Cert.KernelIdeal.Even.frame m g,
  reference_frame, fun m g _ => reference_frame m g trivial, fun m g _ => Cert.Kernel2.Odd.frame m g, fun m g _ => Cert.Kernel2Ideal.Odd.frame m g,
  trivial, algebraic, trivial⟩

end Cert.Proof

end
